-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_finite_gates [hPre_finite_gates : Cert.Pre_finite_gates.Facts] (m : (ℓ : Loc Cert.InIdeal.nD Cert.InIdeal.τ Cert.InIdeal.sig) → Buf (Elt Ideal) ℓ) : Prop :=
  ∀ c : Dev Cert.InIdeal.nD,
    (Cert.Pre_finite_gates.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))) = (fun _ => 1#1)

def Pre_InRefIdeal (m : (ℓ : Loc Cert.InRefIdeal.nD Cert.InRefIdeal.τ Cert.InRefIdeal.sig) → Buf (Elt Ideal) ℓ) : Prop :=
  True

def Pre_InRefIdeal_finite_gates [hPre_finite_gates : Cert.Pre_finite_gates.Facts] (m : (ℓ : Loc Cert.InRefIdeal.nD Cert.InRefIdeal.τ Cert.InRefIdeal.sig) → Buf (Elt Ideal) ℓ) : Prop :=
  ∀ c : Dev Cert.InRefIdeal.nD,
    (Cert.Pre_finite_gates.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))) = (fun _ => 1#1)

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInIdeal_finite_steps [hPre_finite_steps : Cert.Pre_finite_steps.Facts] (m : (ℓ : Loc Cert.SsdInIdeal.nD Cert.SsdInIdeal.τ Cert.SsdInIdeal.sig) → Buf (Elt Ideal) ℓ) : Prop :=
  ∀ c : Dev Cert.SsdInIdeal.nD,
    (Cert.Pre_finite_steps.fn (F := Ideal) (m ((c.tc : Thread Cert.SsdInIdeal.nD Cert.SsdInIdeal.τ).loc Cert.SsdInIdeal.main_arg0)) (m ((c.tc : Thread Cert.SsdInIdeal.nD Cert.SsdInIdeal.τ).loc Cert.SsdInIdeal.main_arg1)) (m ((c.tc : Thread Cert.SsdInIdeal.nD Cert.SsdInIdeal.τ).loc Cert.SsdInIdeal.main_arg2)) (m ((c.tc : Thread Cert.SsdInIdeal.nD Cert.SsdInIdeal.τ).loc Cert.SsdInIdeal.main_arg3)) (m ((c.tc : Thread Cert.SsdInIdeal.nD Cert.SsdInIdeal.τ).loc Cert.SsdInIdeal.main_arg4)) (m ((c.tc : Thread Cert.SsdInIdeal.nD Cert.SsdInIdeal.τ).loc Cert.SsdInIdeal.main_arg5))) = (fun _ => 1#1)

def Pre_SsdInRefIdeal (m : (ℓ : Loc Cert.SsdInRefIdeal.nD Cert.SsdInRefIdeal.τ Cert.SsdInRefIdeal.sig) → Buf (Elt Ideal) ℓ) : Prop :=
  True

def Pre_SsdInRefIdeal_finite_steps [hPre_finite_steps : Cert.Pre_finite_steps.Facts] (m : (ℓ : Loc Cert.SsdInRefIdeal.nD Cert.SsdInRefIdeal.τ Cert.SsdInRefIdeal.sig) → Buf (Elt Ideal) ℓ) : Prop :=
  ∀ c : Dev Cert.SsdInRefIdeal.nD,
    (Cert.Pre_finite_steps.fn (F := Ideal) (m ((c.tc : Thread Cert.SsdInRefIdeal.nD Cert.SsdInRefIdeal.τ).loc Cert.SsdInRefIdeal.main_arg0)) (m ((c.tc : Thread Cert.SsdInRefIdeal.nD Cert.SsdInRefIdeal.τ).loc Cert.SsdInRefIdeal.main_arg1)) (m ((c.tc : Thread Cert.SsdInRefIdeal.nD Cert.SsdInRefIdeal.τ).loc Cert.SsdInRefIdeal.main_arg2)) (m ((c.tc : Thread Cert.SsdInRefIdeal.nD Cert.SsdInRefIdeal.τ).loc Cert.SsdInRefIdeal.main_arg3)) (m ((c.tc : Thread Cert.SsdInRefIdeal.nD Cert.SsdInRefIdeal.τ).loc Cert.SsdInRefIdeal.main_arg4)) (m ((c.tc : Thread Cert.SsdInRefIdeal.nD Cert.SsdInRefIdeal.τ).loc Cert.SsdInRefIdeal.main_arg5))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutRefIdeal (m : (ℓ : Loc Cert.SsdOutRefIdeal.nD Cert.SsdOutRefIdeal.τ Cert.SsdOutRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InIdeal_pre_finite_gates [hInIdeal : Cert.InIdeal.Facts] [hPre_finite_gates : Cert.Pre_finite_gates.Facts] : Prop :=
  ∀ (m : (ℓ : Loc Cert.InIdeal.nD Cert.InIdeal.τ Cert.InIdeal.sig) → Buf (Elt Ideal) ℓ) (g : Dev Cert.InIdeal.nD → PrngReg), Pre_InIdeal_finite_gates m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_InRefIdeal_pre_finite_gates [hInRefIdeal : Cert.InRefIdeal.Facts] [hPre_finite_gates : Cert.Pre_finite_gates.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite_gates m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1)
      ∧ r.2.mem ((c.tc : Thread Cert.SsdIn.nD Cert.SsdIn.τ).loc Cert.SsdIn.main_arg2) = m ((c.tc : Thread Cert.SsdIn.nD Cert.SsdIn.τ).loc Cert.SsdIn.main_arg2)
      ∧ r.2.mem ((c.tc : Thread Cert.SsdIn.nD Cert.SsdIn.τ).loc Cert.SsdIn.main_arg3) = m ((c.tc : Thread Cert.SsdIn.nD Cert.SsdIn.τ).loc Cert.SsdIn.main_arg3)
      ∧ r.2.mem ((c.tc : Thread Cert.SsdIn.nD Cert.SsdIn.τ).loc Cert.SsdIn.main_arg4) = m ((c.tc : Thread Cert.SsdIn.nD Cert.SsdIn.τ).loc Cert.SsdIn.main_arg4)
      ∧ r.2.mem ((c.tc : Thread Cert.SsdIn.nD Cert.SsdIn.τ).loc Cert.SsdIn.main_arg5) = m ((c.tc : Thread Cert.SsdIn.nD Cert.SsdIn.τ).loc Cert.SsdIn.main_arg5))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
      ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2)
      ∧ r.2.mem ((c.tc : Thread Cert.SsdInIdeal.nD Cert.SsdInIdeal.τ).loc Cert.SsdInIdeal.main_arg3) = m ((c.tc : Thread Cert.SsdInIdeal.nD Cert.SsdInIdeal.τ).loc Cert.SsdInIdeal.main_arg3)
      ∧ r.2.mem ((c.tc : Thread Cert.SsdInIdeal.nD Cert.SsdInIdeal.τ).loc Cert.SsdInIdeal.main_arg4) = m ((c.tc : Thread Cert.SsdInIdeal.nD Cert.SsdInIdeal.τ).loc Cert.SsdInIdeal.main_arg4)
      ∧ r.2.mem ((c.tc : Thread Cert.SsdInIdeal.nD Cert.SsdInIdeal.τ).loc Cert.SsdInIdeal.main_arg5) = m ((c.tc : Thread Cert.SsdInIdeal.nD Cert.SsdInIdeal.τ).loc Cert.SsdInIdeal.main_arg5))
      ∧ r.2.sem = fun _ => 0)

def quiescent_SsdInIdeal_pre_finite_steps [hSsdInIdeal : Cert.SsdInIdeal.Facts] [hPre_finite_steps : Cert.Pre_finite_steps.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal_finite_steps m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
      ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2)
      ∧ r.2.mem ((c.tc : Thread Cert.SsdInIdeal.nD Cert.SsdInIdeal.τ).loc Cert.SsdInIdeal.main_arg3) = m ((c.tc : Thread Cert.SsdInIdeal.nD Cert.SsdInIdeal.τ).loc Cert.SsdInIdeal.main_arg3)
      ∧ r.2.mem ((c.tc : Thread Cert.SsdInIdeal.nD Cert.SsdInIdeal.τ).loc Cert.SsdInIdeal.main_arg4) = m ((c.tc : Thread Cert.SsdInIdeal.nD Cert.SsdInIdeal.τ).loc Cert.SsdInIdeal.main_arg4)
      ∧ r.2.mem ((c.tc : Thread Cert.SsdInIdeal.nD Cert.SsdInIdeal.τ).loc Cert.SsdInIdeal.main_arg5) = m ((c.tc : Thread Cert.SsdInIdeal.nD Cert.SsdInIdeal.τ).loc Cert.SsdInIdeal.main_arg5))
      ∧ r.2.sem = fun _ => 0)

def quiescent_SsdInRefIdeal [hSsdInRefIdeal : Cert.SsdInRefIdeal.Facts] : Prop :=
  ∀ (m : (ℓ : Loc Cert.SsdInRefIdeal.nD Cert.SsdInRefIdeal.τ Cert.SsdInRefIdeal.sig) → Buf (Elt Ideal) ℓ) (g : Dev Cert.SsdInRefIdeal.nD → PrngReg), Pre_SsdInRefIdeal m →
    θ_run (Cert.SsdInRefIdeal.defs (F := Ideal)) (onTc (τ := Cert.SsdInRefIdeal.τ) (Cert.SsdInRefIdeal.main (F := Ideal))) ⟨m, fun _ => 0, g⟩ (fun r => (∀ c : Dev Cert.SsdInRefIdeal.nD,
      r.2.mem ((c.tc : Thread Cert.SsdInRefIdeal.nD Cert.SsdInRefIdeal.τ).loc Cert.SsdInRefIdeal.main_arg0) = m ((c.tc : Thread Cert.SsdInRefIdeal.nD Cert.SsdInRefIdeal.τ).loc Cert.SsdInRefIdeal.main_arg0)
      ∧ r.2.mem ((c.tc : Thread Cert.SsdInRefIdeal.nD Cert.SsdInRefIdeal.τ).loc Cert.SsdInRefIdeal.main_arg1) = m ((c.tc : Thread Cert.SsdInRefIdeal.nD Cert.SsdInRefIdeal.τ).loc Cert.SsdInRefIdeal.main_arg1)
      ∧ r.2.mem ((c.tc : Thread Cert.SsdInRefIdeal.nD Cert.SsdInRefIdeal.τ).loc Cert.SsdInRefIdeal.main_arg2) = m ((c.tc : Thread Cert.SsdInRefIdeal.nD Cert.SsdInRefIdeal.τ).loc Cert.SsdInRefIdeal.main_arg2)
      ∧ r.2.mem ((c.tc : Thread Cert.SsdInRefIdeal.nD Cert.SsdInRefIdeal.τ).loc Cert.SsdInRefIdeal.main_arg3) = m ((c.tc : Thread Cert.SsdInRefIdeal.nD Cert.SsdInRefIdeal.τ).loc Cert.SsdInRefIdeal.main_arg3)
      ∧ r.2.mem ((c.tc : Thread Cert.SsdInRefIdeal.nD Cert.SsdInRefIdeal.τ).loc Cert.SsdInRefIdeal.main_arg4) = m ((c.tc : Thread Cert.SsdInRefIdeal.nD Cert.SsdInRefIdeal.τ).loc Cert.SsdInRefIdeal.main_arg4)
      ∧ r.2.mem ((c.tc : Thread Cert.SsdInRefIdeal.nD Cert.SsdInRefIdeal.τ).loc Cert.SsdInRefIdeal.main_arg5) = m ((c.tc : Thread Cert.SsdInRefIdeal.nD Cert.SsdInRefIdeal.τ).loc Cert.SsdInRefIdeal.main_arg5))
      ∧ r.2.sem = fun _ => 0)

def quiescent_SsdInRefIdeal_pre_finite_steps [hSsdInRefIdeal : Cert.SsdInRefIdeal.Facts] [hPre_finite_steps : Cert.Pre_finite_steps.Facts] : Prop :=
  ∀ (m : (ℓ : Loc Cert.SsdInRefIdeal.nD Cert.SsdInRefIdeal.τ Cert.SsdInRefIdeal.sig) → Buf (Elt Ideal) ℓ) (g : Dev Cert.SsdInRefIdeal.nD → PrngReg), Pre_SsdInRefIdeal_finite_steps m →
    θ_run (Cert.SsdInRefIdeal.defs (F := Ideal)) (onTc (τ := Cert.SsdInRefIdeal.τ) (Cert.SsdInRefIdeal.main (F := Ideal))) ⟨m, fun _ => 0, g⟩ (fun r => (∀ c : Dev Cert.SsdInRefIdeal.nD,
      r.2.mem ((c.tc : Thread Cert.SsdInRefIdeal.nD Cert.SsdInRefIdeal.τ).loc Cert.SsdInRefIdeal.main_arg0) = m ((c.tc : Thread Cert.SsdInRefIdeal.nD Cert.SsdInRefIdeal.τ).loc Cert.SsdInRefIdeal.main_arg0)
      ∧ r.2.mem ((c.tc : Thread Cert.SsdInRefIdeal.nD Cert.SsdInRefIdeal.τ).loc Cert.SsdInRefIdeal.main_arg1) = m ((c.tc : Thread Cert.SsdInRefIdeal.nD Cert.SsdInRefIdeal.τ).loc Cert.SsdInRefIdeal.main_arg1)
      ∧ r.2.mem ((c.tc : Thread Cert.SsdInRefIdeal.nD Cert.SsdInRefIdeal.τ).loc Cert.SsdInRefIdeal.main_arg2) = m ((c.tc : Thread Cert.SsdInRefIdeal.nD Cert.SsdInRefIdeal.τ).loc Cert.SsdInRefIdeal.main_arg2)
      ∧ r.2.mem ((c.tc : Thread Cert.SsdInRefIdeal.nD Cert.SsdInRefIdeal.τ).loc Cert.SsdInRefIdeal.main_arg3) = m ((c.tc : Thread Cert.SsdInRefIdeal.nD Cert.SsdInRefIdeal.τ).loc Cert.SsdInRefIdeal.main_arg3)
      ∧ r.2.mem ((c.tc : Thread Cert.SsdInRefIdeal.nD Cert.SsdInRefIdeal.τ).loc Cert.SsdInRefIdeal.main_arg4) = m ((c.tc : Thread Cert.SsdInRefIdeal.nD Cert.SsdInRefIdeal.τ).loc Cert.SsdInRefIdeal.main_arg4)
      ∧ r.2.mem ((c.tc : Thread Cert.SsdInRefIdeal.nD Cert.SsdInRefIdeal.τ).loc Cert.SsdInRefIdeal.main_arg5) = m ((c.tc : Thread Cert.SsdInRefIdeal.nD Cert.SsdInRefIdeal.τ).loc Cert.SsdInRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2)
      ∧ r.2.mem ((c.tc : Thread Cert.SsdOut.nD Cert.SsdOut.τ).loc Cert.SsdOut.main_arg3) = m ((c.tc : Thread Cert.SsdOut.nD Cert.SsdOut.τ).loc Cert.SsdOut.main_arg3)
      ∧ r.2.mem ((c.tc : Thread Cert.SsdOut.nD Cert.SsdOut.τ).loc Cert.SsdOut.main_arg4) = m ((c.tc : Thread Cert.SsdOut.nD Cert.SsdOut.τ).loc Cert.SsdOut.main_arg4)
      ∧ r.2.mem ((c.tc : Thread Cert.SsdOut.nD Cert.SsdOut.τ).loc Cert.SsdOut.main_arg5) = m ((c.tc : Thread Cert.SsdOut.nD Cert.SsdOut.τ).loc Cert.SsdOut.main_arg5)
      ∧ r.2.mem ((c.tc : Thread Cert.SsdOut.nD Cert.SsdOut.τ).loc Cert.SsdOut.main_arg6) = m ((c.tc : Thread Cert.SsdOut.nD Cert.SsdOut.τ).loc Cert.SsdOut.main_arg6))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
      ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
      ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4)
      ∧ r.2.mem ((c.tc : Thread Cert.SsdOutIdeal.nD Cert.SsdOutIdeal.τ).loc Cert.SsdOutIdeal.main_arg5) = m ((c.tc : Thread Cert.SsdOutIdeal.nD Cert.SsdOutIdeal.τ).loc Cert.SsdOutIdeal.main_arg5)
      ∧ r.2.mem ((c.tc : Thread Cert.SsdOutIdeal.nD Cert.SsdOutIdeal.τ).loc Cert.SsdOutIdeal.main_arg6) = m ((c.tc : Thread Cert.SsdOutIdeal.nD Cert.SsdOutIdeal.τ).loc Cert.SsdOutIdeal.main_arg6))
      ∧ r.2.sem = fun _ => 0)

def quiescent_SsdOutRefIdeal [hSsdOutRefIdeal : Cert.SsdOutRefIdeal.Facts] : Prop :=
  ∀ (m : (ℓ : Loc Cert.SsdOutRefIdeal.nD Cert.SsdOutRefIdeal.τ Cert.SsdOutRefIdeal.sig) → Buf (Elt Ideal) ℓ) (g : Dev Cert.SsdOutRefIdeal.nD → PrngReg), Pre_SsdOutRefIdeal m →
    θ_run (Cert.SsdOutRefIdeal.defs (F := Ideal)) (onTc (τ := Cert.SsdOutRefIdeal.τ) (Cert.SsdOutRefIdeal.main (F := Ideal))) ⟨m, fun _ => 0, g⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1)
      ∧ r.2.mem ((c.tc : Thread Cert.SsdOutRefIdeal.nD Cert.SsdOutRefIdeal.τ).loc Cert.SsdOutRefIdeal.main_arg2) = m ((c.tc : Thread Cert.SsdOutRefIdeal.nD Cert.SsdOutRefIdeal.τ).loc Cert.SsdOutRefIdeal.main_arg2)
      ∧ r.2.mem ((c.tc : Thread Cert.SsdOutRefIdeal.nD Cert.SsdOutRefIdeal.τ).loc Cert.SsdOutRefIdeal.main_arg3) = m ((c.tc : Thread Cert.SsdOutRefIdeal.nD Cert.SsdOutRefIdeal.τ).loc Cert.SsdOutRefIdeal.main_arg3)
      ∧ r.2.mem ((c.tc : Thread Cert.SsdOutRefIdeal.nD Cert.SsdOutRefIdeal.τ).loc Cert.SsdOutRefIdeal.main_arg4) = m ((c.tc : Thread Cert.SsdOutRefIdeal.nD Cert.SsdOutRefIdeal.τ).loc Cert.SsdOutRefIdeal.main_arg4)
      ∧ r.2.mem ((c.tc : Thread Cert.SsdOutRefIdeal.nD Cert.SsdOutRefIdeal.τ).loc Cert.SsdOutRefIdeal.main_arg5) = m ((c.tc : Thread Cert.SsdOutRefIdeal.nD Cert.SsdOutRefIdeal.τ).loc Cert.SsdOutRefIdeal.main_arg5)
      ∧ r.2.mem ((c.tc : Thread Cert.SsdOutRefIdeal.nD Cert.SsdOutRefIdeal.τ).loc Cert.SsdOutRefIdeal.main_arg6) = m ((c.tc : Thread Cert.SsdOutRefIdeal.nD Cert.SsdOutRefIdeal.τ).loc Cert.SsdOutRefIdeal.main_arg6))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v11) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_In_InIdeal : Prop :=
  True

def algebraic_InIdeal_InRefIdeal_pre_finite_gates [hInIdeal : Cert.InIdeal.Facts] [hInRefIdeal : Cert.InRefIdeal.Facts] [hPre_finite_gates : Cert.Pre_finite_gates.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_finite_gates m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)) →
    ∃ (v0 : (c : Dev Cert.InIdeal.nD) → Buf (Elt Ideal) ((c.tc : Thread Cert.InIdeal.nD Cert.InIdeal.τ).loc Cert.InIdeal.main_v8_0)) (v1 : (c : Dev Cert.InIdeal.nD) → Buf (Elt Ideal) ((c.tc : Thread Cert.InIdeal.nD Cert.InIdeal.τ).loc Cert.InIdeal.main_v8_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v8_0) = v0 c
          ∧ r.2.mem ((c.tc : Thread Cert.InIdeal.nD Cert.InIdeal.τ).loc Cert.InIdeal.main_v8_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v24) = v0 c
          ∧ r.2.mem ((c.tc : Thread Cert.InRefIdeal.nD Cert.InRefIdeal.τ).loc Cert.InRefIdeal.main_v25) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5))

def preserves_SsdIn_SsdInIdeal : Prop :=
  True

def algebraic_SsdInIdeal_SsdInRefIdeal_pre_finite_steps [hSsdInIdeal : Cert.SsdInIdeal.Facts] [hSsdInRefIdeal : Cert.SsdInRefIdeal.Facts] [hPre_finite_steps : Cert.Pre_finite_steps.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInRefIdeal.nD Cert.SsdInRefIdeal.τ Cert.SsdInRefIdeal.sig) → Buf (Elt Ideal) ℓ) (g' : Dev Cert.SsdInRefIdeal.nD → PrngReg), Pre_SsdInIdeal_finite_steps m →
    (∀ c : Dev Cert.SsdInIdeal.nD,
      m' ((c.tc : Thread Cert.SsdInRefIdeal.nD Cert.SsdInRefIdeal.τ).loc Cert.SsdInRefIdeal.main_arg0) = m ((c.tc : Thread Cert.SsdInIdeal.nD Cert.SsdInIdeal.τ).loc Cert.SsdInIdeal.main_arg0)
      ∧ m' ((c.tc : Thread Cert.SsdInRefIdeal.nD Cert.SsdInRefIdeal.τ).loc Cert.SsdInRefIdeal.main_arg1) = m ((c.tc : Thread Cert.SsdInIdeal.nD Cert.SsdInIdeal.τ).loc Cert.SsdInIdeal.main_arg1)
      ∧ m' ((c.tc : Thread Cert.SsdInRefIdeal.nD Cert.SsdInRefIdeal.τ).loc Cert.SsdInRefIdeal.main_arg2) = m ((c.tc : Thread Cert.SsdInIdeal.nD Cert.SsdInIdeal.τ).loc Cert.SsdInIdeal.main_arg2)
      ∧ m' ((c.tc : Thread Cert.SsdInRefIdeal.nD Cert.SsdInRefIdeal.τ).loc Cert.SsdInRefIdeal.main_arg3) = m ((c.tc : Thread Cert.SsdInIdeal.nD Cert.SsdInIdeal.τ).loc Cert.SsdInIdeal.main_arg3)
      ∧ m' ((c.tc : Thread Cert.SsdInRefIdeal.nD Cert.SsdInRefIdeal.τ).loc Cert.SsdInRefIdeal.main_arg4) = m ((c.tc : Thread Cert.SsdInIdeal.nD Cert.SsdInIdeal.τ).loc Cert.SsdInIdeal.main_arg4)
      ∧ m' ((c.tc : Thread Cert.SsdInRefIdeal.nD Cert.SsdInRefIdeal.τ).loc Cert.SsdInRefIdeal.main_arg5) = m ((c.tc : Thread Cert.SsdInIdeal.nD Cert.SsdInIdeal.τ).loc Cert.SsdInIdeal.main_arg5)) →
    ∃ (v0 : (c : Dev Cert.SsdInIdeal.nD) → Buf (Elt Ideal) ((c.tc : Thread Cert.SsdInIdeal.nD Cert.SsdInIdeal.τ).loc Cert.SsdInIdeal.main_v7_0)) (v1 : (c : Dev Cert.SsdInIdeal.nD) → Buf (Elt Ideal) ((c.tc : Thread Cert.SsdInIdeal.nD Cert.SsdInIdeal.τ).loc Cert.SsdInIdeal.main_v7_1)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v7_0) = v0 c
          ∧ r.2.mem ((c.tc : Thread Cert.SsdInIdeal.nD Cert.SsdInIdeal.τ).loc Cert.SsdInIdeal.main_v7_1) = v1 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
          ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2)
          ∧ r.2.mem ((c.tc : Thread Cert.SsdInIdeal.nD Cert.SsdInIdeal.τ).loc Cert.SsdInIdeal.main_arg3) = m ((c.tc : Thread Cert.SsdInIdeal.nD Cert.SsdInIdeal.τ).loc Cert.SsdInIdeal.main_arg3)
          ∧ r.2.mem ((c.tc : Thread Cert.SsdInIdeal.nD Cert.SsdInIdeal.τ).loc Cert.SsdInIdeal.main_arg4) = m ((c.tc : Thread Cert.SsdInIdeal.nD Cert.SsdInIdeal.τ).loc Cert.SsdInIdeal.main_arg4)
          ∧ r.2.mem ((c.tc : Thread Cert.SsdInIdeal.nD Cert.SsdInIdeal.τ).loc Cert.SsdInIdeal.main_arg5) = m ((c.tc : Thread Cert.SsdInIdeal.nD Cert.SsdInIdeal.τ).loc Cert.SsdInIdeal.main_arg5))
      ∧ θ_run (Cert.SsdInRefIdeal.defs (F := Ideal)) (onTc (τ := Cert.SsdInRefIdeal.τ) (Cert.SsdInRefIdeal.main (F := Ideal))) ⟨m', fun _ => 0, g'⟩ (fun r => ∀ c : Dev Cert.SsdInRefIdeal.nD,
          r.2.mem ((c.tc : Thread Cert.SsdInRefIdeal.nD Cert.SsdInRefIdeal.τ).loc Cert.SsdInRefIdeal.main_v20) = v0 c
          ∧ r.2.mem ((c.tc : Thread Cert.SsdInRefIdeal.nD Cert.SsdInRefIdeal.τ).loc Cert.SsdInRefIdeal.main_v24) = v1 c
          ∧ r.2.mem ((c.tc : Thread Cert.SsdInRefIdeal.nD Cert.SsdInRefIdeal.τ).loc Cert.SsdInRefIdeal.main_arg0) = m' ((c.tc : Thread Cert.SsdInRefIdeal.nD Cert.SsdInRefIdeal.τ).loc Cert.SsdInRefIdeal.main_arg0)
          ∧ r.2.mem ((c.tc : Thread Cert.SsdInRefIdeal.nD Cert.SsdInRefIdeal.τ).loc Cert.SsdInRefIdeal.main_arg1) = m' ((c.tc : Thread Cert.SsdInRefIdeal.nD Cert.SsdInRefIdeal.τ).loc Cert.SsdInRefIdeal.main_arg1)
          ∧ r.2.mem ((c.tc : Thread Cert.SsdInRefIdeal.nD Cert.SsdInRefIdeal.τ).loc Cert.SsdInRefIdeal.main_arg2) = m' ((c.tc : Thread Cert.SsdInRefIdeal.nD Cert.SsdInRefIdeal.τ).loc Cert.SsdInRefIdeal.main_arg2)
          ∧ r.2.mem ((c.tc : Thread Cert.SsdInRefIdeal.nD Cert.SsdInRefIdeal.τ).loc Cert.SsdInRefIdeal.main_arg3) = m' ((c.tc : Thread Cert.SsdInRefIdeal.nD Cert.SsdInRefIdeal.τ).loc Cert.SsdInRefIdeal.main_arg3)
          ∧ r.2.mem ((c.tc : Thread Cert.SsdInRefIdeal.nD Cert.SsdInRefIdeal.τ).loc Cert.SsdInRefIdeal.main_arg4) = m' ((c.tc : Thread Cert.SsdInRefIdeal.nD Cert.SsdInRefIdeal.τ).loc Cert.SsdInRefIdeal.main_arg4)
          ∧ r.2.mem ((c.tc : Thread Cert.SsdInRefIdeal.nD Cert.SsdInRefIdeal.τ).loc Cert.SsdInRefIdeal.main_arg5) = m' ((c.tc : Thread Cert.SsdInRefIdeal.nD Cert.SsdInRefIdeal.τ).loc Cert.SsdInRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v4_0)) (v1 : (c : Dev Cert.OutIdeal.nD) → Buf (Elt Ideal) ((c.tc : Thread Cert.OutIdeal.nD Cert.OutIdeal.τ).loc Cert.OutIdeal.main_v4_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4_0) = v0 c
          ∧ r.2.mem ((c.tc : Thread Cert.OutIdeal.nD Cert.OutIdeal.τ).loc Cert.OutIdeal.main_v4_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_v24) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_SsdOut_SsdOutIdeal : Prop :=
  True

def algebraic_SsdOutIdeal_SsdOutRefIdeal [hSsdOutIdeal : Cert.SsdOutIdeal.Facts] [hSsdOutRefIdeal : Cert.SsdOutRefIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutRefIdeal.nD Cert.SsdOutRefIdeal.τ Cert.SsdOutRefIdeal.sig) → Buf (Elt Ideal) ℓ) (g' : Dev Cert.SsdOutRefIdeal.nD → PrngReg), Pre_SsdOutIdeal m →
    (∀ c : Dev Cert.SsdOutIdeal.nD,
      m' ((c.tc : Thread Cert.SsdOutRefIdeal.nD Cert.SsdOutRefIdeal.τ).loc Cert.SsdOutRefIdeal.main_arg0) = m ((c.tc : Thread Cert.SsdOutIdeal.nD Cert.SsdOutIdeal.τ).loc Cert.SsdOutIdeal.main_arg0)
      ∧ m' ((c.tc : Thread Cert.SsdOutRefIdeal.nD Cert.SsdOutRefIdeal.τ).loc Cert.SsdOutRefIdeal.main_arg1) = m ((c.tc : Thread Cert.SsdOutIdeal.nD Cert.SsdOutIdeal.τ).loc Cert.SsdOutIdeal.main_arg1)
      ∧ m' ((c.tc : Thread Cert.SsdOutRefIdeal.nD Cert.SsdOutRefIdeal.τ).loc Cert.SsdOutRefIdeal.main_arg2) = m ((c.tc : Thread Cert.SsdOutIdeal.nD Cert.SsdOutIdeal.τ).loc Cert.SsdOutIdeal.main_arg2)
      ∧ m' ((c.tc : Thread Cert.SsdOutRefIdeal.nD Cert.SsdOutRefIdeal.τ).loc Cert.SsdOutRefIdeal.main_arg3) = m ((c.tc : Thread Cert.SsdOutIdeal.nD Cert.SsdOutIdeal.τ).loc Cert.SsdOutIdeal.main_arg3)
      ∧ m' ((c.tc : Thread Cert.SsdOutRefIdeal.nD Cert.SsdOutRefIdeal.τ).loc Cert.SsdOutRefIdeal.main_arg4) = m ((c.tc : Thread Cert.SsdOutIdeal.nD Cert.SsdOutIdeal.τ).loc Cert.SsdOutIdeal.main_arg4)
      ∧ m' ((c.tc : Thread Cert.SsdOutRefIdeal.nD Cert.SsdOutRefIdeal.τ).loc Cert.SsdOutRefIdeal.main_arg5) = m ((c.tc : Thread Cert.SsdOutIdeal.nD Cert.SsdOutIdeal.τ).loc Cert.SsdOutIdeal.main_arg5)
      ∧ m' ((c.tc : Thread Cert.SsdOutRefIdeal.nD Cert.SsdOutRefIdeal.τ).loc Cert.SsdOutRefIdeal.main_arg6) = m ((c.tc : Thread Cert.SsdOutIdeal.nD Cert.SsdOutIdeal.τ).loc Cert.SsdOutIdeal.main_arg6)) →
    ∃ (v0 : (c : Dev Cert.SsdOutIdeal.nD) → Buf (Elt Ideal) ((c.tc : Thread Cert.SsdOutIdeal.nD Cert.SsdOutIdeal.τ).loc Cert.SsdOutIdeal.main_v1_0)) (v1 : (c : Dev Cert.SsdOutIdeal.nD) → Buf (Elt Ideal) ((c.tc : Thread Cert.SsdOutIdeal.nD Cert.SsdOutIdeal.τ).loc Cert.SsdOutIdeal.main_v1_1)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v1_0) = v0 c
          ∧ r.2.mem ((c.tc : Thread Cert.SsdOutIdeal.nD Cert.SsdOutIdeal.τ).loc Cert.SsdOutIdeal.main_v1_1) = v1 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
          ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
          ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4)
          ∧ r.2.mem ((c.tc : Thread Cert.SsdOutIdeal.nD Cert.SsdOutIdeal.τ).loc Cert.SsdOutIdeal.main_arg5) = m ((c.tc : Thread Cert.SsdOutIdeal.nD Cert.SsdOutIdeal.τ).loc Cert.SsdOutIdeal.main_arg5)
          ∧ r.2.mem ((c.tc : Thread Cert.SsdOutIdeal.nD Cert.SsdOutIdeal.τ).loc Cert.SsdOutIdeal.main_arg6) = m ((c.tc : Thread Cert.SsdOutIdeal.nD Cert.SsdOutIdeal.τ).loc Cert.SsdOutIdeal.main_arg6))
      ∧ θ_run (Cert.SsdOutRefIdeal.defs (F := Ideal)) (onTc (τ := Cert.SsdOutRefIdeal.τ) (Cert.SsdOutRefIdeal.main (F := Ideal))) ⟨m', fun _ => 0, g'⟩ (fun r => ∀ c : Dev Cert.SsdOutRefIdeal.nD,
          r.2.mem ((c.tc : Thread Cert.SsdOutRefIdeal.nD Cert.SsdOutRefIdeal.τ).loc Cert.SsdOutRefIdeal.main_v4) = v0 c
          ∧ r.2.mem ((c.tc : Thread Cert.SsdOutRefIdeal.nD Cert.SsdOutRefIdeal.τ).loc Cert.SsdOutRefIdeal.main_v23) = v1 c
          ∧ r.2.mem ((c.tc : Thread Cert.SsdOutRefIdeal.nD Cert.SsdOutRefIdeal.τ).loc Cert.SsdOutRefIdeal.main_arg0) = m' ((c.tc : Thread Cert.SsdOutRefIdeal.nD Cert.SsdOutRefIdeal.τ).loc Cert.SsdOutRefIdeal.main_arg0)
          ∧ r.2.mem ((c.tc : Thread Cert.SsdOutRefIdeal.nD Cert.SsdOutRefIdeal.τ).loc Cert.SsdOutRefIdeal.main_arg1) = m' ((c.tc : Thread Cert.SsdOutRefIdeal.nD Cert.SsdOutRefIdeal.τ).loc Cert.SsdOutRefIdeal.main_arg1)
          ∧ r.2.mem ((c.tc : Thread Cert.SsdOutRefIdeal.nD Cert.SsdOutRefIdeal.τ).loc Cert.SsdOutRefIdeal.main_arg2) = m' ((c.tc : Thread Cert.SsdOutRefIdeal.nD Cert.SsdOutRefIdeal.τ).loc Cert.SsdOutRefIdeal.main_arg2)
          ∧ r.2.mem ((c.tc : Thread Cert.SsdOutRefIdeal.nD Cert.SsdOutRefIdeal.τ).loc Cert.SsdOutRefIdeal.main_arg3) = m' ((c.tc : Thread Cert.SsdOutRefIdeal.nD Cert.SsdOutRefIdeal.τ).loc Cert.SsdOutRefIdeal.main_arg3)
          ∧ r.2.mem ((c.tc : Thread Cert.SsdOutRefIdeal.nD Cert.SsdOutRefIdeal.τ).loc Cert.SsdOutRefIdeal.main_arg4) = m' ((c.tc : Thread Cert.SsdOutRefIdeal.nD Cert.SsdOutRefIdeal.τ).loc Cert.SsdOutRefIdeal.main_arg4)
          ∧ r.2.mem ((c.tc : Thread Cert.SsdOutRefIdeal.nD Cert.SsdOutRefIdeal.τ).loc Cert.SsdOutRefIdeal.main_arg5) = m' ((c.tc : Thread Cert.SsdOutRefIdeal.nD Cert.SsdOutRefIdeal.τ).loc Cert.SsdOutRefIdeal.main_arg5)
          ∧ r.2.mem ((c.tc : Thread Cert.SsdOutRefIdeal.nD Cert.SsdOutRefIdeal.τ).loc Cert.SsdOutRefIdeal.main_arg6) = m' ((c.tc : Thread Cert.SsdOutRefIdeal.nD Cert.SsdOutRefIdeal.τ).loc Cert.SsdOutRefIdeal.main_arg6))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v2) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v18) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) →
    ∃ (v0 : (c : Dev Cert.TailIdeal.nD) → Buf (Elt Ideal) ((c.tc : Thread Cert.TailIdeal.nD Cert.TailIdeal.τ).loc Cert.TailIdeal.main_v4)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v4) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v33) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hIn : Cert.In.Facts) (hInIdeal : Cert.InIdeal.Facts) (hInRefIdeal : Cert.InRefIdeal.Facts) (hSsdIn : Cert.SsdIn.Facts) (hSsdInIdeal : Cert.SsdInIdeal.Facts) (hSsdInRefIdeal : Cert.SsdInRefIdeal.Facts) (hOut : Cert.Out.Facts) (hOutIdeal : Cert.OutIdeal.Facts) (hOutRefIdeal : Cert.OutRefIdeal.Facts) (hSsdOut : Cert.SsdOut.Facts) (hSsdOutIdeal : Cert.SsdOutIdeal.Facts) (hSsdOutRefIdeal : Cert.SsdOutRefIdeal.Facts) (hMod : Cert.Mod.Facts) (hModIdeal : Cert.ModIdeal.Facts) (hModRefIdeal : Cert.ModRefIdeal.Facts) (hTail : Cert.Tail.Facts) (hTailIdeal : Cert.TailIdeal.Facts) (hTailRefIdeal : Cert.TailRefIdeal.Facts) (hPre_finite_weights : Cert.Pre_finite_weights.Facts) (hPre_finite_gates : Cert.Pre_finite_gates.Facts) (hPre_finite_steps : Cert.Pre_finite_steps.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ quiescent_Mlp (hMlp := hMlp)
    ∧ quiescent_MlpIdeal (hMlpIdeal := hMlpIdeal)
    ∧ quiescent_MlpRefIdeal (hMlpRefIdeal := hMlpRefIdeal)
    ∧ quiescent_In (hIn := hIn)
    ∧ quiescent_InIdeal (hInIdeal := hInIdeal)
    ∧ quiescent_InIdeal_pre_finite_gates (hInIdeal := hInIdeal) (hPre_finite_gates := hPre_finite_gates)
    ∧ quiescent_InRefIdeal (hInRefIdeal := hInRefIdeal)
    ∧ quiescent_InRefIdeal_pre_finite_gates (hInRefIdeal := hInRefIdeal) (hPre_finite_gates := hPre_finite_gates)
    ∧ quiescent_SsdIn (hSsdIn := hSsdIn)
    ∧ quiescent_SsdInIdeal (hSsdInIdeal := hSsdInIdeal)
    ∧ quiescent_SsdInIdeal_pre_finite_steps (hSsdInIdeal := hSsdInIdeal) (hPre_finite_steps := hPre_finite_steps)
    ∧ quiescent_SsdInRefIdeal (hSsdInRefIdeal := hSsdInRefIdeal)
    ∧ quiescent_SsdInRefIdeal_pre_finite_steps (hSsdInRefIdeal := hSsdInRefIdeal) (hPre_finite_steps := hPre_finite_steps)
    ∧ quiescent_Out (hOut := hOut)
    ∧ quiescent_OutIdeal (hOutIdeal := hOutIdeal)
    ∧ quiescent_OutRefIdeal (hOutRefIdeal := hOutRefIdeal)
    ∧ quiescent_SsdOut (hSsdOut := hSsdOut)
    ∧ quiescent_SsdOutIdeal (hSsdOutIdeal := hSsdOutIdeal)
    ∧ quiescent_SsdOutRefIdeal (hSsdOutRefIdeal := hSsdOutRefIdeal)
    ∧ quiescent_Mod (hMod := hMod)
    ∧ quiescent_ModIdeal (hModIdeal := hModIdeal)
    ∧ quiescent_ModRefIdeal (hModRefIdeal := hModRefIdeal)
    ∧ quiescent_Tail (hTail := hTail)
    ∧ quiescent_TailIdeal (hTailIdeal := hTailIdeal)
    ∧ quiescent_TailRefIdeal (hTailRefIdeal := hTailRefIdeal)
    ∧ preserves_Kernel_KernelIdeal
    ∧ algebraic_KernelIdeal_ReferenceIdeal_pre_finite_weights (hKernelIdeal := hKernelIdeal) (hReferenceIdeal := hReferenceIdeal) (hPre_finite_weights := hPre_finite_weights)
    ∧ preserves_Mlp_MlpIdeal
    ∧ algebraic_MlpIdeal_MlpRefIdeal (hMlpIdeal := hMlpIdeal) (hMlpRefIdeal := hMlpRefIdeal)
    ∧ preserves_In_InIdeal
    ∧ algebraic_InIdeal_InRefIdeal_pre_finite_gates (hInIdeal := hInIdeal) (hInRefIdeal := hInRefIdeal) (hPre_finite_gates := hPre_finite_gates)
    ∧ preserves_SsdIn_SsdInIdeal
    ∧ algebraic_SsdInIdeal_SsdInRefIdeal_pre_finite_steps (hSsdInIdeal := hSsdInIdeal) (hSsdInRefIdeal := hSsdInRefIdeal) (hPre_finite_steps := hPre_finite_steps)
    ∧ preserves_Out_OutIdeal
    ∧ algebraic_OutIdeal_OutRefIdeal (hOutIdeal := hOutIdeal) (hOutRefIdeal := hOutRefIdeal)
    ∧ preserves_SsdOut_SsdOutIdeal
    ∧ algebraic_SsdOutIdeal_SsdOutRefIdeal (hSsdOutIdeal := hSsdOutIdeal) (hSsdOutRefIdeal := hSsdOutRefIdeal)
    ∧ preserves_Mod_ModIdeal
    ∧ algebraic_ModIdeal_ModRefIdeal (hModIdeal := hModIdeal) (hModRefIdeal := hModRefIdeal)
    ∧ preserves_Tail_TailIdeal
    ∧ algebraic_TailIdeal_TailRefIdeal (hTailIdeal := hTailIdeal) (hTailRefIdeal := hTailRefIdeal)
-- ==== Pre_finite_gates.lean ====
abbrev S16384x2048 : Shape := ⟨2, ![16384, 2048]⟩
abbrev S1x2048 : Shape := ⟨2, ![1, 2048]⟩
abbrev S2048x7680 : Shape := ⟨2, ![2048, 7680]⟩
abbrev S2048x128 : Shape := ⟨2, ![2048, 128]⟩
abbrev S2048x16 : Shape := ⟨2, ![2048, 16]⟩
abbrev S_ : Shape := ⟨0, ![]⟩

class Facts : Prop where
  slices_S2048x128_S2048x16_0_0 : S2048x128.Slices ![0, 0] S2048x16
  bcast_S_S2048x16 : S_.BroadcastsInDim S2048x16 (![] : Fin 0 → Fin S2048x16.rank)

variable [Facts]

def fn {F : FTy → Type} [FloatOps F] (main_arg0 : FVec F S16384x2048 .f32) (main_arg1 : FVec F S1x2048 .f32) (main_arg2 : FVec F S1x2048 .f32) (main_arg3 : FVec F S1x2048 .f32) (main_arg4 : FVec F S2048x7680 .bf16) (main_arg5 : FVec F S2048x128 .f32) : IVec S2048x16 1 :=
  let main_v0 : FVec F S2048x16 .f32 := (extractStridedSlice S2048x16 ![0, 0] · slices_S2048x128_S2048x16_0_0) main_arg5
  let main_v1 : FVec F S2048x16 .f32 := Host.absf main_v0
  let main_cst : FVec F S_ .f32 := constant S_ .f32 0x7F800000#32
  let main_v2 : FVec F S2048x16 .f32 := broadcastInDim S2048x16 ![] bcast_S_S2048x16 main_cst
  let main_v3 : IVec S2048x16 1 := cmpf .olt main_v1 main_v2
  main_v3
-- ==== Pre_finite_steps.lean ====
abbrev S16384x2048 : Shape := ⟨2, ![16384, 2048]⟩
abbrev S1x2048 : Shape := ⟨2, ![1, 2048]⟩
abbrev S2048x10752 : Shape := ⟨2, ![2048, 10752]⟩
abbrev S2048x128 : Shape := ⟨2, ![2048, 128]⟩
abbrev S2048x64 : Shape := ⟨2, ![2048, 64]⟩
abbrev S_ : Shape := ⟨0, ![]⟩

class Facts : Prop where
  slices_S2048x128_S2048x64_0_0 : S2048x128.Slices ![0, 0] S2048x64
  bcast_S_S2048x64 : S_.BroadcastsInDim S2048x64 (![] : Fin 0 → Fin S2048x64.rank)

variable [Facts]

def fn {F : FTy → Type} [FloatOps F] (main_arg0 : FVec F S16384x2048 .f32) (main_arg1 : FVec F S1x2048 .f32) (main_arg2 : FVec F S1x2048 .f32) (main_arg3 : FVec F S1x2048 .f32) (main_arg4 : FVec F S2048x10752 .bf16) (main_arg5 : FVec F S2048x128 .f32) : IVec S2048x64 1 :=
  let main_v0 : FVec F S2048x64 .f32 := (extractStridedSlice S2048x64 ![0, 0] · slices_S2048x128_S2048x64_0_0) main_arg5
  let main_v1 : FVec F S2048x64 .f32 := Host.absf main_v0
  let main_cst : FVec F S_ .f32 := constant S_ .f32 0x7F800000#32
  let main_v2 : FVec F S2048x64 .f32 := broadcastInDim S2048x64 ![] bcast_S_S2048x64 main_cst
  let main_v3 : IVec S2048x64 1 := cmpf .olt main_v1 main_v2
  main_v3
-- ==== Pre_finite_weights.lean ====
abbrev S16384x7168 : Shape := ⟨2, ![16384, 7168]⟩
abbrev S128 : Shape := ⟨1, ![128]⟩
abbrev S8x513 : Shape := ⟨2, ![8, 513]⟩
abbrev S_ : Shape := ⟨0, ![]⟩

class Facts : Prop where
  bcast_S_S128 : S_.BroadcastsInDim S128 (![] : Fin 0 → Fin S128.rank)
  bcast_S_S8x513 : S_.BroadcastsInDim S8x513 (![] : Fin 0 → Fin S8x513.rank)

variable [Facts]

def fn {F : FTy → Type} [FloatOps F] (main_arg0 : FVec F S16384x7168 .f32) (main_arg1 : FVec F S128 .f32) (main_arg2 : FVec F S128 .f32) (main_arg3 : FVec F S8x513 .f32) : IVec S128 1 × IVec S128 1 × IVec S8x513 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S128 .f32 := Host.absf main_arg2
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : FVec F S8x513 .f32 := Host.absf main_arg3
  let main_cst_1 : FVec F S_ .f32 := constant S_ .f32 0x7F800000#32
  let main_v7 : FVec F S8x513 .f32 := broadcastInDim S8x513 ![] bcast_S_S8x513 main_cst_1
  let main_v8 : IVec S8x513 1 := cmpf .olt main_v6 main_v7
  (main_v2, main_v5, main_v8)
-- ==== Kernel.lean ====
abbrev S16384x7168 : Shape := ⟨2, ![16384, 7168]⟩
abbrev S128 : Shape := ⟨1, ![128]⟩
abbrev S8x513 : Shape := ⟨2, ![8, 513]⟩
abbrev S1024 : Shape := ⟨1, ![1024]⟩
abbrev S_ : Shape := ⟨0, ![]⟩
abbrev S1024x1 : Shape := ⟨2, ![1024, 1]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S1x128 : Shape := ⟨2, ![1, 128]⟩
abbrev S16384x1024 : Shape := ⟨2, ![16384, 1024]⟩
abbrev S256x1024 : Shape := ⟨2, ![256, 1024]⟩
abbrev S3x256x1024 : Shape := ⟨3, ![3, 256, 1024]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S1x256x1024 : Shape := ⟨3, ![1, 256, 1024]⟩
abbrev S1x256x256 : Shape := ⟨3, ![1, 256, 256]⟩

abbrev nBuf : Space → Nat
  | .hbm => 40
  | .vmem => 13
  | .smem => 0
  | _ => 0

abbrev bufTy : (tb : Table) → Fin (tcTables nBuf tb) → BufTy
  | .hbm, ⟨0, _⟩ => ⟨S16384x7168, .f32⟩
  | .hbm, ⟨1, _⟩ => ⟨S128, .f32⟩
  | .hbm, ⟨2, _⟩ => ⟨S128, .f32⟩
  | .hbm, ⟨3, _⟩ => ⟨S8x513, .f32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S1024x1, .i32⟩
  | .hbm, ⟨30, _⟩ => ⟨S8x1024, .f32⟩
  | .hbm, ⟨31, _⟩ => ⟨S1x8x1x1024, .f32⟩
  | .hbm, ⟨32, _⟩ => ⟨S1x8x256x1024, .f32⟩
  | .hbm, ⟨33, _⟩ => ⟨S8x262144, .f32⟩
  | .hbm, ⟨34, _⟩ => ⟨S8x261888, .f32⟩
  | .hbm, ⟨35, _⟩ => ⟨S8x256x1023, .f32⟩
  | .hbm, ⟨36, _⟩ => ⟨S8x256x768, .f32⟩
  | .hbm, ⟨37, _⟩ => ⟨S1x128, .f32⟩
  | .hbm, ⟨38, _⟩ => ⟨S1x128, .f32⟩
  | .hbm, ⟨39, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x256x768, .f32⟩
  | .local _ .vmem, ⟨7, _⟩ => ⟨S1x128, .f32⟩
  | .local _ .vmem, ⟨8, _⟩ => ⟨S1x128, .f32⟩
  | .local _ .vmem, ⟨9, _⟩ => ⟨S256x1024, .bf16⟩
  | .local _ .vmem, ⟨10, _⟩ => ⟨S256x1024, .bf16⟩
  | .local _ .vmem, ⟨11, _⟩ => ⟨S3x256x1024, .bf16⟩
  | .local _ .vmem, ⟨12, _⟩ => ⟨S3x256x1024, .bf16⟩
  | _, _ => ⟨S16384x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_c_3 : Ref sig .tc := ⟨.hbm, 19, rfl⟩
abbrev main_v6 : Ref sig .tc := ⟨.hbm, 20, rfl⟩
abbrev main_v7 : Ref sig .tc := ⟨.hbm, 21, rfl⟩
abbrev main_c_4 : Ref sig .tc := ⟨.hbm, 22, rfl⟩
abbrev main_v8 : Ref sig .tc := ⟨.hbm, 23, rfl⟩
abbrev main_v9 : Ref sig .tc := ⟨.hbm, 24, rfl⟩
abbrev main_c_5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def k0_off1 (i : grid0.Coords) (c2_i32 : BitVec 32) : Fin 3 → Nat :=
  let arg0 : BitVec 32 := BitVec.ofNat 32 (i 0).val
  let c1_i32_5 : BitVec 32 := 1#32
  let v9 : BitVec 32 := Scalar.addi arg0 c1_i32_5
  let v10 : BitVec 32 := Scalar.addi v9 c2_i32
  let c3_i32_6 : BitVec 32 := 3#32
  let v11 : BitVec 32 := Scalar.remsi v10 c3_i32_6
  let v157 : Index := Scalar.indexCast v11
  let c0_47 : Index := 0#32
  let c0_48 : Index := 0#32
  ![v157.toNat, 0, 0]
def k0_off2 (i : grid0.Coords) (c2_i32 : BitVec 32) : Fin 3 → Nat :=
  let arg0 : BitVec 32 := BitVec.ofNat 32 (i 0).val
  let c1_i32_5 : BitVec 32 := 1#32
  let v9 : BitVec 32 := Scalar.addi arg0 c1_i32_5
  let v10 : BitVec 32 := Scalar.addi v9 c2_i32
  let c3_i32_6 : BitVec 32 := 3#32
  let v11 : BitVec 32 := Scalar.remsi v10 c3_i32_6
  let v175 : Index := Scalar.indexCast v11
  let c0_53 : Index := 0#32
  let c128_54 : Index := 128#32
  ![v175.toNat, 0, 128]
def k0_off3 (i : grid0.Coords) (c2_i32 : BitVec 32) : Fin 3 → Nat :=
  let arg0 : BitVec 32 := BitVec.ofNat 32 (i 0).val
  let c1_i32_5 : BitVec 32 := 1#32
  let v9 : BitVec 32 := Scalar.addi arg0 c1_i32_5
  let v10 : BitVec 32 := Scalar.addi v9 c2_i32
  let c3_i32_6 : BitVec 32 := 3#32
  let v11 : BitVec 32 := Scalar.remsi v10 c3_i32_6
  let v193 : Index := Scalar.indexCast v11
  let c0_59 : Index := 0#32
  let c256_60 : Index := 256#32
  ![v193.toNat, 0, 256]
def k0_off4 (i : grid0.Coords) (c2_i32 : BitVec 32) : Fin 3 → Nat :=
  let arg0 : BitVec 32 := BitVec.ofNat 32 (i 0).val
  let c1_i32_5 : BitVec 32 := 1#32
  let v9 : BitVec 32 := Scalar.addi arg0 c1_i32_5
  let v10 : BitVec 32 := Scalar.addi v9 c2_i32
  let c3_i32_6 : BitVec 32 := 3#32
  let v11 : BitVec 32 := Scalar.remsi v10 c3_i32_6
  let v211 : Index := Scalar.indexCast v11
  let c0_65 : Index := 0#32
  let c384_66 : Index := 384#32
  ![v211.toNat, 0, 384]
def k0_off5 (i : grid0.Coords) (c2_i32 : BitVec 32) : Fin 3 → Nat :=
  let arg0 : BitVec 32 := BitVec.ofNat 32 (i 0).val
  let c1_i32_5 : BitVec 32 := 1#32
  let v9 : BitVec 32 := Scalar.addi arg0 c1_i32_5
  let v10 : BitVec 32 := Scalar.addi v9 c2_i32
  let c3_i32_6 : BitVec 32 := 3#32
  let v11 : BitVec 32 := Scalar.remsi v10 c3_i32_6
  let v229 : Index := Scalar.indexCast v11
  let c0_71 : Index := 0#32
  let c512_72 : Index := 512#32
  ![v229.toNat, 0, 512]
def k0_off6 (i : grid0.Coords) (c2_i32 : BitVec 32) : Fin 3 → Nat :=
  let arg0 : BitVec 32 := BitVec.ofNat 32 (i 0).val
  let c1_i32_5 : BitVec 32 := 1#32
  let v9 : BitVec 32 := Scalar.addi arg0 c1_i32_5
  let v10 : BitVec 32 := Scalar.addi v9 c2_i32
  let c3_i32_6 : BitVec 32 := 3#32
  let v11 : BitVec 32 := Scalar.remsi v10 c3_i32_6
  let v247 : Index := Scalar.indexCast v11
  let c0_77 : Index := 0#32
  let c640_78 : Index := 640#32
  ![v247.toNat, 0, 640]
def k0_off7 (i : grid0.Coords) (c2_i32 : BitVec 32) : Fin 3 → Nat :=
  let arg0 : BitVec 32 := BitVec.ofNat 32 (i 0).val
  let c1_i32_5 : BitVec 32 := 1#32
  let v9 : BitVec 32 := Scalar.addi arg0 c1_i32_5
  let v10 : BitVec 32 := Scalar.addi v9 c2_i32
  let c3_i32_6 : BitVec 32 := 3#32
  let v11 : BitVec 32 := Scalar.remsi v10 c3_i32_6
  let v265 : Index := Scalar.indexCast v11
  let c0_83 : Index := 0#32
  let c768_84 : Index := 768#32
  ![v265.toNat, 0, 768]
def k0_off8 (i : grid0.Coords) (c2_i32 : BitVec 32) : Fin 3 → Nat :=
  let arg0 : BitVec 32 := BitVec.ofNat 32 (i 0).val
  let c1_i32_5 : BitVec 32 := 1#32
  let v9 : BitVec 32 := Scalar.addi arg0 c1_i32_5
  let v10 : BitVec 32 := Scalar.addi v9 c2_i32
  let c3_i32_6 : BitVec 32 := 3#32
  let v11 : BitVec 32 := Scalar.remsi v10 c3_i32_6
  let v283 : Index := Scalar.indexCast v11
  let c0_89 : Index := 0#32
  let c896_90 : Index := 896#32
  ![v283.toNat, 0, 896]
def k0_off9 (i : grid0.Coords) : Fin 3 → Nat :=
  let arg0 : BitVec 32 := BitVec.ofNat 32 (i 0).val
  let c1_i32_5 : BitVec 32 := 1#32
  let v9 : BitVec 32 := Scalar.addi arg0 c1_i32_5
  let c2_i32 : BitVec 32 := 2#32
  let v10 : BitVec 32 := Scalar.addi v9 c2_i32
  let c3_i32_6 : BitVec 32 := 3#32
  let v11 : BitVec 32 := Scalar.remsi v10 c3_i32_6
  let v289 : Index := Scalar.indexCast v11
  let c0_93 : Index := 0#32
  let c0_94 : Index := 0#32
  ![v289.toNat, 0, 0]
def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((Real.sqrt 128)⁻¹ * (Real.log 2)⁻¹ : ℝ) : EReal)
  | _ => none
-- ==== ReferenceIdeal.lean ====
abbrev S16384x7168 : Shape := ⟨2, ![16384, 7168]⟩
abbrev S128 : Shape := ⟨1, ![128]⟩
abbrev S8x513 : Shape := ⟨2, ![8, 513]⟩
abbrev S16384x1024 : Shape := ⟨2, ![16384, 1024]⟩
abbrev S256x64x8x128 : Shape := ⟨4, ![256, 64, 8, 128]⟩
abbrev S_ : Shape := ⟨0, ![]⟩
abbrev S256x64x8 : Shape := ⟨3, ![256, 64, 8]⟩
abbrev S256x64x8x1 : Shape := ⟨4, ![256, 64, 8, 1]⟩
abbrev S1x1x1x128 : Shape := ⟨4, ![1, 1, 1, 128]⟩
abbrev S264x64x8x128 : Shape := ⟨4, ![264, 64, 8, 128]⟩
abbrev S8x256x64x64 : Shape := ⟨4, ![8, 256, 64, 64]⟩
abbrev S8x256x64x576 : Shape := ⟨4, ![8, 256, 64, 576]⟩
abbrev S64 : Shape := ⟨1, ![64]⟩
abbrev S576 : Shape := ⟨1, ![576]⟩
abbrev S1x576 : Shape := ⟨2, ![1, 576]⟩
abbrev S64x1 : Shape := ⟨2, ![64, 1]⟩
abbrev S64x576 : Shape := ⟨2, ![64, 576]⟩
abbrev S64x576x1 : Shape := ⟨3, ![64, 576, 1]⟩
abbrev S8x64x576 : Shape := ⟨3, ![8, 64, 576]⟩
abbrev S256 : Shape := ⟨1, ![256]⟩
abbrev S256x1 : Shape := ⟨2, ![256, 1]⟩
abbrev S9 : Shape := ⟨1, ![9]⟩
abbrev S1x9 : Shape := ⟨2, ![1, 9]⟩
abbrev S256x9 : Shape := ⟨2, ![256, 9]⟩
abbrev S256x9x64 : Shape := ⟨3, ![256, 9, 64]⟩
abbrev S256x576 : Shape := ⟨2, ![256, 576]⟩
abbrev S1x256x1x576 : Shape := ⟨4, ![1, 256, 1, 576]⟩
abbrev S8x1x64x576 : Shape := ⟨4, ![8, 1, 64, 576]⟩
abbrev S8x256x64 : Shape := ⟨3, ![8, 256, 64]⟩
abbrev S8x256x64x1 : Shape := ⟨4, ![8, 256, 64, 1]⟩
abbrev S256x8x128x64 : Shape := ⟨4, ![256, 8, 128, 64]⟩

abbrev nBuf : Space → Nat
  | .hbm => 185
  | .vmem => 0
  | .smem => 0
  | _ => 0

abbrev hbmTy0_0 (i : Nat) : BufTy := match i % 128 with
  | 0 => ⟨S16384x7168, .f32⟩
  | 1 => ⟨S128, .f32⟩
  | 2 => ⟨S128, .f32⟩
  | 3 => ⟨S8x513, .f32⟩
  | 4 => ⟨S16384x1024, .f32⟩
  | 5 => ⟨S16384x1024, .f32⟩
  | 6 => ⟨S16384x1024, .f32⟩
  | 7 => ⟨S256x64x8x128, .f32⟩
  | 8 => ⟨S256x64x8x128, .f32⟩
  | 9 => ⟨S_, .f32⟩
  | 10 => ⟨S256x64x8, .f32⟩
  | 11 => ⟨S256x64x8x1, .f32⟩
  | 12 => ⟨S_, .f32⟩
  | 13 => ⟨S256x64x8x1, .f32⟩
  | 14 => ⟨S256x64x8x1, .f32⟩
  | 15 => ⟨S_, .f32⟩
  | 16 => ⟨S256x64x8x1, .f32⟩
  | 17 => ⟨S256x64x8x1, .f32⟩
  | 18 => ⟨S256x64x8x1, .f32⟩
  | 19 => ⟨S256x64x8x128, .f32⟩
  | 20 => ⟨S256x64x8x128, .f32⟩
  | 21 => ⟨S1x1x1x128, .f32⟩
  | 22 => ⟨S256x64x8x128, .f32⟩
  | 23 => ⟨S256x64x8x128, .f32⟩
  | 24 => ⟨S_, .f32⟩
  | 25 => ⟨S_, .f32⟩
  | 26 => ⟨S256x64x8x128, .f32⟩
  | 27 => ⟨S256x64x8x128, .f32⟩
  | 28 => ⟨S256x64x8x128, .f32⟩
  | 29 => ⟨S256x64x8x128, .f32⟩
  | 30 => ⟨S_, .f32⟩
  | 31 => ⟨S256x64x8, .f32⟩
  | 32 => ⟨S256x64x8x1, .f32⟩
  | 33 => ⟨S_, .f32⟩
  | 34 => ⟨S256x64x8x1, .f32⟩
  | 35 => ⟨S256x64x8x1, .f32⟩
  | 36 => ⟨S_, .f32⟩
  | 37 => ⟨S256x64x8x1, .f32⟩
  | 38 => ⟨S256x64x8x1, .f32⟩
  | 39 => ⟨S256x64x8x1, .f32⟩
  | 40 => ⟨S256x64x8x128, .f32⟩
  | 41 => ⟨S256x64x8x128, .f32⟩
  | 42 => ⟨S1x1x1x128, .f32⟩
  | 43 => ⟨S256x64x8x128, .f32⟩
  | 44 => ⟨S256x64x8x128, .f32⟩
  | 45 => ⟨S256x64x8x128, .f32⟩
  | 46 => ⟨S_, .i32⟩
  | 47 => ⟨S_, .f32⟩
  | 48 => ⟨S264x64x8x128, .f32⟩
  | 49 => ⟨S_, .i32⟩
  | 50 => ⟨S_, .f32⟩
  | 51 => ⟨S264x64x8x128, .f32⟩
  | 52 => ⟨S256x64x8x128, .f32⟩
  | 53 => ⟨S8x256x64x64, .f32⟩
  | 54 => ⟨S256x64x8x128, .f32⟩
  | 55 => ⟨S8x256x64x64, .f32⟩
  | 56 => ⟨S256x64x8x128, .f32⟩
  | 57 => ⟨S8x256x64x64, .f32⟩
  | 58 => ⟨S256x64x8x128, .f32⟩
  | 59 => ⟨S8x256x64x64, .f32⟩
  | 60 => ⟨S256x64x8x128, .f32⟩
  | 61 => ⟨S8x256x64x64, .f32⟩
  | 62 => ⟨S256x64x8x128, .f32⟩
  | 63 => ⟨S8x256x64x64, .f32⟩
  | 64 => ⟨S256x64x8x128, .f32⟩
  | 65 => ⟨S8x256x64x64, .f32⟩
  | 66 => ⟨S256x64x8x128, .f32⟩
  | 67 => ⟨S8x256x64x64, .f32⟩
  | 68 => ⟨S256x64x8x128, .f32⟩
  | 69 => ⟨S8x256x64x64, .f32⟩
  | 70 => ⟨S8x256x64x576, .f32⟩
  | 71 => ⟨S64, .i32⟩
  | 72 => ⟨S576, .i32⟩
  | 73 => ⟨S1x576, .i32⟩
  | 74 => ⟨S_, .i32⟩
  | 75 => ⟨S1x576, .i32⟩
  | 76 => ⟨S1x576, .i32⟩
  | 77 => ⟨S64x1, .i32⟩
  | 78 => ⟨S64x576, .i32⟩
  | 79 => ⟨S64x576, .i32⟩
  | 80 => ⟨S64x576, .i32⟩
  | 81 => ⟨S_, .i32⟩
  | 82 => ⟨S_, .i32⟩
  | 83 => ⟨S_, .i32⟩
  | 84 => ⟨S64x576, .i32⟩
  | 85 => ⟨S64x576, .i32⟩
  | 86 => ⟨S_, .i32⟩
  | 87 => ⟨S64x576, .i32⟩
  | 88 => ⟨S64x576, .i32⟩
  | 89 => ⟨S_, .i32⟩
  | 90 => ⟨S64x576, .i32⟩
  | 91 => ⟨S64x576, .i32⟩
  | 92 => ⟨S_, .i32⟩
  | 93 => ⟨S64x576, .i32⟩
  | 94 => ⟨S64x576, .i1⟩
  | 95 => ⟨S_, .i32⟩
  | 96 => ⟨S64x576, .i32⟩
  | 97 => ⟨S64x576, .i32⟩
  | 98 => ⟨S64x576, .i32⟩
  | 99 => ⟨S64x576x1, .i32⟩
  | 100 => ⟨S8x64x576, .f32⟩
  | 101 => ⟨S256, .i32⟩
  | 102 => ⟨S256x1, .i32⟩
  | 103 => ⟨S9, .i32⟩
  | 104 => ⟨S1x9, .i32⟩
  | 105 => ⟨S256x9, .i32⟩
  | 106 => ⟨S256x9, .i32⟩
  | 107 => ⟨S256x9, .i32⟩
  | 108 => ⟨S_, .i32⟩
  | 109 => ⟨S256x9, .i32⟩
  | 110 => ⟨S256x9, .i32⟩
  | 111 => ⟨S_, .i32⟩
  | 112 => ⟨S256x9, .i32⟩
  | 113 => ⟨S256x9, .i1⟩
  | 114 => ⟨S256x9x64, .i1⟩
  | 115 => ⟨S256x576, .i1⟩
  | 116 => ⟨S1x256x1x576, .i1⟩
  | 117 => ⟨S8x1x64x576, .f32⟩
  | 118 => ⟨S8x256x64x576, .f32⟩
  | 119 => ⟨S8x256x64x576, .f32⟩
  | 120 => ⟨S_, .f32⟩
  | 121 => ⟨S_, .f32⟩
  | 122 => ⟨S8x256x64x576, .i1⟩
  | 123 => ⟨S8x256x64x576, .f32⟩
  | 124 => ⟨S8x256x64x576, .f32⟩
  | 125 => ⟨S_, .f32⟩
  | 126 => ⟨S8x256x64, .f32⟩
  | 127 => ⟨S_, .f32⟩
  | _ => ⟨S16384x7168, .f32⟩

abbrev hbmTy0_1 (i : Nat) : BufTy := match i % 128 with
  | 0 => ⟨S8x256x64, .f32⟩
  | 1 => ⟨S8x256x64, .f32⟩
  | 2 => ⟨S8x256x64x1, .f32⟩
  | 3 => ⟨S8x256x64x576, .f32⟩
  | 4 => ⟨S8x256x64x576, .f32⟩
  | 5 => ⟨S8x256x64x576, .f32⟩
  | 6 => ⟨S_, .f32⟩
  | 7 => ⟨S8x256x64, .f32⟩
  | 8 => ⟨S8x256x64x1, .f32⟩
  | 9 => ⟨S8x256x64x576, .f32⟩
  | 10 => ⟨S8x256x64x576, .f32⟩
  | 11 => ⟨S8x256x64x64, .f32⟩
  | 12 => ⟨S256x64x8x128, .f32⟩
  | 13 => ⟨S256x8x128x64, .f32⟩
  | 14 => ⟨S256x64x8x128, .f32⟩
  | 15 => ⟨S8x256x64x64, .f32⟩
  | 16 => ⟨S256x64x8x128, .f32⟩
  | 17 => ⟨S256x8x128x64, .f32⟩
  | 18 => ⟨S256x64x8x128, .f32⟩
  | 19 => ⟨S256x64x8x128, .f32⟩
  | 20 => ⟨S8x256x64x64, .f32⟩
  | 21 => ⟨S256x64x8x128, .f32⟩
  | 22 => ⟨S256x8x128x64, .f32⟩
  | 23 => ⟨S256x64x8x128, .f32⟩
  | 24 => ⟨S256x64x8x128, .f32⟩
  | 25 => ⟨S8x256x64x64, .f32⟩
  | 26 => ⟨S256x64x8x128, .f32⟩
  | 27 => ⟨S256x8x128x64, .f32⟩
  | 28 => ⟨S256x64x8x128, .f32⟩
  | 29 => ⟨S256x64x8x128, .f32⟩
  | 30 => ⟨S8x256x64x64, .f32⟩
  | 31 => ⟨S256x64x8x128, .f32⟩
  | 32 => ⟨S256x8x128x64, .f32⟩
  | 33 => ⟨S256x64x8x128, .f32⟩
  | 34 => ⟨S256x64x8x128, .f32⟩
  | 35 => ⟨S8x256x64x64, .f32⟩
  | 36 => ⟨S256x64x8x128, .f32⟩
  | 37 => ⟨S256x8x128x64, .f32⟩
  | 38 => ⟨S256x64x8x128, .f32⟩
  | 39 => ⟨S256x64x8x128, .f32⟩
  | 40 => ⟨S8x256x64x64, .f32⟩
  | 41 => ⟨S256x64x8x128, .f32⟩
  | 42 => ⟨S256x8x128x64, .f32⟩
  | 43 => ⟨S256x64x8x128, .f32⟩
  | 44 => ⟨S256x64x8x128, .f32⟩
  | 45 => ⟨S8x256x64x64, .f32⟩
  | 46 => ⟨S256x64x8x128, .f32⟩
  | 47 => ⟨S256x8x128x64, .f32⟩
  | 48 => ⟨S256x64x8x128, .f32⟩
  | 49 => ⟨S256x64x8x128, .f32⟩
  | 50 => ⟨S8x256x64x64, .f32⟩
  | 51 => ⟨S256x64x8x128, .f32⟩
  | 52 => ⟨S256x8x128x64, .f32⟩
  | 53 => ⟨S256x64x8x128, .f32⟩
  | 54 => ⟨S256x64x8x128, .f32⟩
  | 55 => ⟨S16384x1024, .f32⟩
  | 56 => ⟨S16384x1024, .bf16⟩
  | _ => ⟨S16384x7168, .f32⟩

abbrev hbmTy (i : Nat) : BufTy := match i / 128 with
  | 0 => hbmTy0_0 i
  | 1 => hbmTy0_1 i
  | _ => ⟨S16384x7168, .f32⟩

abbrev bufTy : (tb : Table) → Fin (tcTables nBuf tb) → BufTy
  | .hbm, ⟨i, _⟩ => hbmTy i
  | _, _ => ⟨S16384x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_call0_v0 : Ref sig .tc := ⟨.hbm, 47, rfl⟩
abbrev main_v35 : Ref sig .tc := ⟨.hbm, 48, rfl⟩
abbrev main_c_6 : Ref sig .tc := ⟨.hbm, 49, rfl⟩
abbrev main_call1_v0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_7 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_c_8 : Ref sig .tc := ⟨.hbm, 81, rfl⟩
abbrev main_c_9 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v65 : Ref sig .tc := ⟨.hbm, 88, rfl⟩
abbrev main_c_10 : Ref sig .tc := ⟨.hbm, 89, rfl⟩
abbrev main_v66 : Ref sig .tc := ⟨.hbm, 90, rfl⟩
abbrev main_v67 : Ref sig .tc := ⟨.hbm, 91, rfl⟩
abbrev main_c_11 : Ref sig .tc := ⟨.hbm, 92, rfl⟩
abbrev main_v68 : Ref sig .tc := ⟨.hbm, 93, rfl⟩
abbrev main_v69 : Ref sig .tc := ⟨.hbm, 94, rfl⟩
abbrev main_c_12 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_13 : Ref sig .tc := ⟨.hbm, 108, rfl⟩
abbrev main_v82 : Ref sig .tc := ⟨.hbm, 109, rfl⟩
abbrev main_v83 : Ref sig .tc := ⟨.hbm, 110, rfl⟩
abbrev main_c_14 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_15 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_v92 : Ref sig .tc := ⟨.hbm, 124, rfl⟩
abbrev main_cst_16 : Ref sig .tc := ⟨.hbm, 125, rfl⟩
abbrev main_v93 : Ref sig .tc := ⟨.hbm, 126, rfl⟩
abbrev main_cst_17 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_18 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩

abbrev nD : Nat := 1
abbrev τ : Topo := Topo.v7x

variable {F : FTy → Type} [FloatOps F]
-- ==== Mlp.lean ====
abbrev S16384x2048 : Shape := ⟨2, ![16384, 2048]⟩
abbrev S1x2048 : Shape := ⟨2, ![1, 2048]⟩
abbrev S2x2048x8192 : Shape := ⟨3, ![2, 2048, 8192]⟩
abbrev S2x8192x2048 : Shape := ⟨3, ![2, 8192, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 8
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S1x2048, .f32⟩
  | .hbm, ⟨3, _⟩ => ⟨S2x2048x8192, .f32⟩
  | .hbm, ⟨4, _⟩ => ⟨S2x8192x2048, .f32⟩
  | .hbm, ⟨5, _⟩ => ⟨S2x2048x8192, .bf16⟩
  | .hbm, ⟨6, _⟩ => ⟨S2x8192x2048, .bf16⟩
  | .hbm, ⟨7, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1024x2048, .f32⟩
  | .local _ .vmem, ⟨10, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S16384x2048 : Shape := ⟨2, ![16384, 2048]⟩
abbrev S1x2048 : Shape := ⟨2, ![1, 2048]⟩
abbrev S2x2048x8192 : Shape := ⟨3, ![2, 2048, 8192]⟩
abbrev S2x8192x2048 : Shape := ⟨3, ![2, 8192, 2048]⟩
abbrev S1x2048x8192 : Shape := ⟨3, ![1, 2048, 8192]⟩
abbrev S2048x8192 : Shape := ⟨2, ![2048, 8192]⟩
abbrev S16384x8192 : Shape := ⟨2, ![16384, 8192]⟩
abbrev S_ : Shape := ⟨0, ![]⟩
abbrev S1x8192x2048 : Shape := ⟨3, ![1, 8192, 2048]⟩
abbrev S8192x2048 : Shape := ⟨2, ![8192, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S1x2048, .f32⟩
  | .hbm, ⟨3, _⟩ => ⟨S2x2048x8192, .f32⟩
  | .hbm, ⟨4, _⟩ => ⟨S2x8192x2048, .f32⟩
  | .hbm, ⟨5, _⟩ => ⟨S16384x2048, .f32⟩
  | .hbm, ⟨6, _⟩ => ⟨S1x2048x8192, .f32⟩
  | .hbm, ⟨7, _⟩ => ⟨S2048x8192, .f32⟩
  | .hbm, ⟨8, _⟩ => ⟨S16384x8192, .f32⟩
  | .hbm, ⟨9, _⟩ => ⟨S_, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S1x8192x2048, .f32⟩
  | .hbm, ⟨14, _⟩ => ⟨S8192x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== In.lean ====
abbrev S16384x2048 : Shape := ⟨2, ![16384, 2048]⟩
abbrev S1x2048 : Shape := ⟨2, ![1, 2048]⟩
abbrev S2048x7680 : Shape := ⟨2, ![2048, 7680]⟩
abbrev S2048x128 : Shape := ⟨2, ![2048, 128]⟩
abbrev S2048x16 : Shape := ⟨2, ![2048, 16]⟩
abbrev S_ : Shape := ⟨0, ![]⟩
abbrev S2048x3072 : Shape := ⟨2, ![2048, 3072]⟩
abbrev S2048x256 : Shape := ⟨2, ![2048, 256]⟩
abbrev S16384x7168 : Shape := ⟨2, ![16384, 7168]⟩
abbrev S16384x128 : Shape := ⟨2, ![16384, 128]⟩
abbrev S256x2048 : Shape := ⟨2, ![256, 2048]⟩
abbrev S2048x4096 : Shape := ⟨2, ![2048, 4096]⟩
abbrev S256x7168 : Shape := ⟨2, ![256, 7168]⟩
abbrev S256x128 : Shape := ⟨2, ![256, 128]⟩
abbrev S256 : Shape := ⟨1, ![256]⟩
abbrev S256x1 : Shape := ⟨2, ![256, 1]⟩
abbrev S256x4096 : Shape := ⟨2, ![256, 4096]⟩
abbrev S256x3072 : Shape := ⟨2, ![256, 3072]⟩
abbrev S256x256 : Shape := ⟨2, ![256, 256]⟩

abbrev nBuf : Space → Nat
  | .hbm => 18
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x7680, .bf16⟩
  | .hbm, ⟨5, _⟩ => ⟨S2048x128, .f32⟩
  | .hbm, ⟨6, _⟩ => ⟨S2048x16, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x3072, .bf16⟩
  | .hbm, ⟨11, _⟩ => ⟨S2048x128, .bf16⟩
  | .hbm, ⟨12, _⟩ => ⟨S2048x128, .f32⟩
  | .hbm, ⟨13, _⟩ => ⟨S2048x128, .f32⟩
  | .hbm, ⟨14, _⟩ => ⟨S2048x128, .bf16⟩
  | .hbm, ⟨15, _⟩ => ⟨S2048x256, .bf16⟩
  | .hbm, ⟨16, _⟩ => ⟨S16384x7168, .f32⟩
  | .hbm, ⟨17, _⟩ => ⟨S16384x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x4096, .bf16⟩
  | .local _ .vmem, ⟨6, _⟩ => ⟨S2048x3072, .bf16⟩
  | .local _ .vmem, ⟨7, _⟩ => ⟨S2048x256, .bf16⟩
  | .local _ .vmem, ⟨8, _⟩ => ⟨S256x7168, .f32⟩
  | .local _ .vmem, ⟨9, _⟩ => ⟨S256x7168, .f32⟩
  | .local _ .vmem, ⟨10, _⟩ => ⟨S256x128, .f32⟩
  | .local _ .vmem, ⟨11, _⟩ => ⟨S256x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x7168 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InRefIdeal.lean ====
abbrev S16384x2048 : Shape := ⟨2, ![16384, 2048]⟩
abbrev S1x2048 : Shape := ⟨2, ![1, 2048]⟩
abbrev S2048x7680 : Shape := ⟨2, ![2048, 7680]⟩
abbrev S2048x128 : Shape := ⟨2, ![2048, 128]⟩
abbrev S_ : Shape := ⟨0, ![]⟩
abbrev S16384 : Shape := ⟨1, ![16384]⟩
abbrev S16384x1 : Shape := ⟨2, ![16384, 1]⟩
abbrev S16384x7680 : Shape := ⟨2, ![16384, 7680]⟩
abbrev S2048x16 : Shape := ⟨2, ![2048, 16]⟩
abbrev S16384x16 : Shape := ⟨2, ![16384, 16]⟩
abbrev S16384x4096 : Shape := ⟨2, ![16384, 4096]⟩
abbrev S16384x3072 : Shape := ⟨2, ![16384, 3072]⟩
abbrev S16384x7168 : Shape := ⟨2, ![16384, 7168]⟩
abbrev S16384x128 : Shape := ⟨2, ![16384, 128]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x7680, .bf16⟩
  | .hbm, ⟨5, _⟩ => ⟨S2048x128, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S2048x7680, .f32⟩
  | .hbm, ⟨29, _⟩ => ⟨S16384x7680, .f32⟩
  | .hbm, ⟨30, _⟩ => ⟨S2048x16, .f32⟩
  | .hbm, ⟨31, _⟩ => ⟨S16384x16, .f32⟩
  | .hbm, ⟨32, _⟩ => ⟨S16384x4096, .f32⟩
  | .hbm, ⟨33, _⟩ => ⟨S16384x3072, .f32⟩
  | .hbm, ⟨34, _⟩ => ⟨S16384x7168, .f32⟩
  | .hbm, ⟨35, _⟩ => ⟨S_, .i32⟩
  | .hbm, ⟨36, _⟩ => ⟨S_, .f32⟩
  | .hbm, ⟨37, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_call0_v0 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== SsdIn.lean ====
abbrev S16384x2048 : Shape := ⟨2, ![16384, 2048]⟩
abbrev S1x2048 : Shape := ⟨2, ![1, 2048]⟩
abbrev S2048x10752 : Shape := ⟨2, ![2048, 10752]⟩
abbrev S2048x128 : Shape := ⟨2, ![2048, 128]⟩
abbrev S2048x64 : Shape := ⟨2, ![2048, 64]⟩
abbrev S_ : Shape := ⟨0, ![]⟩
abbrev S2048x256 : Shape := ⟨2, ![2048, 256]⟩
abbrev S16384x10240 : Shape := ⟨2, ![16384, 10240]⟩
abbrev S2x16384x128 : Shape := ⟨3, ![2, 16384, 128]⟩
abbrev S512x2048 : Shape := ⟨2, ![512, 2048]⟩
abbrev S2048x5120 : Shape := ⟨2, ![2048, 5120]⟩
abbrev S512x5120 : Shape := ⟨2, ![512, 5120]⟩
abbrev S1x512x128 : Shape := ⟨3, ![1, 512, 128]⟩
abbrev S512 : Shape := ⟨1, ![512]⟩
abbrev S512x1 : Shape := ⟨2, ![512, 1]⟩
abbrev S512x256 : Shape := ⟨2, ![512, 256]⟩
abbrev S512x128 : Shape := ⟨2, ![512, 128]⟩

abbrev nBuf : Space → Nat
  | .hbm => 17
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x10752, .bf16⟩
  | .hbm, ⟨5, _⟩ => ⟨S2048x128, .f32⟩
  | .hbm, ⟨6, _⟩ => ⟨S2048x64, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S2048x128, .f32⟩
  | .hbm, ⟨12, _⟩ => ⟨S2048x128, .f32⟩
  | .hbm, ⟨13, _⟩ => ⟨S2048x128, .bf16⟩
  | .hbm, ⟨14, _⟩ => ⟨S2048x256, .bf16⟩
  | .hbm, ⟨15, _⟩ => ⟨S16384x10240, .f32⟩
  | .hbm, ⟨16, _⟩ => ⟨S2x16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x5120, .bf16⟩
  | .local _ .vmem, ⟨6, _⟩ => ⟨S2048x256, .bf16⟩
  | .local _ .vmem, ⟨7, _⟩ => ⟨S512x5120, .f32⟩
  | .local _ .vmem, ⟨8, _⟩ => ⟨S512x5120, .f32⟩
  | .local _ .vmem, ⟨9, _⟩ => ⟨S1x512x128, .f32⟩
  | .local _ .vmem, ⟨10, _⟩ => ⟨S1x512x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_15 : BitVec 32 := 0#32
  let v28 : BitVec 1 := Scalar.cmpi .ne v27 c0_i32_15
  v28

def k0_cond2 (i : grid0.Coords) : BitVec 1 :=
  let arg0 : BitVec 32 := BitVec.ofNat 32 (i 0).val
  let c0_i32_16 : BitVec 32 := 0#32
  let v29 : BitVec 1 := Scalar.cmpi .ne arg0 c0_i32_16
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SsdInRefIdeal.lean ====
abbrev S16384x2048 : Shape := ⟨2, ![16384, 2048]⟩
abbrev S1x2048 : Shape := ⟨2, ![1, 2048]⟩
abbrev S2048x10752 : Shape := ⟨2, ![2048, 10752]⟩
abbrev S2048x128 : Shape := ⟨2, ![2048, 128]⟩
abbrev S_ : Shape := ⟨0, ![]⟩
abbrev S16384 : Shape := ⟨1, ![16384]⟩
abbrev S16384x1 : Shape := ⟨2, ![16384, 1]⟩
abbrev S2048x10240 : Shape := ⟨2, ![2048, 10240]⟩
abbrev S16384x10240 : Shape := ⟨2, ![16384, 10240]⟩
abbrev S2048x64 : Shape := ⟨2, ![2048, 64]⟩
abbrev S16384x64 : Shape := ⟨2, ![16384, 64]⟩
abbrev S1x16384x64 : Shape := ⟨3, ![1, 16384, 64]⟩
abbrev S2x16384x128 : Shape := ⟨3, ![2, 16384, 128]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x10752, .bf16⟩
  | .hbm, ⟨5, _⟩ => ⟨S2048x128, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S2048x10240, .bf16⟩
  | .hbm, ⟨29, _⟩ => ⟨S2048x10240, .f32⟩
  | .hbm, ⟨30, _⟩ => ⟨S16384x10240, .f32⟩
  | .hbm, ⟨31, _⟩ => ⟨S2048x64, .f32⟩
  | .hbm, ⟨32, _⟩ => ⟨S16384x64, .f32⟩
  | .hbm, ⟨33, _⟩ => ⟨S1x16384x64, .f32⟩
  | .hbm, ⟨34, _⟩ => ⟨S_, .i32⟩
  | .hbm, ⟨35, _⟩ => ⟨S_, .f32⟩
  | .hbm, ⟨36, _⟩ => ⟨S2x16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_call0_v0 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Out.lean ====
abbrev S16384x1024 : Shape := ⟨2, ![16384, 1024]⟩
abbrev S2048x2048 : Shape := ⟨2, ![2048, 2048]⟩
abbrev S16384x2048 : Shape := ⟨2, ![16384, 2048]⟩
abbrev S1x2048 : Shape := ⟨2, ![1, 2048]⟩
abbrev S1024x2048 : Shape := ⟨2, ![1024, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1024x2048, .f32⟩
  | .hbm, ⟨9, _⟩ => ⟨S1024x2048, .f32⟩
  | .hbm, ⟨10, _⟩ => ⟨S1024x2048, .bf16⟩
  | .hbm, ⟨11, _⟩ => ⟨S1024x2048, .bf16⟩
  | .hbm, ⟨12, _⟩ => ⟨S16384x2048, .f32⟩
  | .hbm, ⟨13, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutRefIdeal.lean ====
abbrev S16384x1024 : Shape := ⟨2, ![16384, 1024]⟩
abbrev S2048x2048 : Shape := ⟨2, ![2048, 2048]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S16384x2048, .bf16⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== SsdOut.lean ====
abbrev S16384x4096 : Shape := ⟨2, ![16384, 4096]⟩
abbrev S4096x2048 : Shape := ⟨2, ![4096, 2048]⟩
abbrev S16384x2048 : Shape := ⟨2, ![16384, 2048]⟩
abbrev S1x2048 : Shape := ⟨2, ![1, 2048]⟩
abbrev S512x4096 : Shape := ⟨2, ![512, 4096]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .bf16⟩
  | .hbm, ⟨8, _⟩ => ⟨S16384x2048, .f32⟩
  | .hbm, ⟨9, _⟩ => ⟨S16384x2048, .bf16⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SsdOutRefIdeal.lean ====
abbrev S16384x4096 : Shape := ⟨2, ![16384, 4096]⟩
abbrev S4096x2048 : Shape := ⟨2, ![4096, 2048]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S16384x4096, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Mod.lean ====
abbrev S1x2048 : Shape := ⟨2, ![1, 2048]⟩
abbrev S2x2048x12288 : Shape := ⟨3, ![2, 2048, 12288]⟩
abbrev S2x12288 : Shape := ⟨2, ![2, 12288]⟩
abbrev S8x2048 : Shape := ⟨2, ![8, 2048]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S2x2048x12288, .f32⟩
  | .hbm, ⟨2, _⟩ => ⟨S2x12288, .f32⟩
  | .hbm, ⟨3, _⟩ => ⟨S8x2048, .f32⟩
  | .hbm, ⟨4, _⟩ => ⟨S2x1x12288, .f32⟩
  | .hbm, ⟨5, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S1x2048 : Shape := ⟨2, ![1, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S1x12288 : Shape := ⟨2, ![1, 12288]⟩
abbrev S12288 : Shape := ⟨1, ![12288]⟩
abbrev S1x1x12288 : Shape := ⟨3, ![1, 1, 12288]⟩
abbrev S2x1x12288 : Shape := ⟨3, ![2, 1, 12288]⟩
abbrev S2x8x12288 : Shape := ⟨3, ![2, 8, 12288]⟩

abbrev nBuf : Space → Nat
  | .hbm => 30
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2x2048x12288, .f32⟩
  | .hbm, ⟨2, _⟩ => ⟨S2x12288, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048x12288, .f32⟩
  | .hbm, ⟨13, _⟩ => ⟨S2048x12288, .f32⟩
  | .hbm, ⟨14, _⟩ => ⟨S1x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S1x12288, .f32⟩
  | .hbm, ⟨19, _⟩ => ⟨S1x2048x12288, .f32⟩
  | .hbm, ⟨20, _⟩ => ⟨S2048x12288, .f32⟩
  | .hbm, ⟨21, _⟩ => ⟨S1x12288, .f32⟩
  | .hbm, ⟨22, _⟩ => ⟨S1x12288, .f32⟩
  | .hbm, ⟨23, _⟩ => ⟨S12288, .f32⟩
  | .hbm, ⟨24, _⟩ => ⟨S1x12288, .f32⟩
  | .hbm, ⟨25, _⟩ => ⟨S1x12288, .f32⟩
  | .hbm, ⟨26, _⟩ => ⟨S1x1x12288, .f32⟩
  | .hbm, ⟨27, _⟩ => ⟨S1x1x12288, .f32⟩
  | .hbm, ⟨28, _⟩ => ⟨S2x1x12288, .f32⟩
  | .hbm, ⟨29, _⟩ => ⟨S2x8x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Tail.lean ====
abbrev S16384x4096 : Shape := ⟨2, ![16384, 4096]⟩
abbrev S4096x2048 : Shape := ⟨2, ![4096, 2048]⟩
abbrev S16384x2048 : Shape := ⟨2, ![16384, 2048]⟩
abbrev S1x2048 : Shape := ⟨2, ![1, 2048]⟩
abbrev S2x2048x8192 : Shape := ⟨3, ![2, 2048, 8192]⟩
abbrev S2x8192x2048 : Shape := ⟨3, ![2, 8192, 2048]⟩
abbrev S512x4096 : Shape := ⟨2, ![512, 4096]⟩
abbrev S512x2048 : Shape := ⟨2, ![512, 2048]⟩
abbrev S512 : Shape := ⟨1, ![512]⟩
abbrev S512x1 : Shape := ⟨2, ![512, 1]⟩
abbrev S1024x2048 : Shape := ⟨2, ![1024, 2048]⟩
abbrev S1x2048x512 : Shape := ⟨3, ![1, 2048, 512]⟩
abbrev S1x512x2048 : Shape := ⟨3, ![1, 512, 2048]⟩
abbrev S2048x512 : Shape := ⟨2, ![2048, 512]⟩
abbrev S1024x512 : Shape := ⟨2, ![1024, 512]⟩

abbrev nBuf : Space → Nat
  | .hbm => 16
  | .vmem => 24
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S2x2048x8192, .f32⟩
  | .hbm, ⟨9, _⟩ => ⟨S2x8192x2048, .f32⟩
  | .hbm, ⟨10, _⟩ => ⟨S4096x2048, .bf16⟩
  | .hbm, ⟨11, _⟩ => ⟨S16384x2048, .f32⟩
  | .hbm, ⟨12, _⟩ => ⟨S16384x2048, .bf16⟩
  | .hbm, ⟨13, _⟩ => ⟨S2x2048x8192, .bf16⟩
  | .hbm, ⟨14, _⟩ => ⟨S2x8192x2048, .bf16⟩
  | .hbm, ⟨15, _⟩ => ⟨S16384x2048, .f32⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1024x2048, .f32⟩
  | .local _ .vmem, ⟨14, _⟩ => ⟨S1024x2048, .f32⟩
  | .local _ .vmem, ⟨15, _⟩ => ⟨S1024x2048, .bf16⟩
  | .local _ .vmem, ⟨16, _⟩ => ⟨S1024x2048, .bf16⟩
  | .local _ .vmem, ⟨17, _⟩ => ⟨S1x2048, .f32⟩
  | .local _ .vmem, ⟨18, _⟩ => ⟨S1x2048x512, .bf16⟩
  | .local _ .vmem, ⟨19, _⟩ => ⟨S1x2048x512, .bf16⟩
  | .local _ .vmem, ⟨20, _⟩ => ⟨S1x512x2048, .bf16⟩
  | .local _ .vmem, ⟨21, _⟩ => ⟨S1x512x2048, .bf16⟩
  | .local _ .vmem, ⟨22, _⟩ => ⟨S1024x2048, .f32⟩
  | .local _ .vmem, ⟨23, _⟩ => ⟨S1024x2048, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== TailRefIdeal.lean ====
abbrev S16384x4096 : Shape := ⟨2, ![16384, 4096]⟩
abbrev S4096x2048 : Shape := ⟨2, ![4096, 2048]⟩
abbrev S16384x2048 : Shape := ⟨2, ![16384, 2048]⟩
abbrev S1x2048 : Shape := ⟨2, ![1, 2048]⟩
abbrev S2x2048x8192 : Shape := ⟨3, ![2, 2048, 8192]⟩
abbrev S2x8192x2048 : Shape := ⟨3, ![2, 8192, 2048]⟩
abbrev S_ : Shape := ⟨0, ![]⟩
abbrev S16384 : Shape := ⟨1, ![16384]⟩
abbrev S16384x1 : Shape := ⟨2, ![16384, 1]⟩
abbrev S1x2048x8192 : Shape := ⟨3, ![1, 2048, 8192]⟩
abbrev S2048x8192 : Shape := ⟨2, ![2048, 8192]⟩
abbrev S16384x8192 : Shape := ⟨2, ![16384, 8192]⟩
abbrev S1x8192x2048 : Shape := ⟨3, ![1, 8192, 2048]⟩
abbrev S8192x2048 : Shape := ⟨2, ![8192, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S2x2048x8192, .f32⟩
  | .hbm, ⟨9, _⟩ => ⟨S2x8192x2048, .f32⟩
  | .hbm, ⟨10, _⟩ => ⟨S16384x4096, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S1x2048x8192, .f32⟩
  | .hbm, ⟨38, _⟩ => ⟨S2048x8192, .f32⟩
  | .hbm, ⟨39, _⟩ => ⟨S16384x8192, .f32⟩
  | .hbm, ⟨40, _⟩ => ⟨S_, .f32⟩
  | .hbm, ⟨41, _⟩ => ⟨S16384x8192, .f32⟩
  | .hbm, ⟨42, _⟩ => ⟨S16384x8192, .f32⟩
  | .hbm, ⟨43, _⟩ => ⟨S16384x8192, .f32⟩
  | .hbm, ⟨44, _⟩ => ⟨S1x8192x2048, .f32⟩
  | .hbm, ⟨45, _⟩ => ⟨S8192x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_cst : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Proof.Att.Body.lean ====
/- What one grid point of the band attention computes, as functions of the blocks it reads: the normalised keys it files
   in the ring of three blocks, the values it files beside them, and each head's output columns. Any number format. -/
module

public import proofs.«01_k».proof.Proof.Gen.KernelIdeal.Frame
public import proofs.«01_k».proof.Proof.Gen.KernelIdeal.Skeleton
public import Idealize.ShloMosaic.Lib.ValueIdx
public import Idealize.ShloMosaic.Lib.Pipeline.Value
public import Idealize.ShloMosaic.Lib.WritesUnit

@[expose] public section

noncomputable section

namespace Cert.KernelIdeal.Att

open Cert.KernelIdeal Cert.KernelIdeal.Gen
open Idealize.ShloMosaic Idealize.ShloMosaic.ValueIdx Idealize.SL.Sem

variable {F : FTy → Type} [FloatOps F] [Named F]

/-- The columns of head `h`: a block's lanes `128·h …`. -/
def hcols {e : EltTy} (x : Vec F S256x1024 e) (h : Fin 8) : Vec F S256x128 e :=
  fun j => x (ix2 (j 0) ⟨128 * h.val + (j 1).val, by have := h.isLt; have := idx2_lt1 j; omega⟩)

/-- Head `h` of slot `s` of a ring of three blocks. -/
def slice3 (y : Vec F S3x256x1024 .bf16) (s : Fin 3) (h : Fin 8) : Vec F S1x256x128 .bf16 :=
  fun j => y (ix3 s (j 1) ⟨128 * h.val + (j 2).val, by
    have := h.isLt; have h2 : (j 2).val < 128 := (j 2).isLt; omega⟩)

/-- The bias tile of head `h` against key block `b`. -/
def btile (x : Vec F S8x256x768 .f32) (h : Fin 8) (b : Fin 3) : Vec F S1x256x256 .f32 :=
  fun j => x (ix3 h (j 1) ⟨256 * b.val + (j 2).val, by
    have := b.isLt; have h2 : (j 2).val < 256 := (j 2).isLt; omega⟩)

/-- The ring slot of key block `b` at grid point `i`: `(i + 1 + b) mod 3`. -/
def slot (i : grid0.Coords) (b : Fin 3) : Fin 3 := ⟨((i 0).val + b.val + 1) % 3, Nat.mod_lt _ (by decide)⟩

/-- Root-mean-square normalisation of the rows of `x`, times the weight row `w`. -/
def rms (w : FVec F S1x128 .f32) (x : FVec F S256x128 .f32) : FVec F S256x128 .f32 :=
  mulf (mulf x (broadcastTo S256x128
      (rsqrt (addf
        (divf (shapeCast S256x1 (multiReduction .add [1] S256 (mulf x x) 0x00000000#32 reduces_S256x128_S256 (.inl rfl) rfl)
            shapeCasts_S256_S256x1)
          (broadcast S256x1 (Scalar.ofBits .f32 0x43000000#32)))
        (broadcast S256x1 (Scalar.ofBits .f32 0x358637BD#32))))
      broadcasts_S256x1_S256x128))
    (broadcastTo S256x128 w broadcasts_S1x128_S256x128)

/-- The keys of one head as they are filed. -/
def kn (w : Vec F S1x128 .f32) (x : Vec F S256x128 .f32) : FVec F S1x256x128 .bf16 :=
  shapeCast S1x256x128 (truncf .bf16 (rms (shapeCast S1x128 w shapeCasts_S1x128_S1x128) x) bitsLt_bf16_f32)
    shapeCasts_S256x128_S1x256x128

/-- The queries of one head, scaled. -/
def qn (w : Vec F S1x128 .f32) (x : Vec F S256x128 .f32) : FVec F S256x128 .bf16 :=
  truncf .bf16 (mulf (rms (shapeCast S1x128 w shapeCasts_S1x128_S1x128) x)
    (broadcast S256x128 (Named.named κ "scale_log2e" 0x3E0293EE#32))) bitsLt_bf16_f32

/-- The chunk number of every entry of `x`: its quotient by 64, rounded down. -/
def chunkOf (x : IVec S256x256 32) : IVec S256x256 32 :=
  select (andi
      (cmpi .ne
        (subi (extui 32 (cmpi .sgt x (broadcast S256x256 0#32)) natLt_1_32) (extui 32 (cmpi .slt x (broadcast S256x256 0#32)) natLt_1_32))
        (broadcast S256x256 (Scalar.subi (Scalar.extui (Scalar.cmpi .sgt (64#32) 0#32)) (Scalar.extui (Scalar.cmpi .slt (64#32) 0#32)))))
      (cmpi .ne (remsi x (broadcast S256x256 64#32)) (broadcast S256x256 0#32)))
    (subi (divsi x (broadcast S256x256 64#32)) (broadcast S256x256 1#32))
    (divsi x (broadcast S256x256 64#32))

/-- The chunk of each row, -/
def rowChunk : IVec S256x256 32 := chunkOf (iota .tc S256x256 32 [0] iota_S256x256_d0_w32)

/-- and of each column of the key block that starts `o` columns in. -/
def colChunk (o : BitVec 32) : IVec S256x256 32 :=
  chunkOf (addi (iota .tc S256x256 32 [1] iota_S256x256_d1_w32) (broadcast S256x256 o))

/-- Where the band covers that key block. -/
def band (o : BitVec 32) : IVec S256x256 1 :=
  andi (cmpi .sge (colChunk o) rowChunk)
    (cmpi .sle (colChunk o) (subi (addi rowChunk (broadcast S256x256 9#32)) (broadcast S256x256 1#32)))

/-- The scores of one head against one key block: products plus bias where `g` and inside the band `w`, the mask elsewhere. -/
def sblk (g : BitVec 1) (w : IVec S256x256 1) (q : FVec F S256x128 .bf16) (k : Vec F S1x256x128 .bf16) (b : Vec F S1x256x256 .f32) :
    FVec F S256x256 .f32 :=
  Scalar.select g
    (addf (matmul dot_S256x128_S256x128_S256x256_1_1_0_0_n_n none q
        (shapeCast S256x128 k shapeCasts_S1x256x128_S256x128 : FVec F S256x128 .bf16) (constant S256x256 .f32 0x00000000#32))
      (select w
        (mulf (shapeCast S256x256 b shapeCasts_S1x256x256_S256x256 : FVec F S256x256 .f32)
          (broadcast S256x256 (Named.named κ "log2e" 0x3FB8AA3B#32)))
        (broadcast S256x256 (Named.named κ "mask" 0xF149F2CA#32))))
    (broadcast S256x256 (Named.named κ "mask" 0xF149F2CA#32))

/-- The row maximum over the three score blocks. -/
def mrow (s0 s1 s2 : FVec F S256x256 .f32) : FVec F S256x1 .f32 :=
  shapeCast S256x1 (multiReduction .maximumf [1] S256 (maximumf (maximumf s0 s1) s2) 0xFF800000#32
    reduces_S256x256_S256 (.inl rfl) rfl) shapeCasts_S256_S256x1

/-- The weights of one block: powers of two of the scores less the row maximum. -/
def pblk (s : FVec F S256x256 .f32) (m : FVec F S256x1 .f32) : FVec F S256x256 .f32 :=
  exp2 (subf s (broadcastTo S256x256 m broadcasts_S256x1_S256x256))

/-- The row sum of the three weight blocks. -/
def lrow (p0 p1 p2 : FVec F S256x256 .f32) : FVec F S256x1 .f32 :=
  shapeCast S256x1 (multiReduction .add [1] S256 (addf (addf p0 p1) p2) 0x00000000#32
    reduces_S256x256_S256 (.inl rfl) rfl) shapeCasts_S256_S256x1

/-- Weights times values of one block. -/
def pv (p : FVec F S256x256 .f32) (v : Vec F S1x256x128 .bf16) : FVec F S256x128 .f32 :=
  matmul dot_S256x256_S256x128_S256x128_1_0_0_1_n_n none (truncf .bf16 p bitsLt_bf16_f32)
    (shapeCast S256x128 v shapeCasts_S1x256x128_S256x128 : FVec F S256x128 .bf16) (constant S256x128 .f32 0x00000000#32)

/-- One head's output from its three score blocks and value blocks. -/
def attn (s0 s1 s2 : FVec F S256x256 .f32) (v0 v1 v2 : Vec F S1x256x128 .bf16) : FVec F S256x128 .bf16 :=
  truncf .bf16 (divf
    (addf (addf (pv (pblk s0 (mrow s0 s1 s2)) v0) (pv (pblk s1 (mrow s0 s1 s2)) v1)) (pv (pblk s2 (mrow s0 s1 s2)) v2))
    (broadcastTo S256x128
      (lrow (pblk s0 (mrow s0 s1 s2)) (pblk s1 (mrow s0 s1 s2)) (pblk s2 (mrow s0 s1 s2))) broadcasts_S256x1_S256x128))
    bitsLt_bf16_f32

/-- One head's output from the blocks it loads. -/
def headOut (a : BitVec 32) (qw : Vec F S1x128 .f32) (x : Vec F S256x128 .f32) (k0 k1 k2 : Vec F S1x256x128 .bf16)
    (b0 b1 b2 : Vec F S1x256x256 .f32) (v0 v1 v2 : Vec F S1x256x128 .bf16) : FVec F S256x128 .bf16 :=
  attn (sblk (Scalar.cmpi .sge a 2#32) (band 0#32) (qn qw x) k0 b0) (sblk (Scalar.cmpi .sge a 1#32) (band 256#32) (qn qw x) k1 b1)
    (sblk (Scalar.cmpi .sge a 0#32) (band 512#32) (qn qw x) k2 b2) v0 v1 v2

/-- Head `h`'s output at grid point `i`, from the query block, the bias table, the query weights and the two rings. -/
def headAt (i : grid0.Coords) (x0 : Vec F S256x1024 .f32) (x3 : Vec F S8x256x768 .f32) (x4 : Vec F S1x128 .f32)
    (yk yv : Vec F S3x256x1024 .bf16) (h : Fin 8) : FVec F S256x128 .bf16 :=
  headOut (BitVec.ofNat 32 (i 0).val) x4 (hcols x0 h)
    (slice3 yk (slot i 0) h) (slice3 yk (slot i 1) h) (slice3 yk (slot i 2) h)
    (btile x3 h 0) (btile x3 h 1) (btile x3 h 2)
    (slice3 yv (slot i 0) h) (slice3 yv (slot i 1) h) (slice3 yv (slot i 2) h)

/-- The ring of keys after grid point `i` filed its block `x1` (weights `x5`) over the ring `y`. -/
def knew (i : grid0.Coords) (x1 : Vec F S256x1024 .f32) (x5 : Vec F S1x128 .f32) (y : Vec F S3x256x1024 .bf16) :
    Vec F S3x256x1024 .bf16 :=
  fun j => if (j 0).val = (slot i 2).val then
      kn x5 (hcols x1 ⟨(j 2).val / 128, by have h2 : (j 2).val < 1024 := (j 2).isLt; omega⟩)
        (ix3 0 (j 1) ⟨(j 2).val % 128, Nat.mod_lt _ (by decide)⟩)
    else y j

/-- The ring of values after grid point `i` filed its block `x2` over the ring `y`. -/
def vnew (i : grid0.Coords) (x2 : Vec F S256x1024 .f32) (y : Vec F S3x256x1024 .bf16) : Vec F S3x256x1024 .bf16 :=
  fun j => if (j 0).val = (slot i 2).val then (truncf .bf16 (x2 : FVec F S256x1024 .f32) bitsLt_bf16_f32 : FVec F S256x1024 .bf16) (ix2 (j 1) (j 2)) else y j

/-- The output block of grid point `i`, from the rings as the point leaves them. -/
def oblk (i : grid0.Coords) (x0 : Vec F S256x1024 .f32) (x3 : Vec F S8x256x768 .f32) (x4 : Vec F S1x128 .f32)
    (yk yv : Vec F S3x256x1024 .bf16) : Vec F S256x1024 .bf16 :=
  fun j => headAt i x0 x3 x4 yk yv ⟨(j 1).val / 128, by have h2 := idx2_lt1 j; omega⟩
    (ix2 (j 0) ⟨(j 1).val % 128, Nat.mod_lt _ (by decide)⟩)

/-! ## Loads and stores of one head's columns -/

open Idealize.ShloMosaic.View in
theorem ld_hcols {e : EltTy} (x : Vec F S256x1024 e) (h : Fin 8) (off : Fin 2 → ℕ) (inb) (ho : off = ![0, 128 * h.val]) :
    ld (Val := Elt F) x (Rect.unit (s := S256x1024) off S256x128.size inb) = hcols x h := by
  subst ho
  funext j
  refine congrArg x (funext fun a => ?_)
  match a with
  | ⟨0, _⟩ => exact Fin.ext (by show 0 + 1 * (j 0).val = (j 0).val; omega)
  | ⟨1, _⟩ => exact Fin.ext (by show 128 * h.val + 1 * (j 1).val = 128 * h.val + (j 1).val; omega)

open Idealize.ShloMosaic.View in
theorem ld_slice3 (y : Vec F S3x256x1024 .bf16) (s : Fin 3) (h : Fin 8) (off : Fin 3 → ℕ) (inb)
    (ho : off = ![s.val, 0, 128 * h.val]) :
    ld (Val := Elt F) y (Rect.unit (s := S3x256x1024) off S1x256x128.size inb) = slice3 y s h := by
  subst ho
  funext j
  have h0 : (j 0).val = 0 := by have : (j 0).val < 1 := (j 0).isLt; omega
  refine congrArg y (funext fun a => ?_)
  match a with
  | ⟨0, _⟩ => exact Fin.ext (by show s.val + 1 * (j 0).val = s.val; omega)
  | ⟨1, _⟩ => exact Fin.ext (by show 0 + 1 * (j 1).val = (j 1).val; omega)
  | ⟨2, _⟩ => exact Fin.ext (by show 128 * h.val + 1 * (j 2).val = 128 * h.val + (j 2).val; omega)

open Idealize.ShloMosaic.View in
theorem ld_btile (x : Vec F S8x256x768 .f32) (h : Fin 8) (b : Fin 3) (off : Fin 3 → ℕ) (inb)
    (ho : off = ![h.val, 0, 256 * b.val]) :
    ld (Val := Elt F) x (Rect.unit (s := S8x256x768) off S1x256x256.size inb) = btile x h b := by
  subst ho
  funext j
  have h0 : (j 0).val = 0 := by have : (j 0).val < 1 := (j 0).isLt; omega
  refine congrArg x (funext fun a => ?_)
  match a with
  | ⟨0, _⟩ => exact Fin.ext (by show h.val + 1 * (j 0).val = h.val; omega)
  | ⟨1, _⟩ => exact Fin.ext (by show 0 + 1 * (j 1).val = (j 1).val; omega)
  | ⟨2, _⟩ => exact Fin.ext (by show 256 * b.val + 1 * (j 2).val = 256 * b.val + (j 2).val; omega)

open Idealize.ShloMosaic.View in
theorem mem_set_unit_of {S : Shape} {off size : Fin S.rank → ℕ} (inb : ∀ a, off a + size a ≤ S.size a) (y : S.Idx)
    (h : ∀ a, off a ≤ (y a).val ∧ (y a).val < off a + size a) : y ∈ (Rect.unit off size inb).set := by
  rw [Rect.mem_set_unit]; exact h

/-- A list of writes whose payloads agree with one function `G` reads `G` at an index one of them covers; -/
theorem read_writes_of_pieces {S : Shape} {sig : RefSig} {k : Kind} {sp : Space} {e : EltTy} [∀ e, Nonempty (Elt F e)]
    (v : View sig k sp S e) (f : v.ty.Contents (Elt F)) (L : List (View.Piece (Elt F) S e)) (G : S.Idx → Elt F e)
    (hG : ∀ p ∈ L, ∀ x : p.1.shape.Idx, p.2 x = G (p.1.emb x)) (y : S.Idx) (hy : ∃ p ∈ L, y ∈ p.1.set) :
    v.read (Elt F) (v.writes (Elt F) f L) y = G y :=
  (View.read_writes_apply_eq_canon v f y L hy).trans (View.canon_apply_of_pieces G L hG y hy)

/-- and what the buffer held before at an index none of them covers. -/
theorem read_writes_of_off {S : Shape} {sig : RefSig} {k : Kind} {sp : Space} {e : EltTy}
    (v : View sig k sp S e) (f : v.ty.Contents (Elt F)) (y : S.Idx) :
    ∀ L : List (View.Piece (Elt F) S e), (∀ p ∈ L, y ∉ p.1.set) →
      v.read (Elt F) (v.writes (Elt F) f L) y = v.read (Elt F) f y
  | [], _ => rfl
  | p :: L, h => by
    rw [View.writes_cons, View.read_slice_write_of_not_mem p.1 _ _ _
      (by rw [Rect.map_emb_univ]; exact h p (List.mem_cons_self))]
    exact read_writes_of_off v f y L fun q hq => h q (List.mem_cons_of_mem _ hq)

end Cert.KernelIdeal.Att

end
-- ==== Proof.Att.Read.lean ====
/- Reads of a ring or of an output block after a grid point's stores: the stores of the eight heads' columns read back as
   one function of the block. -/
module

public import proofs.«01_k».proof.Proof.Att.Body

@[expose] public section

noncomputable section

namespace Cert.KernelIdeal.Att

open Cert.KernelIdeal Cert.KernelIdeal.Gen
open Idealize.ShloMosaic Idealize.ShloMosaic.ValueIdx Idealize.SL.Sem

variable {F : FTy → Type} [FloatOps F] [Named F]

/-- Head `h`'s columns of the output block. -/
theorem oblk_emb (i : grid0.Coords) (x0 : Vec F S256x1024 .f32) (x3 : Vec F S8x256x768 .f32) (x4 : Vec F S1x128 .f32)
    (yk yv : Vec F S3x256x1024 .bf16) (h : Fin 8) (off : Fin 2 → ℕ) (inb) (ho : off = ![0, 128 * h.val]) (x : S256x128.Idx) :
    oblk i x0 x3 x4 yk yv ((Rect.unit (s := S256x1024) off S256x128.size inb).emb x) = headAt i x0 x3 x4 yk yv h x := by
  subst ho
  have hx := idx2_lt1 x
  have e1 : (((Rect.unit (s := S256x1024) ![0, 128 * h.val] S256x128.size inb).emb x) 1).val = 128 * h.val + (x 1).val := by
    show 128 * h.val + 1 * (x 1).val = _; omega
  have e0 : (((Rect.unit (s := S256x1024) ![0, 128 * h.val] S256x128.size inb).emb x) 0).val = (x 0).val := by
    show 0 + 1 * (x 0).val = _; omega
  have eh : (⟨(((Rect.unit (s := S256x1024) ![0, 128 * h.val] S256x128.size inb).emb x) 1).val / 128, by
      have h2 := idx2_lt1 ((Rect.unit (s := S256x1024) ![0, 128 * h.val] S256x128.size inb).emb x); omega⟩ : Fin 8) = h :=
    Fin.ext (by simp only [e1]; omega)
  unfold oblk
  rw [eh]
  refine congrArg _ (funext fun a => ?_)
  match a with
  | ⟨0, _⟩ => exact Fin.ext e0
  | ⟨1, _⟩ => exact Fin.ext (by show _ % 128 = (x 1).val; rw [e1]; omega)

/-- The eight stores of the output block read back. -/
theorem oblk_read (i : grid0.Coords) (x0 : Vec F S256x1024 .f32) (x3 : Vec F S8x256x768 .f32) (x4 : Vec F S1x128 .f32)
    (yk yv : Vec F S3x256x1024 .bf16) {sig : RefSig} {k : Kind} {sp : Space} (v : View sig k sp S256x1024 .bf16)
    (f : v.ty.Contents (Elt F)) {w0 w1 w2 w3 w4 w5 w6 w7 : S256x128.Idx → Elt F .bf16}
    (h0 : w0 = headAt i x0 x3 x4 yk yv 0) (h1 : w1 = headAt i x0 x3 x4 yk yv 1) (h2 : w2 = headAt i x0 x3 x4 yk yv 2)
    (h3 : w3 = headAt i x0 x3 x4 yk yv 3) (h4 : w4 = headAt i x0 x3 x4 yk yv 4) (h5 : w5 = headAt i x0 x3 x4 yk yv 5)
    (h6 : w6 = headAt i x0 x3 x4 yk yv 6) (h7 : w7 = headAt i x0 x3 x4 yk yv 7) :
    v.read (Elt F) (v.writes (Elt F) f
      [⟨Rect.unit ![0, 896] S256x128.size inb_S256x1024_S256x128_0_896, w7⟩,
       ⟨Rect.unit ![0, 768] S256x128.size inb_S256x1024_S256x128_0_768, w6⟩,
       ⟨Rect.unit ![0, 640] S256x128.size inb_S256x1024_S256x128_0_640, w5⟩,
       ⟨Rect.unit ![0, 512] S256x128.size inb_S256x1024_S256x128_0_512, w4⟩,
       ⟨Rect.unit ![0, 384] S256x128.size inb_S256x1024_S256x128_0_384, w3⟩,
       ⟨Rect.unit ![0, 256] S256x128.size inb_S256x1024_S256x128_0_256, w2⟩,
       ⟨Rect.unit ![0, 128] S256x128.size inb_S256x1024_S256x128_0_128, w1⟩,
       ⟨Rect.unit ![0, 0] S256x128.size inb_S256x1024_S256x128_0_0, w0⟩]) = oblk i x0 x3 x4 yk yv := by
  subst h0 h1 h2 h3 h4 h5 h6 h7
  funext y
  refine read_writes_of_pieces v f _ _ ?_ y ?_
  · intro p hp x
    simp only [List.mem_cons, List.not_mem_nil, or_false] at hp
    rcases hp with rfl | rfl | rfl | rfl | rfl | rfl | rfl | rfl
    · exact (oblk_emb i x0 x3 x4 yk yv 7 _ inb_S256x1024_S256x128_0_896 rfl x).symm
    · exact (oblk_emb i x0 x3 x4 yk yv 6 _ inb_S256x1024_S256x128_0_768 rfl x).symm
    · exact (oblk_emb i x0 x3 x4 yk yv 5 _ inb_S256x1024_S256x128_0_640 rfl x).symm
    · exact (oblk_emb i x0 x3 x4 yk yv 4 _ inb_S256x1024_S256x128_0_512 rfl x).symm
    · exact (oblk_emb i x0 x3 x4 yk yv 3 _ inb_S256x1024_S256x128_0_384 rfl x).symm
    · exact (oblk_emb i x0 x3 x4 yk yv 2 _ inb_S256x1024_S256x128_0_256 rfl x).symm
    · exact (oblk_emb i x0 x3 x4 yk yv 1 _ inb_S256x1024_S256x128_0_128 rfl x).symm
    · exact (oblk_emb i x0 x3 x4 yk yv 0 _ inb_S256x1024_S256x128_0_0 rfl x).symm
  · have hy0 := idx2_lt0 y
    have hy1 := idx2_lt1 y
    have hc : ∀ (o : ℕ) (inb), o ≤ (y 1).val ∧ (y 1).val < o + 128 →
        y ∈ (Rect.unit (s := S256x1024) ![0, o] S256x128.size inb).set := fun o inb ho => by
      refine mem_set_unit_of inb y (Fin.forall_fin_two.mpr ⟨⟨Nat.zero_le _, ?_⟩, ho⟩)
      show (y 0).val < 0 + 256
      omega
    rcases (by omega : (y 1).val / 128 = 7 ∨ (y 1).val / 128 = 6 ∨ (y 1).val / 128 = 5 ∨ (y 1).val / 128 = 4
      ∨ (y 1).val / 128 = 3 ∨ (y 1).val / 128 = 2 ∨ (y 1).val / 128 = 1 ∨ (y 1).val / 128 = 0) with e | e | e | e | e | e | e | e
    · exact ⟨_, .head _, hc _ inb_S256x1024_S256x128_0_896 (by omega)⟩
    · exact ⟨_, .tail _ (.head _), hc _ inb_S256x1024_S256x128_0_768 (by omega)⟩
    · exact ⟨_, .tail _ (.tail _ (.head _)), hc _ inb_S256x1024_S256x128_0_640 (by omega)⟩
    · exact ⟨_, .tail _ (.tail _ (.tail _ (.head _))), hc _ inb_S256x1024_S256x128_0_512 (by omega)⟩
    · exact ⟨_, .tail _ (.tail _ (.tail _ (.tail _ (.head _)))), hc _ inb_S256x1024_S256x128_0_384 (by omega)⟩
    · exact ⟨_, .tail _ (.tail _ (.tail _ (.tail _ (.tail _ (.head _))))), hc _ inb_S256x1024_S256x128_0_256 (by omega)⟩
    · exact ⟨_, .tail _ (.tail _ (.tail _ (.tail _ (.tail _ (.tail _ (.head _)))))), hc _ inb_S256x1024_S256x128_0_128 (by omega)⟩
    · exact ⟨_, .tail _ (.tail _ (.tail _ (.tail _ (.tail _ (.tail _ (.tail _ (.head _))))))), hc _ inb_S256x1024_S256x128_0_0 (by omega)⟩

/-- Head `h`'s columns of the newest slot of the key ring. -/
theorem knew_emb (i : grid0.Coords) (x1 : Vec F S256x1024 .f32) (x5 : Vec F S1x128 .f32) (y : Vec F S3x256x1024 .bf16)
    (h : Fin 8) (off : Fin 3 → ℕ) (inb) (ho : off = ![(slot i 2).val, 0, 128 * h.val]) (x : S1x256x128.Idx) :
    knew i x1 x5 y ((Rect.unit (s := S3x256x1024) off S1x256x128.size inb).emb x) = kn x5 (hcols x1 h) x := by
  subst ho
  have hx0 : (x 0).val < 1 := (x 0).isLt
  have hx2 : (x 2).val < 128 := (x 2).isLt
  have e0 : (((Rect.unit (s := S3x256x1024) ![(slot i 2).val, 0, 128 * h.val] S1x256x128.size inb).emb x) 0).val = (slot i 2).val := by
    show (slot i 2).val + 1 * (x 0).val = _; omega
  have e1 : (((Rect.unit (s := S3x256x1024) ![(slot i 2).val, 0, 128 * h.val] S1x256x128.size inb).emb x) 1).val = (x 1).val := by
    show 0 + 1 * (x 1).val = _; omega
  have e2 : (((Rect.unit (s := S3x256x1024) ![(slot i 2).val, 0, 128 * h.val] S1x256x128.size inb).emb x) 2).val
      = 128 * h.val + (x 2).val := by
    show 128 * h.val + 1 * (x 2).val = _; omega
  have eh : (⟨(((Rect.unit (s := S3x256x1024) ![(slot i 2).val, 0, 128 * h.val] S1x256x128.size inb).emb x) 2).val / 128, by
      rw [e2]; have := h.isLt; omega⟩ : Fin 8) = h := Fin.ext (by simp only [e2]; omega)
  unfold knew
  rw [if_pos e0, eh]
  refine congrArg _ (funext fun a => ?_)
  match a with
  | ⟨0, _⟩ => exact Fin.ext (by show 0 = (x 0).val; omega)
  | ⟨1, _⟩ => exact Fin.ext e1
  | ⟨2, _⟩ => exact Fin.ext (by show _ % 128 = (x 2).val; rw [e2]; omega)

/-- The eight stores of the newest slot of the key ring read back over what earlier stores `L'` left. -/
theorem kring_read (i : grid0.Coords) (x1 : Vec F S256x1024 .f32) (x5 : Vec F S1x128 .f32)
    {sig : RefSig} {k : Kind} {sp : Space} (v : View sig k sp S3x256x1024 .bf16)
    (f : v.ty.Contents (Elt F)) {w0 w1 w2 w3 w4 w5 w6 w7 : S1x256x128.Idx → Elt F .bf16}
    (h0 : w0 = kn x5 (hcols x1 0)) (h1 : w1 = kn x5 (hcols x1 1)) (h2 : w2 = kn x5 (hcols x1 2)) (h3 : w3 = kn x5 (hcols x1 3))
    (h4 : w4 = kn x5 (hcols x1 4)) (h5 : w5 = kn x5 (hcols x1 5)) (h6 : w6 = kn x5 (hcols x1 6)) (h7 : w7 = kn x5 (hcols x1 7))
    {L L' : List (View.Piece (Elt F) S3x256x1024 .bf16)}
    (hL : L = [⟨Rect.unit (k0_off8 i 2#32) S1x256x128.size (k0_off8_inb i 2), w7⟩,
       ⟨Rect.unit (k0_off7 i 2#32) S1x256x128.size (k0_off7_inb i 2), w6⟩,
       ⟨Rect.unit (k0_off6 i 2#32) S1x256x128.size (k0_off6_inb i 2), w5⟩,
       ⟨Rect.unit (k0_off5 i 2#32) S1x256x128.size (k0_off5_inb i 2), w4⟩,
       ⟨Rect.unit (k0_off4 i 2#32) S1x256x128.size (k0_off4_inb i 2), w3⟩,
       ⟨Rect.unit (k0_off3 i 2#32) S1x256x128.size (k0_off3_inb i 2), w2⟩,
       ⟨Rect.unit (k0_off2 i 2#32) S1x256x128.size (k0_off2_inb i 2), w1⟩,
       ⟨Rect.unit (k0_off1 i 2#32) S1x256x128.size (k0_off1_inb i 2), w0⟩] ++ L')
    (y : Vec F S3x256x1024 .bf16) (hy : v.read (Elt F) (v.writes (Elt F) f L') = y) :
    v.read (Elt F) (v.writes (Elt F) f L) = knew i x1 x5 y := by
  subst h0 h1 h2 h3 h4 h5 h6 h7 hL hy
  rw [View.writes_append]
  generalize v.writes (Elt F) f L' = f
  funext j
  have hj1 : (j 1).val < 256 := (j 1).isLt
  have hj2 : (j 2).val < 1024 := (j 2).isLt
  by_cases hs : (j 0).val = (slot i 2).val
  · refine read_writes_of_pieces v f _ _ ?_ j ?_
    · intro p hp x
      simp only [List.mem_cons, List.not_mem_nil, or_false] at hp
      rcases hp with rfl | rfl | rfl | rfl | rfl | rfl | rfl | rfl
      · exact (knew_emb i x1 x5 _ 7 _ (k0_off8_inb i 2) (k0_off8_eq i 2) x).symm
      · exact (knew_emb i x1 x5 _ 6 _ (k0_off7_inb i 2) (k0_off7_eq i 2) x).symm
      · exact (knew_emb i x1 x5 _ 5 _ (k0_off6_inb i 2) (k0_off6_eq i 2) x).symm
      · exact (knew_emb i x1 x5 _ 4 _ (k0_off5_inb i 2) (k0_off5_eq i 2) x).symm
      · exact (knew_emb i x1 x5 _ 3 _ (k0_off4_inb i 2) (k0_off4_eq i 2) x).symm
      · exact (knew_emb i x1 x5 _ 2 _ (k0_off3_inb i 2) (k0_off3_eq i 2) x).symm
      · exact (knew_emb i x1 x5 _ 1 _ (k0_off2_inb i 2) (k0_off2_eq i 2) x).symm
      · exact (knew_emb i x1 x5 _ 0 _ (k0_off1_inb i 2) (k0_off1_eq i 2) x).symm
    · have hc : ∀ (off : Fin 3 → ℕ) (inb) (o : ℕ), off = ![(slot i 2).val, 0, o] → o ≤ (j 2).val ∧ (j 2).val < o + 128 →
          j ∈ (Rect.unit (s := S3x256x1024) off S1x256x128.size inb).set := fun off inb o ho h2 => by
        subst ho
        refine mem_set_unit_of inb j fun a => ?_
        match a with
        | ⟨0, _⟩ => exact ⟨by show (slot i 2).val ≤ (j 0).val; omega, by show (j 0).val < (slot i 2).val + 1; omega⟩
        | ⟨1, _⟩ => exact ⟨Nat.zero_le _, by show (j 1).val < 0 + 256; omega⟩
        | ⟨2, _⟩ => exact h2
      rcases (by omega : (j 2).val / 128 = 7 ∨ (j 2).val / 128 = 6 ∨ (j 2).val / 128 = 5 ∨ (j 2).val / 128 = 4
        ∨ (j 2).val / 128 = 3 ∨ (j 2).val / 128 = 2 ∨ (j 2).val / 128 = 1 ∨ (j 2).val / 128 = 0) with e | e | e | e | e | e | e | e
      · exact ⟨_, .head _, hc _ (k0_off8_inb i 2) _ (k0_off8_eq i 2) (by omega)⟩
      · exact ⟨_, .tail _ (.head _), hc _ (k0_off7_inb i 2) _ (k0_off7_eq i 2) (by omega)⟩
      · exact ⟨_, .tail _ (.tail _ (.head _)), hc _ (k0_off6_inb i 2) _ (k0_off6_eq i 2) (by omega)⟩
      · exact ⟨_, .tail _ (.tail _ (.tail _ (.head _))), hc _ (k0_off5_inb i 2) _ (k0_off5_eq i 2) (by omega)⟩
      · exact ⟨_, .tail _ (.tail _ (.tail _ (.tail _ (.head _)))), hc _ (k0_off4_inb i 2) _ (k0_off4_eq i 2) (by omega)⟩
      · exact ⟨_, .tail _ (.tail _ (.tail _ (.tail _ (.tail _ (.head _))))), hc _ (k0_off3_inb i 2) _ (k0_off3_eq i 2) (by omega)⟩
      · exact ⟨_, .tail _ (.tail _ (.tail _ (.tail _ (.tail _ (.tail _ (.head _)))))), hc _ (k0_off2_inb i 2) _ (k0_off2_eq i 2) (by omega)⟩
      · exact ⟨_, .tail _ (.tail _ (.tail _ (.tail _ (.tail _ (.tail _ (.tail _ (.head _))))))), hc _ (k0_off1_inb i 2) _ (k0_off1_eq i 2) (by omega)⟩
  · rw [show knew i x1 x5 (v.read (Elt F) f) j = v.read (Elt F) f j from if_neg hs]
    refine read_writes_of_off v f j _ fun p hp hm => hs ?_
    have hc : ∀ (off : Fin 3 → ℕ) (inb) (o : ℕ), off = ![(slot i 2).val, 0, o] →
        j ∈ (Rect.unit (s := S3x256x1024) off S1x256x128.size inb).set → (j 0).val = (slot i 2).val := fun off inb o ho hm => by
      subst ho
      rw [Rect.mem_set_unit] at hm
      obtain ⟨l, u⟩ := hm 0
      have l' : (slot i 2).val ≤ (j 0).val := l
      have u' : (j 0).val < (slot i 2).val + 1 := u
      omega
    simp only [List.mem_cons, List.not_mem_nil, or_false] at hp
    rcases hp with rfl | rfl | rfl | rfl | rfl | rfl | rfl | rfl
    · exact hc _ (k0_off8_inb i 2) _ (k0_off8_eq i 2) hm
    · exact hc _ (k0_off7_inb i 2) _ (k0_off7_eq i 2) hm
    · exact hc _ (k0_off6_inb i 2) _ (k0_off6_eq i 2) hm
    · exact hc _ (k0_off5_inb i 2) _ (k0_off5_eq i 2) hm
    · exact hc _ (k0_off4_inb i 2) _ (k0_off4_eq i 2) hm
    · exact hc _ (k0_off3_inb i 2) _ (k0_off3_eq i 2) hm
    · exact hc _ (k0_off2_inb i 2) _ (k0_off2_eq i 2) hm
    · exact hc _ (k0_off1_inb i 2) _ (k0_off1_eq i 2) hm

/-- The store of the newest slot of the value ring reads back. -/
theorem vring_read (i : grid0.Coords) (x2 : Vec F S256x1024 .f32)
    {sig : RefSig} {k : Kind} {sp : Space} (v : View sig k sp S3x256x1024 .bf16)
    (f : v.ty.Contents (Elt F)) {w : S1x256x1024.Idx → Elt F .bf16}
    (hw : w = shapeCast S1x256x1024 (truncf .bf16 (x2 : FVec F S256x1024 .f32) bitsLt_bf16_f32 : FVec F S256x1024 .bf16)
      shapeCasts_S256x1024_S1x256x1024)
    {L L' : List (View.Piece (Elt F) S3x256x1024 .bf16)}
    (hL : L = [⟨Rect.unit (k0_off9 i) S1x256x1024.size (k0_off9_inb i), w⟩] ++ L')
    (y : Vec F S3x256x1024 .bf16) (hy : v.read (Elt F) (v.writes (Elt F) f L') = y) :
    v.read (Elt F) (v.writes (Elt F) f L) = vnew i x2 y := by
  subst hL hy hw
  rw [View.writes_append]
  generalize v.writes (Elt F) f L' = f
  funext j
  have hj1 : (j 1).val < 256 := (j 1).isLt
  have hj2 : (j 2).val < 1024 := (j 2).isLt
  have ho := k0_off9_eq i
  generalize k0_off9 i = off, k0_off9_inb i = inb at ho
  subst ho
  by_cases hs : (j 0).val = (slot i 2).val
  · refine read_writes_of_pieces v f _ _ ?_ j ?_
    · intro p hp x
      simp only [List.mem_cons, List.not_mem_nil, or_false] at hp
      subst hp
      have hx0 : (x 0).val < 1 := (x 0).isLt
      unfold vnew
      rw [if_pos (by show ((i 0).val + 3) % 3 + 1 * (x 0).val = ((i 0).val + 2 + 1) % 3; omega)]
      refine Eq.trans (shapeCast_addUnit_apply (α := Elt F .bf16) ![256, 1024]
        (truncf .bf16 (x2 : FVec F S256x1024 .f32) bitsLt_bf16_f32 : FVec F S256x1024 .bf16) shapeCasts_S256x1024_S1x256x1024 x) (congrArg _ (funext fun a => ?_))
      match a with
      | ⟨0, _⟩ => exact Fin.ext (by show (x 1).val = 0 + 1 * (x 1).val; omega)
      | ⟨1, _⟩ => exact Fin.ext (by show (x 2).val = 0 + 1 * (x 2).val; omega)
    · refine ⟨_, .head _, mem_set_unit_of inb j fun a => ?_⟩
      match a with
      | ⟨0, _⟩ => exact ⟨by show ((i 0).val + 3) % 3 ≤ (j 0).val; rw [hs]; exact le_refl _, by show (j 0).val < ((i 0).val + 3) % 3 + 1; rw [hs]; exact Nat.lt_succ_self _⟩
      | ⟨1, _⟩ => exact ⟨Nat.zero_le _, by show (j 1).val < 0 + 256; omega⟩
      | ⟨2, _⟩ => exact ⟨Nat.zero_le _, by show (j 2).val < 0 + 1024; omega⟩
  · rw [show vnew i x2 (v.read (Elt F) f) j = v.read (Elt F) f j from if_neg hs]
    refine read_writes_of_off v f j _ fun p hp hm => hs ?_
    simp only [List.mem_cons, List.not_mem_nil, or_false] at hp
    subst hp
    rw [Rect.mem_set_unit] at hm
    obtain ⟨l, u⟩ := hm 0
    have l' : ((i 0).val + 3) % 3 ≤ (j 0).val := l
    have u' : (j 0).val < ((i 0).val + 3) % 3 + 1 := u
    show (j 0).val = ((i 0).val + 2 + 1) % 3
    omega

end Cert.KernelIdeal.Att

end
-- ==== Proof.Att.Run.lean ====
/- One grid point of the band attention run: from the input blocks and the two rings to the output block and the two rings
   the next point finds. -/
module

public import proofs.«01_k».proof.Proof.Att.Read
public import proofs.«01_k».proof.Proof.Gen.KernelIdeal.Skeleton

@[expose] public section

set_option maxRecDepth 16384

noncomputable section

namespace Cert.KernelIdeal.Att

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.View in
theorem ld_wrow (w : Vec F S1x128 .f32) (inb) :
    ld (Val := Elt F) w (Rect.unit (s := S1x128) ![0, 0] S1x128.size inb) = w :=
  View.ld_unit_zero (S := S1x128) (funext fun a => by fin_cases a <;> rfl) _ _

open Idealize.ShloMosaic.View in
theorem ld_whole2 (x : Vec F S256x1024 .f32) (inb) :
    ld (Val := Elt F) x (Rect.unit (s := S256x1024) ![0, 0] S256x1024.size inb) = x :=
  View.ld_unit_zero (S := S256x1024) (funext fun a => by fin_cases a <;> rfl) _ _

/-- The newest slot of the key ring does not depend on what the ring held. -/
theorem slice3_knew (i : grid0.Coords) (x1 : Vec F S256x1024 .f32) (x5 : Vec F S1x128 .f32) (y y' : Vec F S3x256x1024 .bf16) (h : Fin 8) :
    slice3 (knew i x1 x5 y) (slot i 2) h = slice3 (knew i x1 x5 y') (slot i 2) h :=
  funext fun j => by unfold slice3 knew; exact (if_pos rfl).trans (if_pos rfl).symm

/-- A ring of zeros. -/
def zring : Vec F S3x256x1024 .bf16 := broadcast S3x256x1024 (Scalar.ofBits .bf16 0x0000#16)

/-- A whole ring stored reads back. -/
theorem read_zero {sig : RefSig} {k : Kind} {sp : Space} (v : View sig k sp S3x256x1024 .bf16) (f : v.ty.Contents (Elt F))
    (w : Vec F S3x256x1024 .bf16) (hw : w = zring) (inb) :
    v.read (Elt F) (v.writes (Elt F) f [⟨Rect.unit (s := S3x256x1024) ![0, 0, 0] S3x256x1024.size inb, w⟩]) = zring := by
  subst hw
  funext y
  refine read_writes_of_pieces v f _ _ ?_ y ⟨_, .head _, ?_⟩
  · intro p hp x
    simp only [List.mem_cons, List.not_mem_nil, or_false] at hp
    subst hp
    rfl
  · refine mem_set_unit_of inb y fun a => ?_
    match a with
    | ⟨0, _⟩ => exact ⟨Nat.zero_le _, by show (y 0).val < 0 + 3; have : (y 0).val < 3 := (y 0).isLt; omega⟩
    | ⟨1, _⟩ => exact ⟨Nat.zero_le _, by show (y 1).val < 0 + 256; have : (y 1).val < 256 := (y 1).isLt; omega⟩
    | ⟨2, _⟩ => exact ⟨Nat.zero_le _, by show (y 2).val < 0 + 1024; have : (y 2).val < 1024 := (y 2).isLt; omega⟩

abbrev cond0 (i : grid0.Coords) : Prop := (Scalar.cmpi .ne (Scalar.extui (Scalar.cmpi .eq (BitVec.ofNat 32 (i 0).val) 0#32)) 0#32) = 1#1

set_option maxHeartbeats 3200000 in
/-- A grid point after the first. -/
theorem run_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x256x768 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S3x256x1024 .bf16) (harg8 : arg8.IsWhole) (arg9 : Memref sig .tc .vmem S3x256x1024 .bf16) (harg9 : arg9.IsWhole) (hc0 : ¬cond0 i)
    (x0 : Vec F S256x1024 .f32) (x1 : Vec F S256x1024 .f32) (x2 : Vec F S256x1024 .f32) (x3 : Vec F S8x256x768 .f32) (x4 : Vec F S1x128 .f32) (x5 : Vec F S1x128 .f32)
    (y8 y9 : Vec F S3x256x1024 .bf16) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare y8 ∗ owns (c : Thread nD τ) arg9 fullShare y9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (oblk i x0 x3 x4 (knew i x1 x5 y8) (vnew i x2 y9)) ∗ owns (c : Thread nD τ) arg8 fullShare (knew i x1 x5 y8) ∗ owns (c : Thread nD τ) arg9 fullShare (vnew i x2 y9)) -∗ K ⟨⟩))
          ⊢ wp frame (wpE (defs₀ (F := F)) Variants.none c none) E (cc0_band_attention i arg1 harg1 arg2 harg2 arg3 harg3 arg4 harg4 arg5 harg5 arg6 harg6 arg7 harg7 arg8 harg8 arg9 harg9) K := by
    simp only [cc0_band_attention_eq_skeleton]; unfold cc0_band_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hfs0; obtain rfl := harg9.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    have hkf : ∀ f, arg8.view.read (Elt F) (arg8.view.writes (Elt F) f (run_B.sl.HS0_8 c i arg2 harg2 arg6 harg6 x1 x5)) = knew i x1 x5 (arg8.view.read (Elt F) f) := fun f => by
      refine kring_read i x1 x5 arg8.view f (L' := []) ?_ ?_ ?_ ?_ ?_ ?_ ?_ ?_ rfl _ rfl
      all_goals
        sl_unfold_run_names
        simp -proj only [View.readAt_eq_ld, harg2.read_unread, harg6.read_unread, ld_wrow]
      · rw [ld_hcols x1 0 ![0, 0] _ rfl]; rfl
      · rw [ld_hcols x1 1 ![0, 128] _ rfl]; rfl
      · rw [ld_hcols x1 2 ![0, 256] _ rfl]; rfl
      · rw [ld_hcols x1 3 ![0, 384] _ rfl]; rfl
      · rw [ld_hcols x1 4 ![0, 512] _ rfl]; rfl
      · rw [ld_hcols x1 5 ![0, 640] _ rfl]; rfl
      · rw [ld_hcols x1 6 ![0, 768] _ rfl]; rfl
      · rw [ld_hcols x1 7 ![0, 896] _ rfl]; rfl
    have hvf : ∀ f, arg9.view.read (Elt F) (arg9.view.writes (Elt F) f (run_B.sl.HS1_1 c i arg3 harg3 x2)) = vnew i x2 (arg9.view.read (Elt F) f) := fun f => by
      refine vring_read i x2 arg9.view f (L' := []) ?_ rfl _ rfl
      sl_unfold_run_names
      simp -proj only [View.readAt_eq_ld, harg3.read_unread, ld_whole2]
      rfl
    have hk : arg8.view.read (Elt F) (arg8.view.writes (Elt F) (harg8.unread y8) (run_B.sl.HS0_8 c i arg2 harg2 arg6 harg6 x1 x5)) = knew i x1 x5 y8 := by
      rw [hkf, harg8.read_unread]
    have hv : arg9.view.read (Elt F) (arg9.view.writes (Elt F) (harg9.unread y9) (run_B.sl.HS1_1 c i arg3 harg3 x2)) = vnew i x2 y9 := by
      rw [hvf, harg9.read_unread]
    isplitl [H6]
    · iexists _; isplitr; swap; · iexact H6
      ipureintro
      have hkc : ∀ B : Rect S3x256x1024, arg8.view.readCov (Val := Elt F) (run_B.sl.HS0_8 c i arg2 harg2 arg6 harg6 x1 x5) B.toLoadRect
          = View.ld (knew i x1 x5 (arg8.view.read (Elt F) arg8.view.junk)) B := fun B => congrArg (fun X => View.ld X B) (hkf _)
      have ek := slice3_knew i x1 x5 (arg8.view.read (Elt F) arg8.view.junk) y8
      revert hk hv hkc ek
      generalize knew i x1 x5 y8 = yk, vnew i x2 y9 = yv, knew i x1 x5 (arg8.view.read (Elt F) arg8.view.junk) = yk'
      intro hk hv hkc ek
      refine oblk_read i x0 x3 x4 yk yv arg7.view _ ?_ ?_ ?_ ?_ ?_ ?_ ?_ ?_
      all_goals
        revert hk hv hkc
        sl_unfold_run_names
        intro hk hv hkc
        simp -proj only [View.readAt_eq_ld, harg2.read_unread, harg3.read_unread, harg6.read_unread, ld_wrow] at hk hv hkc
        simp -proj only [View.readAt_eq_ld, hk, hv, hkc, harg1.read_unread, harg2.read_unread, harg3.read_unread, harg4.read_unread, harg5.read_unread, harg6.read_unread, ld_wrow]
      · rw [ld_hcols x0 0 ![0, 0] _ rfl, ld_btile x3 0 0 ![0, 0, 0] _ rfl, ld_btile x3 0 1 ![0, 0, 256] _ rfl, ld_btile x3 0 2 ![0, 0, 512] _ rfl,
          ld_slice3 yk (slot i 0) 0 (k0_off1 i 0#32) _ (k0_off1_eq i 0), ld_slice3 yk (slot i 1) 0 (k0_off1 i 1#32) _ (k0_off1_eq i 1),
          ld_slice3 yk' (slot i 2) 0 (k0_off1 i 2#32) _ (k0_off1_eq i 2),
          ld_slice3 yv (slot i 0) 0 (k0_off1 i 0#32) _ (k0_off1_eq i 0), ld_slice3 yv (slot i 1) 0 (k0_off1 i 1#32) _ (k0_off1_eq i 1),
          ld_slice3 yv (slot i 2) 0 (k0_off1 i 2#32) _ (k0_off1_eq i 2), ek]
        rfl
      · rw [ld_hcols x0 1 ![0, 128] _ rfl, ld_btile x3 1 0 ![1, 0, 0] _ rfl, ld_btile x3 1 1 ![1, 0, 256] _ rfl, ld_btile x3 1 2 ![1, 0, 512] _ rfl,
          ld_slice3 yk (slot i 0) 1 (k0_off2 i 0#32) _ (k0_off2_eq i 0), ld_slice3 yk (slot i 1) 1 (k0_off2 i 1#32) _ (k0_off2_eq i 1),
          ld_slice3 yk' (slot i 2) 1 (k0_off2 i 2#32) _ (k0_off2_eq i 2),
          ld_slice3 yv (slot i 0) 1 (k0_off2 i 0#32) _ (k0_off2_eq i 0), ld_slice3 yv (slot i 1) 1 (k0_off2 i 1#32) _ (k0_off2_eq i 1),
          ld_slice3 yv (slot i 2) 1 (k0_off2 i 2#32) _ (k0_off2_eq i 2), ek]
        rfl
      · rw [ld_hcols x0 2 ![0, 256] _ rfl, ld_btile x3 2 0 ![2, 0, 0] _ rfl, ld_btile x3 2 1 ![2, 0, 256] _ rfl, ld_btile x3 2 2 ![2, 0, 512] _ rfl,
          ld_slice3 yk (slot i 0) 2 (k0_off3 i 0#32) _ (k0_off3_eq i 0), ld_slice3 yk (slot i 1) 2 (k0_off3 i 1#32) _ (k0_off3_eq i 1),
          ld_slice3 yk' (slot i 2) 2 (k0_off3 i 2#32) _ (k0_off3_eq i 2),
          ld_slice3 yv (slot i 0) 2 (k0_off3 i 0#32) _ (k0_off3_eq i 0), ld_slice3 yv (slot i 1) 2 (k0_off3 i 1#32) _ (k0_off3_eq i 1),
          ld_slice3 yv (slot i 2) 2 (k0_off3 i 2#32) _ (k0_off3_eq i 2), ek]
        rfl
      · rw [ld_hcols x0 3 ![0, 384] _ rfl, ld_btile x3 3 0 ![3, 0, 0] _ rfl, ld_btile x3 3 1 ![3, 0, 256] _ rfl, ld_btile x3 3 2 ![3, 0, 512] _ rfl,
          ld_slice3 yk (slot i 0) 3 (k0_off4 i 0#32) _ (k0_off4_eq i 0), ld_slice3 yk (slot i 1) 3 (k0_off4 i 1#32) _ (k0_off4_eq i 1),
          ld_slice3 yk' (slot i 2) 3 (k0_off4 i 2#32) _ (k0_off4_eq i 2),
          ld_slice3 yv (slot i 0) 3 (k0_off4 i 0#32) _ (k0_off4_eq i 0), ld_slice3 yv (slot i 1) 3 (k0_off4 i 1#32) _ (k0_off4_eq i 1),
          ld_slice3 yv (slot i 2) 3 (k0_off4 i 2#32) _ (k0_off4_eq i 2), ek]
        rfl
      · rw [ld_hcols x0 4 ![0, 512] _ rfl, ld_btile x3 4 0 ![4, 0, 0] _ rfl, ld_btile x3 4 1 ![4, 0, 256] _ rfl, ld_btile x3 4 2 ![4, 0, 512] _ rfl,
          ld_slice3 yk (slot i 0) 4 (k0_off5 i 0#32) _ (k0_off5_eq i 0), ld_slice3 yk (slot i 1) 4 (k0_off5 i 1#32) _ (k0_off5_eq i 1),
          ld_slice3 yk' (slot i 2) 4 (k0_off5 i 2#32) _ (k0_off5_eq i 2),
          ld_slice3 yv (slot i 0) 4 (k0_off5 i 0#32) _ (k0_off5_eq i 0), ld_slice3 yv (slot i 1) 4 (k0_off5 i 1#32) _ (k0_off5_eq i 1),
          ld_slice3 yv (slot i 2) 4 (k0_off5 i 2#32) _ (k0_off5_eq i 2), ek]
        rfl
      · rw [ld_hcols x0 5 ![0, 640] _ rfl, ld_btile x3 5 0 ![5, 0, 0] _ rfl, ld_btile x3 5 1 ![5, 0, 256] _ rfl, ld_btile x3 5 2 ![5, 0, 512] _ rfl,
          ld_slice3 yk (slot i 0) 5 (k0_off6 i 0#32) _ (k0_off6_eq i 0), ld_slice3 yk (slot i 1) 5 (k0_off6 i 1#32) _ (k0_off6_eq i 1),
          ld_slice3 yk' (slot i 2) 5 (k0_off6 i 2#32) _ (k0_off6_eq i 2),
          ld_slice3 yv (slot i 0) 5 (k0_off6 i 0#32) _ (k0_off6_eq i 0), ld_slice3 yv (slot i 1) 5 (k0_off6 i 1#32) _ (k0_off6_eq i 1),
          ld_slice3 yv (slot i 2) 5 (k0_off6 i 2#32) _ (k0_off6_eq i 2), ek]
        rfl
      · rw [ld_hcols x0 6 ![0, 768] _ rfl, ld_btile x3 6 0 ![6, 0, 0] _ rfl, ld_btile x3 6 1 ![6, 0, 256] _ rfl, ld_btile x3 6 2 ![6, 0, 512] _ rfl,
          ld_slice3 yk (slot i 0) 6 (k0_off7 i 0#32) _ (k0_off7_eq i 0), ld_slice3 yk (slot i 1) 6 (k0_off7 i 1#32) _ (k0_off7_eq i 1),
          ld_slice3 yk' (slot i 2) 6 (k0_off7 i 2#32) _ (k0_off7_eq i 2),
          ld_slice3 yv (slot i 0) 6 (k0_off7 i 0#32) _ (k0_off7_eq i 0), ld_slice3 yv (slot i 1) 6 (k0_off7 i 1#32) _ (k0_off7_eq i 1),
          ld_slice3 yv (slot i 2) 6 (k0_off7 i 2#32) _ (k0_off7_eq i 2), ek]
        rfl
      · rw [ld_hcols x0 7 ![0, 896] _ rfl, ld_btile x3 7 0 ![7, 0, 0] _ rfl, ld_btile x3 7 1 ![7, 0, 256] _ rfl, ld_btile x3 7 2 ![7, 0, 512] _ rfl,
          ld_slice3 yk (slot i 0) 7 (k0_off8 i 0#32) _ (k0_off8_eq i 0), ld_slice3 yk (slot i 1) 7 (k0_off8 i 1#32) _ (k0_off8_eq i 1),
          ld_slice3 yk' (slot i 2) 7 (k0_off8 i 2#32) _ (k0_off8_eq i 2),
          ld_slice3 yv (slot i 0) 7 (k0_off8 i 0#32) _ (k0_off8_eq i 0), ld_slice3 yv (slot i 1) 7 (k0_off8 i 1#32) _ (k0_off8_eq i 1),
          ld_slice3 yv (slot i 2) 7 (k0_off8 i 2#32) _ (k0_off8_eq i 2), ek]
        rfl
    isplitl [HS0]
    · iexists _; isplitr; swap; · iexact HS0
      ipureintro
      exact hk
    iexists _; isplitr; swap; · iexact HS1
    ipureintro
    exact hv

set_option maxHeartbeats 3200000 in
/-- The first grid point: the rings are cleared first. -/
theorem run_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x256x768 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S3x256x1024 .bf16) (harg8 : arg8.IsWhole) (arg9 : Memref sig .tc .vmem S3x256x1024 .bf16) (harg9 : arg9.IsWhole) (hc0 : cond0 i)
    (x0 : Vec F S256x1024 .f32) (x1 : Vec F S256x1024 .f32) (x2 : Vec F S256x1024 .f32) (x3 : Vec F S8x256x768 .f32) (x4 : Vec F S1x128 .f32) (x5 : Vec F S1x128 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (oblk i x0 x3 x4 (knew i x1 x5 zring) (vnew i x2 zring)) ∗ owns (c : Thread nD τ) arg8 fullShare (knew i x1 x5 zring) ∗ owns (c : Thread nD τ) arg9 fullShare (vnew i x2 zring)) -∗ K ⟨⟩))
          ⊢ wp frame (wpE (defs₀ (F := F)) Variants.none c none) E (cc0_band_attention i arg1 harg1 arg2 harg2 arg3 harg3 arg4 harg4 arg5 harg5 arg6 harg6 arg7 harg7 arg8 harg8 arg9 harg9) K := by
    simp only [cc0_band_attention_eq_skeleton]; unfold cc0_band_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    have hkf : ∀ f, arg8.view.read (Elt F) (arg8.view.writes (Elt F) f (run_A.sl.HS0_9 c i arg2 harg2 arg6 harg6 x1 x5)) = knew i x1 x5 zring := fun f => by
      refine kring_read i x1 x5 arg8.view f ?_ ?_ ?_ ?_ ?_ ?_ ?_ ?_ rfl zring (read_zero _ _ _ rfl _)
      all_goals
        sl_unfold_run_names
        simp -proj only [View.readAt_eq_ld, harg2.read_unread, harg6.read_unread, ld_wrow]
      · rw [ld_hcols x1 0 ![0, 0] _ rfl]; rfl
      · rw [ld_hcols x1 1 ![0, 128] _ rfl]; rfl
      · rw [ld_hcols x1 2 ![0, 256] _ rfl]; rfl
      · rw [ld_hcols x1 3 ![0, 384] _ rfl]; rfl
      · rw [ld_hcols x1 4 ![0, 512] _ rfl]; rfl
      · rw [ld_hcols x1 5 ![0, 640] _ rfl]; rfl
      · rw [ld_hcols x1 6 ![0, 768] _ rfl]; rfl
      · rw [ld_hcols x1 7 ![0, 896] _ rfl]; rfl
    have hvf : ∀ f, arg9.view.read (Elt F) (arg9.view.writes (Elt F) f (run_A.sl.HS1_2 c i arg3 harg3 x2)) = vnew i x2 zring := fun f => by
      refine vring_read i x2 arg9.view f ?_ rfl zring (read_zero _ _ _ rfl _)
      sl_unfold_run_names
      simp -proj only [View.readAt_eq_ld, harg3.read_unread, ld_whole2]
      rfl
    isplitl [H6]
    · iexists _; isplitr; swap; · iexact H6
      ipureintro
      have hkc : ∀ B : Rect S3x256x1024, arg8.view.readCov (Val := Elt F) (run_A.sl.HS0_9 c i arg2 harg2 arg6 harg6 x1 x5) B.toLoadRect
          = View.ld (knew i x1 x5 zring) B := fun B => congrArg (fun X => View.ld X B) (hkf _)
      have hk := hkf fs0
      have hv := hvf fs1
      revert hk hv hkc
      generalize knew i x1 x5 zring = yk, vnew i x2 zring = yv
      intro hk hv hkc
      refine oblk_read i x0 x3 x4 yk yv arg7.view _ ?_ ?_ ?_ ?_ ?_ ?_ ?_ ?_
      all_goals
        revert hk hv hkc
        sl_unfold_run_names
        intro hk hv hkc
        simp -proj only [View.readAt_eq_ld, harg2.read_unread, harg3.read_unread, harg6.read_unread, ld_wrow] at hk hv hkc
        simp -proj only [View.readAt_eq_ld, hk, hv, hkc, harg1.read_unread, harg2.read_unread, harg3.read_unread, harg4.read_unread, harg5.read_unread, harg6.read_unread, ld_wrow]
      · rw [ld_hcols x0 0 ![0, 0] _ rfl, ld_btile x3 0 0 ![0, 0, 0] _ rfl, ld_btile x3 0 1 ![0, 0, 256] _ rfl, ld_btile x3 0 2 ![0, 0, 512] _ rfl,
          ld_slice3 yk (slot i 0) 0 (k0_off1 i 0#32) _ (k0_off1_eq i 0), ld_slice3 yk (slot i 1) 0 (k0_off1 i 1#32) _ (k0_off1_eq i 1),
          ld_slice3 yk (slot i 2) 0 (k0_off1 i 2#32) _ (k0_off1_eq i 2),
          ld_slice3 yv (slot i 0) 0 (k0_off1 i 0#32) _ (k0_off1_eq i 0), ld_slice3 yv (slot i 1) 0 (k0_off1 i 1#32) _ (k0_off1_eq i 1),
          ld_slice3 yv (slot i 2) 0 (k0_off1 i 2#32) _ (k0_off1_eq i 2)]
        rfl
      · rw [ld_hcols x0 1 ![0, 128] _ rfl, ld_btile x3 1 0 ![1, 0, 0] _ rfl, ld_btile x3 1 1 ![1, 0, 256] _ rfl, ld_btile x3 1 2 ![1, 0, 512] _ rfl,
          ld_slice3 yk (slot i 0) 1 (k0_off2 i 0#32) _ (k0_off2_eq i 0), ld_slice3 yk (slot i 1) 1 (k0_off2 i 1#32) _ (k0_off2_eq i 1),
          ld_slice3 yk (slot i 2) 1 (k0_off2 i 2#32) _ (k0_off2_eq i 2),
          ld_slice3 yv (slot i 0) 1 (k0_off2 i 0#32) _ (k0_off2_eq i 0), ld_slice3 yv (slot i 1) 1 (k0_off2 i 1#32) _ (k0_off2_eq i 1),
          ld_slice3 yv (slot i 2) 1 (k0_off2 i 2#32) _ (k0_off2_eq i 2)]
        rfl
      · rw [ld_hcols x0 2 ![0, 256] _ rfl, ld_btile x3 2 0 ![2, 0, 0] _ rfl, ld_btile x3 2 1 ![2, 0, 256] _ rfl, ld_btile x3 2 2 ![2, 0, 512] _ rfl,
          ld_slice3 yk (slot i 0) 2 (k0_off3 i 0#32) _ (k0_off3_eq i 0), ld_slice3 yk (slot i 1) 2 (k0_off3 i 1#32) _ (k0_off3_eq i 1),
          ld_slice3 yk (slot i 2) 2 (k0_off3 i 2#32) _ (k0_off3_eq i 2),
          ld_slice3 yv (slot i 0) 2 (k0_off3 i 0#32) _ (k0_off3_eq i 0), ld_slice3 yv (slot i 1) 2 (k0_off3 i 1#32) _ (k0_off3_eq i 1),
          ld_slice3 yv (slot i 2) 2 (k0_off3 i 2#32) _ (k0_off3_eq i 2)]
        rfl
      · rw [ld_hcols x0 3 ![0, 384] _ rfl, ld_btile x3 3 0 ![3, 0, 0] _ rfl, ld_btile x3 3 1 ![3, 0, 256] _ rfl, ld_btile x3 3 2 ![3, 0, 512] _ rfl,
          ld_slice3 yk (slot i 0) 3 (k0_off4 i 0#32) _ (k0_off4_eq i 0), ld_slice3 yk (slot i 1) 3 (k0_off4 i 1#32) _ (k0_off4_eq i 1),
          ld_slice3 yk (slot i 2) 3 (k0_off4 i 2#32) _ (k0_off4_eq i 2),
          ld_slice3 yv (slot i 0) 3 (k0_off4 i 0#32) _ (k0_off4_eq i 0), ld_slice3 yv (slot i 1) 3 (k0_off4 i 1#32) _ (k0_off4_eq i 1),
          ld_slice3 yv (slot i 2) 3 (k0_off4 i 2#32) _ (k0_off4_eq i 2)]
        rfl
      · rw [ld_hcols x0 4 ![0, 512] _ rfl, ld_btile x3 4 0 ![4, 0, 0] _ rfl, ld_btile x3 4 1 ![4, 0, 256] _ rfl, ld_btile x3 4 2 ![4, 0, 512] _ rfl,
          ld_slice3 yk (slot i 0) 4 (k0_off5 i 0#32) _ (k0_off5_eq i 0), ld_slice3 yk (slot i 1) 4 (k0_off5 i 1#32) _ (k0_off5_eq i 1),
          ld_slice3 yk (slot i 2) 4 (k0_off5 i 2#32) _ (k0_off5_eq i 2),
          ld_slice3 yv (slot i 0) 4 (k0_off5 i 0#32) _ (k0_off5_eq i 0), ld_slice3 yv (slot i 1) 4 (k0_off5 i 1#32) _ (k0_off5_eq i 1),
          ld_slice3 yv (slot i 2) 4 (k0_off5 i 2#32) _ (k0_off5_eq i 2)]
        rfl
      · rw [ld_hcols x0 5 ![0, 640] _ rfl, ld_btile x3 5 0 ![5, 0, 0] _ rfl, ld_btile x3 5 1 ![5, 0, 256] _ rfl, ld_btile x3 5 2 ![5, 0, 512] _ rfl,
          ld_slice3 yk (slot i 0) 5 (k0_off6 i 0#32) _ (k0_off6_eq i 0), ld_slice3 yk (slot i 1) 5 (k0_off6 i 1#32) _ (k0_off6_eq i 1),
          ld_slice3 yk (slot i 2) 5 (k0_off6 i 2#32) _ (k0_off6_eq i 2),
          ld_slice3 yv (slot i 0) 5 (k0_off6 i 0#32) _ (k0_off6_eq i 0), ld_slice3 yv (slot i 1) 5 (k0_off6 i 1#32) _ (k0_off6_eq i 1),
          ld_slice3 yv (slot i 2) 5 (k0_off6 i 2#32) _ (k0_off6_eq i 2)]
        rfl
      · rw [ld_hcols x0 6 ![0, 768] _ rfl, ld_btile x3 6 0 ![6, 0, 0] _ rfl, ld_btile x3 6 1 ![6, 0, 256] _ rfl, ld_btile x3 6 2 ![6, 0, 512] _ rfl,
          ld_slice3 yk (slot i 0) 6 (k0_off7 i 0#32) _ (k0_off7_eq i 0), ld_slice3 yk (slot i 1) 6 (k0_off7 i 1#32) _ (k0_off7_eq i 1),
          ld_slice3 yk (slot i 2) 6 (k0_off7 i 2#32) _ (k0_off7_eq i 2),
          ld_slice3 yv (slot i 0) 6 (k0_off7 i 0#32) _ (k0_off7_eq i 0), ld_slice3 yv (slot i 1) 6 (k0_off7 i 1#32) _ (k0_off7_eq i 1),
          ld_slice3 yv (slot i 2) 6 (k0_off7 i 2#32) _ (k0_off7_eq i 2)]
        rfl
      · rw [ld_hcols x0 7 ![0, 896] _ rfl, ld_btile x3 7 0 ![7, 0, 0] _ rfl, ld_btile x3 7 1 ![7, 0, 256] _ rfl, ld_btile x3 7 2 ![7, 0, 512] _ rfl,
          ld_slice3 yk (slot i 0) 7 (k0_off8 i 0#32) _ (k0_off8_eq i 0), ld_slice3 yk (slot i 1) 7 (k0_off8 i 1#32) _ (k0_off8_eq i 1),
          ld_slice3 yk (slot i 2) 7 (k0_off8 i 2#32) _ (k0_off8_eq i 2),
          ld_slice3 yv (slot i 0) 7 (k0_off8 i 0#32) _ (k0_off8_eq i 0), ld_slice3 yv (slot i 1) 7 (k0_off8 i 1#32) _ (k0_off8_eq i 1),
          ld_slice3 yv (slot i 2) 7 (k0_off8 i 2#32) _ (k0_off8_eq i 2)]
        rfl
    isplitl [HS0]
    · iexists _; isplitr; swap; · iexact HS0
      ipureintro
      exact hkf _
    iexists _; isplitr; swap; · iexact HS1
    ipureintro
    exact hvf _

end Cert.KernelIdeal.Att

end
-- ==== Proof.Att.Launch.lean ====
/- The band attention's launch: the two rings' contents before every grid point, what each point writes to the output,
   and the run of the whole program from those. The set-up follows the generated frame of a kernel with scratch buffers. -/
module

public import proofs.«01_k».proof.Proof.Att.Run
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The key ring before point `n`: cleared, then one block filed per point. -/
def ringK (c : Dev nD) : ℕ → Vec F S3x256x1024 .bf16
  | 0 => zring
  | n + 1 => if h : n < cfg0.N then knew (grid0.coords ⟨n, h⟩) (iblk m c 1 ⟨n, h⟩) (iblk m c 5 ⟨n, h⟩) (ringK c n) else ringK c n

/-- The value ring before point `n`. -/
def ringV (c : Dev nD) : ℕ → Vec F S3x256x1024 .bf16
  | 0 => zring
  | n + 1 => if h : n < cfg0.N then vnew (grid0.coords ⟨n, h⟩) (iblk m c 2 ⟨n, h⟩) (ringV c n) else ringV c n

theorem ringK_succ (c : Dev nD) (t : Fin cfg0.N) :
    ringK m c (t.val + 1) = knew (grid0.coords t) (iblk m c 1 t) (iblk m c 5 t) (ringK m c t.val) := dif_pos t.isLt

theorem ringV_succ (c : Dev nD) (t : Fin cfg0.N) :
    ringV m c (t.val + 1) = vnew (grid0.coords t) (iblk m c 2 t) (ringV m c t.val) := dif_pos t.isLt

/-- The output block of point `t`. -/
def oAt (c : Dev nD) (t : Fin cfg0.N) : Vec F S256x1024 .bf16 :=
  oblk (grid0.coords t) (iblk m c 0 t) (iblk m c 3 t) (iblk m c 4 t) (ringK m c (t.val + 1)) (ringV m c (t.val + 1))

/-- The two scratch buffers. -/
abbrev scr0 : Memref sig .tc .vmem S3x256x1024 .bf16 := Memref.whole cc0_scratch0
abbrev scr1 : Memref sig .tc .vmem S3x256x1024 .bf16 := Memref.whole cc0_scratch1

/-- What holds between points: before the first, the scratch buffers at anything; later, the rings. -/
def Phi (c : Dev nD) (n : ℕ) : sProp 𝕄 :=
  if n = 0 then Pipeline.ΦA spec0 c
  else iprop(iprop(owns (c : Thread nD τ) scr0 fullShare (ringK m c n) ∗ owns (c : Thread nD τ) scr1 fullShare (ringV m c n)) ∗ (∃ r, prngReg c r))

theorem PhiA_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

theorem Phi_zero (c : Dev nD) : Phi m c 0 = Pipeline.ΦA spec0 c := if_pos rfl

theorem Phi_pos (c : Dev nD) (n : ℕ) (h : n ≠ 0) : Phi m c n
    = iprop(iprop(owns (c : Thread nD τ) scr0 fullShare (ringK m c n) ∗ owns (c : Thread nD τ) scr1 fullShare (ringV m c n)) ∗ (∃ r, prngReg c r)) :=
  if_neg h

/-- The pipeline's data: inputs at their blocks, the output at `oAt`, the rings between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oAt m c t
  Φ n := Phi m c n.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = oAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The first-point condition, by the point's number. -/
theorem cond0_iff : ∀ t : Fin cfg0.N, cond0 (grid0.coords t) ↔ t.val = 0 :=
  (fun t => by
    have ht : t.val < 64 := Nat.lt_of_lt_of_eq t.isLt N_0
    have e0 : (grid0.coords t 0).val = t.val / 1 % 64 := Pipeline.Grid.coords_val t 0 (by decide) rfl
    have e1 : t.val = 0 ↔ t.val % 64 = 0 := by omega
    rw [e1]
    simp only [cond0, e0]
    word_cmp
   : ∀ t : Fin grid0.N, cond0 (grid0.coords t) ↔ t.val = 0)

/-- The staging buffers the body is called with. -/
abbrev st0 (t : Fin cfg0.N) : Memref sig .tc .vmem S256x1024 .f32 := win0_0.stage (cfg0.slots t 0)
abbrev st1 (t : Fin cfg0.N) : Memref sig .tc .vmem S256x1024 .f32 := win0_1.stage (cfg0.slots t 1)
abbrev st2 (t : Fin cfg0.N) : Memref sig .tc .vmem S256x1024 .f32 := win0_2.stage (cfg0.slots t 2)
abbrev st3 (t : Fin cfg0.N) : Memref sig .tc .vmem S8x256x768 .f32 := win0_3.stage (cfg0.slots t 3)
abbrev st4 (t : Fin cfg0.N) : Memref sig .tc .vmem S1x128 .f32 := win0_4.stage (cfg0.slots t 4)
abbrev st5 (t : Fin cfg0.N) : Memref sig .tc .vmem S1x128 .f32 := win0_5.stage (cfg0.slots t 5)
abbrev st6 (t : Fin cfg0.N) : Memref sig .tc .vmem S256x1024 .bf16 := win0_6.stage (cfg0.slots t 6)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t))

set_option maxHeartbeats 1600000 in
/-- The body at any point: at the first the rings are cleared, later they are as the point before left them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6]
  rw [show (dats m 0 c).Φ t.castSucc = Phi m c t.val from rfl, show (dats m 0 c).Φ t.succ = Phi m c (t.val + 1) from rfl,
    Phi_pos m c (t.val + 1) (Nat.succ_ne_zero _)]
  unfold oAt
  rw [ringK_succ, ringV_succ]
  by_cases h0 : t.val = 0
  · rw [h0, Phi_zero, PhiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (run_A c (grid0.coords t) _ _ _ _ _ _ _ _ _ _ _ _ _ _ _ _ _ _ ((cond0_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi_pos m c t.val h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (run_B c (grid0.coords t) _ _ _ _ _ _ _ _ _ _ _ _ _ _ _ _ _ _ (fun h => h0 ((cond0_iff t).mp h)) (iblk m c 0 t) (iblk m c 1 t) (iblk m c 2 t) (iblk m c 3 t) (iblk m c 4 t) (iblk m c 5 t) (ringK m c t.val) (ringV m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_out (c : Dev nD) : (dats m 0 c).Φ (Fin.last cfg0.N) ⊢ Pipeline.ΦA spec0 c := by
  rw [show (dats m 0 c).Φ (Fin.last cfg0.N) = Phi m c cfg0.N from rfl,
    Phi_pos m c cfg0.N (by rw [show cfg0.N = 64 from N_0]; decide), PhiA_eq]
  iintro ⟨⟨HS0, HS1⟩, Hg⟩
  isplitl [HS0 HS1]
  · isplitl [HS0]
    · iexists _; iexact HS0
    iexists _; iexact HS1
  iexact Hg

set_option backward.isDefEq.respectTransparency.types false in
/-- The launch, with every semaphore counter at zero at the end. -/
theorem run_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => by rw [show (dats m 0 c).Φ 0 = Phi m c 0 from rfl, Phi_zero]) (hout := Phi_out m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.KernelIdeal.Att

end
-- ==== Proof.Att.Words.lean ====
/-
  The attention as printed on machine words is the named one with every name read as its word: the frame of the one is
  the frame of the other.
-/
module

public import proofs.«01_k».proof.Defs
public import proofs.«01_k».proof.Proof.Att.Launch
public import proofs.«01_k».proof.Proof.Gen.Kernel

@[expose] public section

noncomputable section

namespace Cert.Att

open Idealize.ShloMosaic Idealize.SL.Sem

/-- On machine words a named constant is the word it was printed with. -/
@[instance_reducible] def wordNamed : Named Bits := ⟨fun _ _ _ bits => FloatOps.ofBits _ bits⟩

attribute [local instance] wordNamed

/-- The two body tables are one. -/
theorem bodies_eq [Cert.Kernel.Facts] [Cert.KernelIdeal.Facts] :
    @Eq (Defs Cert.Kernel.nD Cert.Kernel.τ Cert.Kernel.sig (Elt Bits) Cert.Kernel.Λ₀)
      (Cert.KernelIdeal.defs₀ (F := Bits)) (Cert.Kernel.defs₀ (F := Bits)) := by
  funext p ℓ a
  cases p with
  | tc =>
    match ℓ, a with
    | 0, (t, s) => rfl
    | ⟨_ + 1, h⟩, _ => exact absurd h (Nat.not_lt.2 (Nat.le_add_left _ _))
  | scScalar _ => rfl
  | scVector _ _ => rfl

/-- So are the tables with the launch's own labels added. -/
theorem defs_eq [Cert.Kernel.Facts] [Cert.KernelIdeal.Facts] :
    @Eq (Defs Cert.Kernel.nD Cert.Kernel.τ Cert.Kernel.sig (Elt Bits)
        (Pipeline.Sig Cert.Kernel.Λ₀ (Fin 1) fun p => (Cert.Kernel.pcfgs (F := Bits) p).Adm))
      (Cert.KernelIdeal.defs (F := Bits)) (Cert.Kernel.defs (F := Bits)) :=
  congrArg (Pipeline.defs (Cert.Kernel.pcfgs (F := Bits))) bodies_eq

theorem frame_words (hK : Cert.Kernel.Facts) : quiescent_Kernel (hKernel := hK) := by
  intro m g _
  have h := @Cert.KernelIdeal.Att.frame_run Bits _ wordNamed m g
  letI := Cert.KernelIdeal.Gen.facts
  show θ_run (Cert.Kernel.defs (F := Bits)) _ _ _
  rw [← defs_eq]
  exact h

end Cert.Att

end
-- ==== Proof.Att.Frames.lean ====
/-
  The attention's frames on the extended reals, its reference's, and the three named constants.
-/
module

public import proofs.«01_k».proof.Defs
public import proofs.«01_k».proof.Proof.Att.Words
public import proofs.«01_k».proof.Proof.Gen.ReferenceIdeal.Run

@[expose] public section

noncomputable section

namespace Cert.Att

open Idealize.ShloMosaic Idealize.SL.Sem

theorem frame_ideal : quiescent_KernelIdeal (hKernelIdeal := Cert.KernelIdeal.Gen.facts) :=
  fun m g _ => Cert.KernelIdeal.Att.frame_run m g

/-- The reference keeps its arguments; it has no counter to move. -/
theorem frame_ref : quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run m g)

/-- The three named constants are close to the words they replace. -/
theorem preserves : preserves_Kernel_KernelIdeal :=
  ⟨IdealRules.named_const.statement Cert.KernelIdeal.κ "scale_log2e" .f32 0x3E0293EE#32 _ rfl,
    IdealRules.named_const.statement Cert.KernelIdeal.κ "log2e" .f32 0x3FB8AA3B#32 _ rfl,
    IdealRules.named_const.statement Cert.KernelIdeal.κ "mask" .f32 0xF149F2CA#32 _ rfl⟩

end Cert.Att

end
-- ==== Proof.Att.Softmax.lean ====
/-
  A softmax taken in powers of two over a window that holds the scores, times log2 e, at some of its places and the mask
  everywhere else, against the softmax in powers of e over the scores alone.
-/
module

public import Idealize.ShloMosaic.PureOps.Ideal
public import Idealize.ShloMosaic.PureOps.Ideal.Laws

@[expose] public section

noncomputable section

namespace Cert.Att

open Idealize.ShloMosaic

/-- 1 / ln 2. -/
def lg : ℝ := (Real.log 2)⁻¹

theorem lg_pos : 0 < lg := inv_pos.mpr (Real.log_pos (by norm_num))

/-- A power of two at `lg` times an exponent is a power of e. -/
theorem exp2_lg (x : ℝ) : Ideal.exp2 ((lg * x : ℝ) : EReal) = ((Real.exp x : ℝ) : EReal) := by
  rw [Ideal.exp2_coe]
  have : (2 : ℝ) ^ (lg * x) = Real.exp x := by
    rw [Real.rpow_def_of_pos (by norm_num), ← mul_assoc, lg, mul_inv_cancel₀ (Real.log_pos (by norm_num)).ne', one_mul]
  exact congrArg _ this

/-- A positive real divides a sum term by term. -/
theorem sum_mul_real {ι : Type} (s : Finset ι) (f : ι → EReal) (x : ℝ) (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (EReal.coe_nonneg.mpr hx) (EReal.coe_ne_top x) _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of scores that are real or masked, one of them real, is a real score. -/
theorem top_score {ι : Type} [Fintype ι] (T : ι → EReal) (hT : ∀ i, T i = ⊥ ∨ ∃ t : ℝ, T i = t)
    (h : ∃ i, ∃ t : ℝ, T i = t) : ∃ μ : ℝ, (∀ i, T i ≤ μ) ∧ ∃ i, T i = μ := by
  obtain ⟨i₀, t₀, h₀⟩ := h
  obtain ⟨i, -, hi⟩ := Finset.exists_max_image Finset.univ T ⟨i₀, Finset.mem_univ _⟩
  rcases hT i with hb | ⟨t, ht⟩
  · have := hi i₀ (Finset.mem_univ _)
    rw [hb, h₀] at this
    exact absurd (le_bot_iff.mp this) (EReal.coe_ne_bot t₀)
  · exact ⟨t, fun j => ht ▸ hi j (Finset.mem_univ _), i, ht⟩

section
variable {α β : Type} [Fintype α] [Fintype β] [DecidableEq α]

/-- The weight of a score against the largest: its power of e, zero where masked. -/
def wt (T : β → EReal) (μ : ℝ) (i : β) : ℝ := if T i = ⊥ then 0 else Real.exp ((T i).toReal - μ)

theorem wt_nonneg (T : β → EReal) (μ : ℝ) (i : β) : 0 ≤ wt T μ i := by
  unfold wt
  split
  · exact le_rfl
  · exact (Real.exp_pos _).le

theorem exp_wt (T : β → EReal) (μ : ℝ) (i : β) (h : T i = ⊥ ∨ ∃ t : ℝ, T i = t) :
    Ideal.exp (T i - μ) = (wt T μ i : EReal) := by
  unfold wt
  rcases h with h | ⟨t, h⟩
  · rw [if_pos h, h, EReal.bot_sub]; rfl
  · rw [if_neg (by rw [h]; exact EReal.coe_ne_bot t), h, ← EReal.coe_sub, Ideal.exp_coe, EReal.toReal_coe]

variable (T : β → EReal) (S : α → EReal) (e : β → α)

/-- The weights of the two softmaxes agree place by place, and the window's other places have none. -/
theorem exp2_wt (μ : ℝ) (i : β) (h : (T i = ⊥ ∧ S (e i) = ⊥) ∨ ∃ t : ℝ, T i = t ∧ S (e i) = ((lg * t : ℝ) : EReal)) :
    Ideal.exp2 (S (e i) - ((lg * μ : ℝ) : EReal)) = (wt T μ i : EReal) := by
  unfold wt
  rcases h with ⟨h, h'⟩ | ⟨t, h, h'⟩
  · rw [if_pos h, h', EReal.bot_sub]; rfl
  · rw [if_neg (by rw [h]; exact EReal.coe_ne_bot t), h, h', ← EReal.coe_sub, ← mul_sub, exp2_lg, EReal.toReal_coe]

/-- The two softmaxes, applied to the values, agree. -/
theorem softmax_eq (he : Function.Injective e) (U : β → EReal) (W : α → EReal) (μ : ℝ)
    (hTS : ∀ i, (T i = ⊥ ∧ S (e i) = ⊥) ∨ ∃ t : ℝ, T i = t ∧ S (e i) = ((lg * t : ℝ) : EReal) ∧ W (e i) = U i)
    (hout : ∀ m, (∀ i, e i ≠ m) → S m = ⊥) (hat : ∃ i, T i = μ) :
    Ideal.div (∑ m, Ideal.exp2 (S m - ((lg * μ : ℝ) : EReal)) * W m) (∑ m, Ideal.exp2 (S m - ((lg * μ : ℝ) : EReal)))
      = ∑ i, Ideal.div (Ideal.exp (T i - (μ : EReal))) (∑ i, Ideal.exp (T i - (μ : EReal))) * U i := by
  have h2 : ∀ i, Ideal.exp2 (S (e i) - ((lg * μ : ℝ) : EReal)) = (wt T μ i : EReal) := fun i =>
    exp2_wt T S e μ i ((hTS i).imp_right fun ⟨t, a, b, _⟩ => ⟨t, a, b⟩)
  have h1 : ∀ i, Ideal.exp (T i - (μ : EReal)) = (wt T μ i : EReal) := fun i =>
    exp_wt T μ i ((hTS i).imp (·.1) fun ⟨t, a, _⟩ => ⟨t, a⟩)
  have h0 : ∀ m, (∀ i, e i ≠ m) → Ideal.exp2 (S m - ((lg * μ : ℝ) : EReal)) = 0 := fun m hm => by
    rw [hout m hm, EReal.bot_sub]; rfl
  have hden : ∑ m, Ideal.exp2 (S m - ((lg * μ : ℝ) : EReal)) = ((∑ i, wt T μ i : ℝ) : EReal) := by
    rw [coe_sum]
    refine (Fintype.sum_of_injective e he _ _ (fun m hm => h0 m fun i hi => hm ⟨i, hi⟩) fun i => ?_).symm
    exact (h2 i).symm
  have hnum : ∑ m, Ideal.exp2 (S m - ((lg * μ : ℝ) : EReal)) * W m = ∑ i, (wt T μ i : EReal) * U i := by
    refine (Fintype.sum_of_injective e he _ _ (fun m hm => ?_) fun i => ?_).symm
    · rw [h0 m fun i hi => hm ⟨i, hi⟩, zero_mul]
    · rw [h2]
      rcases hTS i with ⟨hb, -⟩ | ⟨t, -, -, hw⟩
      · rw [show wt T μ i = 0 from if_pos hb, EReal.coe_zero, zero_mul, zero_mul]
      · rw [hw]
  obtain ⟨i₀, hi₀⟩ := hat
  have hpos : 0 < ∑ i, wt T μ i :=
    Finset.sum_pos' (fun i _ => wt_nonneg T μ i) ⟨i₀, Finset.mem_univ _, by
      unfold wt
      rw [if_neg (by rw [hi₀]; exact EReal.coe_ne_bot μ)]
      exact Real.exp_pos _⟩
  rw [hden, hnum]
  simp only [h1]
  rw [← coe_sum, Ideal.div_coe hpos.ne', sum_mul_real _ _ _ (by positivity)]
  refine Finset.sum_congr rfl fun i _ => ?_
  rw [Ideal.div_coe hpos.ne', mul_assoc, mul_assoc, mul_comm (U i)]

end

/-- The largest entry of three blocks, taken place by place first. -/
theorem max3 {n : ℕ} (S : Fin 3 × Fin n → EReal) (c : EReal) (hub : ∀ p, S p ≤ c) (hat : ∃ p, S p = c) :
    (Finset.univ : Finset (Fin n)).fold max ⊥ (fun j => max (max (S (0, j)) (S (1, j))) (S (2, j))) = c := by
  refine le_antisymm ?_ ?_
  · exact Finset.fold_max_le _ |>.mpr ⟨bot_le, fun j _ => max_le (max_le (hub _) (hub _)) (hub _)⟩
  · obtain ⟨⟨b, j⟩, rfl⟩ := hat
    refine Finset.le_fold_max _ |>.mpr (Or.inr ⟨j, Finset.mem_univ _, ?_⟩)
    match b with
    | 0 => exact (le_max_left _ _).trans (le_max_left _ _)
    | 1 => exact (le_max_right _ _).trans (le_max_left _ _)
    | 2 => exact le_max_right _ _

/-- The largest entry of a row. -/
theorem max1 {n : ℕ} (T : Fin n → EReal) (c : EReal) (hub : ∀ p, T p ≤ c) (hat : ∃ p, T p = c) :
    (Finset.univ : Finset (Fin n)).fold max ⊥ T = c := by
  refine le_antisymm (Finset.fold_max_le _ |>.mpr ⟨bot_le, fun j _ => hub j⟩) ?_
  obtain ⟨j, rfl⟩ := hat
  exact Finset.le_fold_max _ |>.mpr (Or.inr ⟨j, Finset.mem_univ _, le_rfl⟩)

end Cert.Att

end
-- ==== Proof.Att.Spec.lean ====
/-
  The normalised rows of the attention and their products, as functions of the argument arrays, and that under finite
  weights every one of them is a real number.
-/
module

public import proofs.«01_k».proof.Proof.Att.Softmax

@[expose] public section

noncomputable section

namespace Cert.Att

open Idealize.ShloMosaic

/-- The reciprocal root mean square of a row of 128. -/
def rs (f : Fin 128 → EReal) : EReal :=
  Ideal.rsqrt (Ideal.div (∑ x, f x * f x) (Ideal.ofBits .f32 1124073472#32) + Ideal.ofBits .f32 897988541#32)

/-- A row of 128 divided by its root mean square, times a weight. -/
def nrm (w f : Fin 128 → EReal) (d : Fin 128) : EReal := f d * rs f * w d

theorem word_128 : Ideal.ofBits .f32 1124073472#32 = ((128 : ℝ) : EReal) := by
  simp [Ideal.ofBits, Ideal.ieee, -EReal.coe_mul]; norm_num

theorem word_eps : ∃ x : ℝ, 0 < x ∧ Ideal.ofBits .f32 897988541#32 = (x : EReal) := by
  refine ⟨8796093 * 2 ^ (-43 : ℤ), by positivity, ?_⟩
  simp [Ideal.ofBits, Ideal.ieee, -EReal.coe_mul]

theorem word_bot : Ideal.ofBits .f32 4286578688#32 = (⊥ : EReal) := by
  simp [Ideal.ofBits, Ideal.ieee]

/-- The reciprocal root of 128. -/
theorem rsqrt_128 : Ideal.rsqrt (Ideal.ofBits .f32 1124073472#32) = (((Real.sqrt 128)⁻¹ : ℝ) : EReal) := by
  rw [word_128, Ideal.rsqrt_coe, if_neg (by norm_num), if_neg (by norm_num)]

/-- A square is not negative. -/
theorem sq_nonneg' (a : EReal) : 0 ≤ a * a := by
  induction a with
  | bot => simp
  | top => simp
  | coe r => rw [← EReal.coe_mul]; exact EReal.coe_nonneg.mpr (mul_self_nonneg r)

/-- A normalised row is real, whatever the row. -/
theorem row_real (f : Fin 128 → EReal) : ∀ d, ∃ x : ℝ, f d * rs f = x := by
  obtain ⟨ε, hε, he⟩ := word_eps
  by_cases hf : ∀ d, ∃ x : ℝ, f d = x
  · choose g hg using hf
    have : ∑ x, f x * f x = ((∑ x, g x * g x : ℝ) : EReal) := by
      rw [coe_sum]
      exact Finset.sum_congr rfl fun x _ => by rw [hg, EReal.coe_mul]
    have hs : 0 ≤ ∑ x, g x * g x := Finset.sum_nonneg fun x _ => mul_self_nonneg _
    have hp : 0 < (∑ x, g x * g x) * (1 / 128) + ε := by positivity
    refine fun d => ⟨g d * (Real.sqrt ((∑ x, g x * g x) * (1 / 128) + ε))⁻¹, ?_⟩
    rw [rs, this, word_128, he, Ideal.div_coe (by norm_num), ← EReal.coe_mul, ← EReal.coe_add, Ideal.rsqrt_coe,
      if_neg hp.not_gt, if_neg hp.ne', hg, EReal.coe_mul]
  · push Not at hf
    obtain ⟨d, hd⟩ := hf
    have hsq : f d * f d = ⊤ := by
      induction h : f d with
      | bot => simp
      | top => simp
      | coe r => exact absurd h (hd r)
    have : ∑ x, f x * f x = ⊤ := by
      refine top_le_iff.mp ?_
      rw [← hsq]
      exact Finset.single_le_sum (f := fun x => f x * f x) (fun x _ => sq_nonneg' _) (Finset.mem_univ d)
    refine fun d => ⟨0, ?_⟩
    rw [rs, this, word_128, he, Ideal.div_coe (by norm_num), EReal.top_mul_coe_of_pos (by norm_num),
      EReal.top_add_coe, Ideal.rsqrt_top, mul_zero, EReal.coe_zero]

/-- So is one with finite weights on it. -/
theorem nrm_real (w f : Fin 128 → EReal) (hw : ∀ d, ∃ x : ℝ, w d = x) (d : Fin 128) : ∃ x : ℝ, nrm w f d = x := by
  obtain ⟨a, ha⟩ := row_real f d
  obtain ⟨b, hb⟩ := hw d
  exact ⟨a * b, by rw [nrm, ha, hb, EReal.coe_mul]⟩

/-- A score in the two forms: with the scale 1/√128 on the queries, and with that scale and log2 e together. -/
theorem score_real (q k : Fin 128 → EReal) (b : EReal) (hq : ∀ d, ∃ x : ℝ, q d = x) (hk : ∀ d, ∃ x : ℝ, k d = x)
    (hb : ∃ x : ℝ, b = x) :
    ∃ t : ℝ, ∑ d, q d * (((Real.sqrt 128)⁻¹ : ℝ) : EReal) * k d + b = t
      ∧ ∑ d, q d * (((Real.sqrt 128)⁻¹ * (Real.log 2)⁻¹ : ℝ) : EReal) * k d + b * ((lg : ℝ) : EReal)
        = ((lg * t : ℝ) : EReal) := by
  choose q' hq using hq
  choose k' hk using hk
  obtain ⟨b', rfl⟩ := hb
  refine ⟨∑ d, q' d * (Real.sqrt 128)⁻¹ * k' d + b', ?_, ?_⟩
  · rw [EReal.coe_add, coe_sum]
    exact congrArg (· + _) (Finset.sum_congr rfl fun d _ => by rw [hq, hk, EReal.coe_mul, EReal.coe_mul])
  · rw [mul_add, Finset.mul_sum, EReal.coe_add, coe_sum, mul_comm lg b', EReal.coe_mul]
    refine congrArg (· + _) (Finset.sum_congr rfl fun d _ => ?_)
    rw [hq, hk]
    simp only [← EReal.coe_mul, EReal.coe_eq_coe_iff]
    rw [lg]
    ring

end Cert.Att

end
-- ==== Proof.Att.Value.lean ====
/-
  The band attention on the extended reals, element by element: the normalised rows it files, its scores and its output;
  what the rings hold; and the array that the run leaves.
-/
module

public import proofs.«01_k».proof.Proof.Att.Launch
public import proofs.«01_k».proof.Proof.Att.Spec
public import Idealize.ShloMosaic.Lib.Pointwise

@[expose] public section

noncomputable section

namespace Cert.KernelIdeal.Att

open Cert.KernelIdeal Cert.KernelIdeal.Gen Cert.Att Idealize.ShloMosaic Idealize.ShloMosaic.TcCoe Idealize.SL.Sem

/-! ## One point -/

theorem named_scale : (Named.named κ "scale_log2e" 0x3E0293EE#32 : Ideal .f32)
    = (((Real.sqrt 128)⁻¹ * (Real.log 2)⁻¹ : ℝ) : EReal) := IdealRules.named_const.ideal_named_scalar _ _ _ _ rfl
theorem named_log2e : (Named.named κ "log2e" 0x3FB8AA3B#32 : Ideal .f32) = ((lg : ℝ) : EReal) :=
  IdealRules.named_const.ideal_named_scalar _ _ _ _ rfl
theorem named_mask : (Named.named κ "mask" 0xF149F2CA#32 : Ideal .f32) = (⊥ : EReal) :=
  IdealRules.named_const.ideal_named_scalar _ _ _ _ rfl

theorem kn_apply (w : Vec Ideal S1x128 .f32) (x : Vec Ideal S256x128 .f32) (r : Fin 256) (d : Fin 128) :
    kn w x (ix3 0 r d) = nrm (fun e => w (ix2 0 e)) (fun e => x (ix2 r e)) d := by
  pointwise [kn, rms]
  rfl

theorem qn_apply (w : Vec Ideal S1x128 .f32) (x : Vec Ideal S256x128 .f32) (r : Fin 256) (d : Fin 128) :
    qn w x (ix2 r d) = nrm (fun e => w (ix2 0 e)) (fun e => x (ix2 r e)) d
      * (((Real.sqrt 128)⁻¹ * (Real.log 2)⁻¹ : ℝ) : EReal) := by
  rw [← named_scale]
  pointwise [qn, rms]
  rfl

/-- A score: where the block exists and the band covers the place, the product plus the bias times log2 e; else masked. -/
theorem sblk_apply (g : BitVec 1) (w : IVec S256x256 1) (q : FVec Ideal S256x128 .bf16) (k : Vec Ideal S1x256x128 .bf16)
    (b : Vec Ideal S1x256x256 .f32) (r j : Fin 256) :
    sblk g w q k b (ix2 r j) = if g = 1 then ∑ d : Fin 128, (q (ix2 r d) : EReal) * k (ix3 0 j d)
      + (if w (ix2 r j) = 1 then (b (ix3 0 r j) : EReal) * ((lg : ℝ) : EReal) else ⊥) else ⊥ := by
  rw [← named_log2e, ← named_mask]
  pointwise [sblk]
  rfl

/-- One head's output from its scores `S` and values `W`, the largest score being `c`. -/
theorem attn_apply (s0 s1 s2 : FVec Ideal S256x256 .f32) (v0 v1 v2 : Vec Ideal S1x256x128 .bf16) (r : Fin 256) (d : Fin 128)
    (S W : Fin 3 × Fin 256 → EReal) (c : EReal)
    (h0 : ∀ j, S (0, j) = s0 (ix2 r j)) (h1 : ∀ j, S (1, j) = s1 (ix2 r j)) (h2 : ∀ j, S (2, j) = s2 (ix2 r j))
    (w0 : ∀ j, W (0, j) = v0 (ix3 0 j d)) (w1 : ∀ j, W (1, j) = v1 (ix3 0 j d)) (w2 : ∀ j, W (2, j) = v2 (ix3 0 j d))
    (hub : ∀ p, S p ≤ c) (hat : ∃ p, S p = c) :
    attn s0 s1 s2 v0 v1 v2 (ix2 r d)
      = Ideal.div (∑ p, Ideal.exp2 (S p - c) * W p) (∑ p, Ideal.exp2 (S p - c)) := by
  pointwise [attn, pv, pblk, mrow, lrow]
  simp only [← h0, ← h1, ← h2, ← w0, ← w1, ← w2, word_bot, max3 S c hub hat]
  rw [Fintype.sum_prod_type, Fintype.sum_prod_type, Fin.sum_univ_three, Fin.sum_univ_three, Finset.sum_add_distrib,
    Finset.sum_add_distrib]
  rfl

end Cert.KernelIdeal.Att

end
-- ==== Proof.Att.Table.lean ====
/-
  What the host hands the band attention: the bias table read off its 513 columns by distance, and the two weight rows;
  and the words by which a point decides whether a place is inside the band.
-/
module

public import proofs.«01_k».proof.Proof.Att.Value
public import Idealize.ShloMosaic.Lib.StableHlo.Run
public import Idealize.ShloMosaic.Lib.StableHlo.ReadAt
public import Idealize.ShloMosaic.Lib.Tactic

@[expose] public section

noncomputable section

namespace Cert.KernelIdeal.Att

open Cert.KernelIdeal Cert.KernelIdeal.Gen Idealize.ShloMosaic Idealize.ShloMosaic.TcCoe Idealize.SL.Sem

/-- The gather of one bias column per entry of a list of columns. -/
theorem gather_cols {α : Type} (x : S8x513.Idx → α) (idx : IVec S1024x1 32) (h : Fin 8) (n : Fin 1024) :
    Host.gather gather_S8x513_S1024x1_S8x1024_0_1_n_n_1_1_81 x idx (ix2 h n)
      = x (ix2 h ⟨min (idx (ix2 n 0)).toInt.toNat 512, by omega⟩) := by
  unfold Host.gather
  refine congrArg x (funext fun a => Fin.ext ?_)
  match a with
  | ⟨0, _⟩ =>
    show GatherDims.start _ _ idx 0 + GatherDims.batchCoord _ _ 0 + GatherDims.offCoord _ _ 0 = h.val
    rw [GatherDims.batchCoord_eq_zero _ _ _ List.not_mem_nil]
    unfold GatherDims.start
    rw [dif_neg (by decide)]
    show 0 + 0 + h.val = h.val
    omega
  | ⟨1, _⟩ =>
    show GatherDims.start _ _ idx 1 + GatherDims.batchCoord _ _ 1 + GatherDims.offCoord _ _ 1 = _
    rw [GatherDims.batchCoord_eq_zero _ _ _ List.not_mem_nil,
      GatherDims.offCoord_eq_zero _ _ _ (fun q => ((GatherDims.mem_sKept _ _).mp q).1 (List.mem_singleton.mpr rfl))]
    unfold GatherDims.start
    rw [dif_pos (show (1 : Fin 2) ∈ gather_S8x513_S1024x1_S8x1024_0_1_n_n_1_1_81.startIndexMap from List.mem_singleton.mpr rfl)]
    show min (idx _).toInt.toNat _ + 0 + 0 = min (idx (ix2 n 0)).toInt.toNat 512
    rw [show (GatherDims.siIdx gather_S8x513_S1024x1_S8x1024_0_1_n_n_1_1_81 (ix2 h n)
      ⟨List.idxOf (1 : Fin 2) gather_S8x513_S1024x1_S8x1024_0_1_n_n_1_1_81.startIndexMap,
        List.idxOf_lt_length_iff.2 (List.mem_singleton.mpr rfl)⟩) = ix2 n 0 from funext fun b => by
        match b with
        | ⟨0, _⟩ => rfl
        | ⟨1, _⟩ => rfl]
    rfl

/-- The column that entry `n` of the list names: `n − 767` clipped to ±256, plus 256. -/
theorem column_word : ∀ n : Fin 1024, (Scalar.select
      (IntOp.cmpi CmpIPredicate.slt
        (IntOp.addi (IntOp.minsi 256#32 (IntOp.maxsi 4294967040#32
          (IntOp.subi (IntOp.subi (BitVec.ofNat 32 n.val) 255#32) 512#32))) 256#32) 0#32)
      (IntOp.addi (IntOp.addi (IntOp.minsi 256#32 (IntOp.maxsi 4294967040#32
          (IntOp.subi (IntOp.subi (BitVec.ofNat 32 n.val) 255#32) 512#32))) 256#32) 513#32)
      (IntOp.addi (IntOp.minsi 256#32 (IntOp.maxsi 4294967040#32
          (IntOp.subi (IntOp.subi (BitVec.ofNat 32 n.val) 255#32) 512#32))) 256#32) : BitVec 32).toInt.toNat
      = min 512 (n.val - 511) := by
  decide +kernel

variable (m : (ℓ : Loc nD τ sig) → Buf (Elt Ideal) ℓ) (c : Dev nD)

/-- The array with the queries, keys and values, as launched. -/
abbrev argX : S16384x7168.Idx → EReal := m ((c : Thread nD τ).loc main_arg0)
/-- The query weights. -/
abbrev argQ : S128.Idx → EReal := m ((c : Thread nD τ).loc main_arg1)
/-- The key weights. -/
abbrev argK : S128.Idx → EReal := m ((c : Thread nD τ).loc main_arg2)
/-- The biases, one row per head, one column per distance. -/
abbrev argB : S8x513.Idx → EReal := m ((c : Thread nD τ).loc main_arg3)

/-- The bias table: row `r` of head `h` at window column `j` is the bias of the distance `j − r − 512`, clipped. -/
theorem V_table (h : Fin 8) (r : Fin 256) (j : Fin 768) :
    V m c main_v20 (ix3 h r j) = argB m c (ix2 h ⟨min 512 (j.val - (r.val + 256)), by omega⟩) := by
  show StableHlo.after (List.flatten [hostOps0, hostOps0_1, hostOps0_2]) (fun b => m (c, b)) _ _ = _
  unfold hostOps0 hostOps0_1 hostOps0_2
  simp only [List.flatten_cons, List.flatten_nil, List.append_nil, List.cons_append, List.nil_append]
  after_reads_at
  rw [gather_cols]
  refine congrArg (argB m c) (congrArg (ix2 h) (Fin.ext ?_))
  show min (BitVec.toInt _).toNat 512 = min 512 (j.val - (r.val + 256))
  pointwise
  refine (congrArg (min · 512) (column_word ⟨(r.val * 1023 + (255 + j.val)) % 1024, by omega⟩)).trans ?_
  show min (min 512 ((r.val * 1023 + (255 + j.val)) % 1024 - 511)) 512 = min 512 (j.val - (r.val + 256))
  rw [show r.val * 1023 + (255 + j.val) = (255 + j.val - r.val) + 1024 * r.val by omega, Nat.add_mul_mod_self_left,
    Nat.mod_eq_of_lt (by omega)]
  omega

/-- The query weights as a row. -/
theorem V_qw (d : Fin 128) : V m c main_v21 (ix2 0 d) = argQ m c (ix1 d) := by
  show StableHlo.after (List.flatten [hostOps0, hostOps0_1, hostOps0_2]) (fun b => m (c, b)) _ _ = _
  unfold hostOps0 hostOps0_1 hostOps0_2
  simp only [List.flatten_cons, List.flatten_nil, List.append_nil, List.cons_append, List.nil_append]
  after_reads_at

/-- The key weights as a row. -/
theorem V_kw (d : Fin 128) : V m c main_v22 (ix2 0 d) = argK m c (ix1 d) := by
  show StableHlo.after (List.flatten [hostOps0, hostOps0_1, hostOps0_2]) (fun b => m (c, b)) _ _ = _
  unfold hostOps0 hostOps0_1 hostOps0_2
  simp only [List.flatten_cons, List.flatten_nil, List.append_nil, List.cons_append, List.nil_append]
  after_reads_at

/-! ## The band -/

/-- A word below 768 divided by 64, rounded down. -/
theorem chunk_word : ∀ n : Fin 768, (Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) : BitVec 32) = BitVec.ofNat 32 (n.val / 64) := by
  decide +kernel

theorem chunkOf_apply (x : IVec S256x256 32) (r j : Fin 256) (n : ℕ) (hn : n < 768) (hx : x (ix2 r j) = BitVec.ofNat 32 n) :
    chunkOf x (ix2 r j) = BitVec.ofNat 32 (n / 64) := by
  pointwise [chunkOf]
  rw [hx]
  exact chunk_word ⟨n, hn⟩

theorem rowChunk_apply (r j : Fin 256) : rowChunk (ix2 r j) = BitVec.ofNat 32 (r.val / 64) := by
  refine chunkOf_apply _ r j r.val (by omega) ?_
  pointwise

theorem colChunk_apply (b : Fin 3) (r j : Fin 256) :
    colChunk (BitVec.ofNat 32 (256 * b.val)) (ix2 r j) = BitVec.ofNat 32 ((256 * b.val + j.val) / 64) := by
  refine chunkOf_apply _ r j (256 * b.val + j.val) (by omega) ?_
  pointwise
  show BitVec.ofNat 32 j.val + BitVec.ofNat 32 (256 * b.val) = _
  rw [← BitVec.ofNat_add, Nat.add_comm]

/-- The comparison of two small chunk numbers. -/
theorem band_word : ∀ x : Fin 12, ∀ y : Fin 4, IntOp.andi
      (IntOp.cmpi CmpIPredicate.sge (BitVec.ofNat 32 x.val) (BitVec.ofNat 32 y.val))
      (IntOp.cmpi CmpIPredicate.sle (BitVec.ofNat 32 x.val) (IntOp.subi (IntOp.addi (BitVec.ofNat 32 y.val) 9#32) 1#32)) = 1#1
    ↔ y.val ≤ x.val ∧ x.val ≤ y.val + 8 := by
  decide +kernel

/-- A place is inside the band when its key's chunk is the row's or one of the eight after it in the window. -/
theorem band_iff (b : Fin 3) (r j : Fin 256) : band (BitVec.ofNat 32 (256 * b.val)) (ix2 r j) = 1#1
    ↔ r.val / 64 ≤ (256 * b.val + j.val) / 64 ∧ (256 * b.val + j.val) / 64 ≤ r.val / 64 + 8 := by
  pointwise [band]
  rw [rowChunk_apply, colChunk_apply]
  exact band_word ⟨(256 * b.val + j.val) / 64, by omega⟩ ⟨r.val / 64, by omega⟩

/-- A block exists at a point unless it lies before the first. -/
theorem guard_word : ∀ i : Fin 64, (Scalar.cmpi .sge (BitVec.ofNat 32 i.val) 2#32 = 1#1 ↔ 2 ≤ i.val + 0)
    ∧ (Scalar.cmpi .sge (BitVec.ofNat 32 i.val) 1#32 = 1#1 ↔ 2 ≤ i.val + 1)
    ∧ (Scalar.cmpi .sge (BitVec.ofNat 32 i.val) 0#32 = 1#1 ↔ 2 ≤ i.val + 2) := by
  decide +kernel

end Cert.KernelIdeal.Att

end
-- ==== Proof.Att.Ring.lean ====
/-
  What the band attention's points read: their blocks as rows of the launched array, the two rings as the last three
  blocks of keys and values, and with them each point's output, element by element.
-/
module

public import proofs.«01_k».proof.Proof.Att.Table

@[expose] public section

noncomputable section

namespace Cert.KernelIdeal.Att

open Cert.KernelIdeal Cert.KernelIdeal.Gen Cert.Att Idealize.ShloMosaic Idealize.ShloMosaic.TcCoe Idealize.SL.Sem

variable (m : (ℓ : Loc nD τ sig) → Buf (Elt Ideal) ℓ) (c : Dev nD)

/-! ## The rows -/

/-- A normalised query. -/
def qv (R : Fin 16384) (h : Fin 8) : Fin 128 → EReal :=
  nrm (fun e => argQ m c (ix1 e)) (fun e => argX m c (ix2 R ⟨4096 + (128 * h.val + e.val), by omega⟩))

/-- A normalised key. -/
def kv (R : Fin 16384) (h : Fin 8) : Fin 128 → EReal :=
  nrm (fun e => argK m c (ix1 e)) (fun e => argX m c (ix2 R ⟨5120 + (128 * h.val + e.val), by omega⟩))

/-- A value. -/
def vv (R : Fin 16384) (h : Fin 8) (d : Fin 128) : EReal := argX m c (ix2 R ⟨6144 + (128 * h.val + d.val), by omega⟩)

/-! ## The blocks -/

theorem index_facts : ∀ t : Fin cfg0.N,
    (win0_0.index t 0 = t.val ∧ win0_0.index t 1 = 4) ∧ (win0_1.index t 0 = t.val ∧ win0_1.index t 1 = 5)
    ∧ (win0_2.index t 0 = t.val ∧ win0_2.index t 1 = 6)
    ∧ (win0_3.index t 0 = 0 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = t.val ∧ win0_6.index t 1 = 0) :=
  (by decide +kernel : ∀ t : Fin grid0.N, _)

theorem lt64 (t : Fin cfg0.N) : t.val < 64 := lt_of_lt_of_eq t.isLt (show cfg0.N = 64 from N_0)

theorem point_val (t : Fin cfg0.N) : (grid0.coords t 0).val = t.val := by
  have e0 : (grid0.coords t 0).val = t.val / 1 % 64 := Pipeline.Grid.coords_val t 0 (by decide) rfl
  have := lt64 t
  omega

/-- Row `r` of block `n`. -/
abbrev rowOf (n : ℕ) (hn : n < 64) (r : Fin 256) : Fin 16384 := ⟨256 * n + r.val, by omega⟩

variable (t : Fin cfg0.N)

theorem blk_q (r : Fin 256) (d : Fin 1024) :
    iblk m c 0 t (ix2 r d) = argX m c (ix2 (rowOf t.val (lt64 t) r) ⟨4096 + d.val, by omega⟩) := by
  obtain ⟨⟨a0, a1⟩, -⟩ := index_facts t
  show V m c main_arg0 (((cfg0.win 0).blk t).view.emb (ix2 r d)) = _
  rw [V_main_arg0]
  refine congrArg (argX m c) (funext fun a => Fin.ext ?_)
  match a with
  | ⟨0, _⟩ => show win0_0.index t 0 * 256 + 1 * r.val = 256 * t.val + r.val; omega
  | ⟨1, _⟩ => show win0_0.index t 1 * 1024 + 1 * d.val = 4096 + d.val; omega

theorem blk_k (r : Fin 256) (d : Fin 1024) :
    iblk m c 1 t (ix2 r d) = argX m c (ix2 (rowOf t.val (lt64 t) r) ⟨5120 + d.val, by omega⟩) := by
  obtain ⟨-, ⟨a0, a1⟩, -⟩ := index_facts t
  show V m c main_arg0 (((cfg0.win 1).blk t).view.emb (ix2 r d)) = _
  rw [V_main_arg0]
  refine congrArg (argX m c) (funext fun a => Fin.ext ?_)
  match a with
  | ⟨0, _⟩ => show win0_1.index t 0 * 256 + 1 * r.val = 256 * t.val + r.val; omega
  | ⟨1, _⟩ => show win0_1.index t 1 * 1024 + 1 * d.val = 5120 + d.val; omega

theorem blk_v (r : Fin 256) (d : Fin 1024) :
    iblk m c 2 t (ix2 r d) = argX m c (ix2 (rowOf t.val (lt64 t) r) ⟨6144 + d.val, by omega⟩) := by
  obtain ⟨-, -, ⟨a0, a1⟩, -⟩ := index_facts t
  show V m c main_arg0 (((cfg0.win 2).blk t).view.emb (ix2 r d)) = _
  rw [V_main_arg0]
  refine congrArg (argX m c) (funext fun a => Fin.ext ?_)
  match a with
  | ⟨0, _⟩ => show win0_2.index t 0 * 256 + 1 * r.val = 256 * t.val + r.val; omega
  | ⟨1, _⟩ => show win0_2.index t 1 * 1024 + 1 * d.val = 6144 + d.val; omega

theorem blk_b (h : Fin 8) (r : Fin 256) (j : Fin 768) :
    iblk m c 3 t (ix3 h r j) = argB m c (ix2 h ⟨min 512 (j.val - (r.val + 256)), by omega⟩) := by
  obtain ⟨-, -, -, ⟨a0, a1, a2⟩, -⟩ := index_facts t
  rw [← V_table]
  show V m c main_v20 (((cfg0.win 3).blk t).view.emb (ix3 h r j)) = _
  refine congrArg (V m c main_v20) (funext fun a => Fin.ext ?_)
  match a with
  | ⟨0, _⟩ => show win0_3.index t 0 * 8 + 1 * h.val = h.val; omega
  | ⟨1, _⟩ => show win0_3.index t 1 * 256 + 1 * r.val = r.val; omega
  | ⟨2, _⟩ => show win0_3.index t 2 * 768 + 1 * j.val = j.val; omega

theorem blk_qw (d : Fin 128) : iblk m c 4 t (ix2 0 d) = argQ m c (ix1 d) := by
  obtain ⟨-, -, -, -, ⟨a0, a1⟩, -⟩ := index_facts t
  rw [← V_qw]
  show V m c main_v21 (((cfg0.win 4).blk t).view.emb (ix2 0 d)) = _
  refine congrArg (V m c main_v21) (funext fun a => Fin.ext ?_)
  match a with
  | ⟨0, _⟩ => show win0_4.index t 0 * 1 + 1 * 0 = 0; omega
  | ⟨1, _⟩ => show win0_4.index t 1 * 128 + 1 * d.val = d.val; omega

theorem blk_kw (d : Fin 128) : iblk m c 5 t (ix2 0 d) = argK m c (ix1 d) := by
  obtain ⟨-, -, -, -, -, ⟨a0, a1⟩, -⟩ := index_facts t
  rw [← V_kw]
  show V m c main_v22 (((cfg0.win 5).blk t).view.emb (ix2 0 d)) = _
  refine congrArg (V m c main_v22) (funext fun a => Fin.ext ?_)
  match a with
  | ⟨0, _⟩ => show win0_5.index t 0 * 1 + 1 * 0 = 0; omega
  | ⟨1, _⟩ => show win0_5.index t 1 * 128 + 1 * d.val = d.val; omega

/-! ## The rings -/

/-- A column of a block is a head's lane. -/
theorem lane (x : Fin 1024) : 128 * (x.val / 128) + x.val % 128 = x.val := by omega

/-- What a point files: its keys, normalised, and its values. -/
theorem knew_at (y : Vec Ideal S3x256x1024 .bf16) (s : Fin 3) (j : Fin 256) (x : Fin 1024) :
    knew (grid0.coords t) (iblk m c 1 t) (iblk m c 5 t) y (ix3 s j x)
      = if s.val = t.val % 3 then kv m c (rowOf t.val (lt64 t) j) ⟨x.val / 128, by omega⟩ ⟨x.val % 128, by omega⟩
        else y (ix3 s j x) := by
  have hs : (slot (grid0.coords t) 2).val = t.val % 3 := by
    show ((grid0.coords t 0).val + 2 + 1) % 3 = _
    rw [point_val]
    omega
  show (if s.val = (slot (grid0.coords t) 2).val then _ else _) = _
  rw [hs]
  refine if_congr Iff.rfl ?_ rfl
  refine (kn_apply _ _ _ _).trans ?_
  unfold kv
  congr 1
  · funext e; exact blk_kw m c t e
  · funext e
    exact blk_k m c t j ⟨128 * (x.val / 128) + e.val, by omega⟩

theorem vnew_at (y : Vec Ideal S3x256x1024 .bf16) (s : Fin 3) (j : Fin 256) (x : Fin 1024) :
    vnew (grid0.coords t) (iblk m c 2 t) y (ix3 s j x)
      = if s.val = t.val % 3 then vv m c (rowOf t.val (lt64 t) j) ⟨x.val / 128, by omega⟩ ⟨x.val % 128, by omega⟩
        else y (ix3 s j x) := by
  have hs : (slot (grid0.coords t) 2).val = t.val % 3 := by
    show ((grid0.coords t 0).val + 2 + 1) % 3 = _
    rw [point_val]
    omega
  show (if s.val = (slot (grid0.coords t) 2).val then _ else _) = _
  rw [hs]
  refine if_congr Iff.rfl ?_ rfl
  refine (blk_v m c t j x).trans ?_
  unfold vv
  exact congrArg (argX m c) (congrArg (ix2 _) (Fin.ext (by
    show 6144 + x.val = 6144 + (128 * (x.val / 128) + x.val % 128)
    omega)))

/-- Slot `u mod 3` of the key ring holds block `u` from the point that files it until two points later, -/
theorem ringK_at (n : ℕ) (hn : n ≤ 64) (u : ℕ) (hu : u < n) (hun : n ≤ u + 3) (j : Fin 256) (x : Fin 1024) :
    ringK m c n (ix3 ⟨u % 3, by omega⟩ j x)
      = kv m c (rowOf u (by omega) j) ⟨x.val / 128, by omega⟩ ⟨x.val % 128, by omega⟩ := by
  induction n with
  | zero => omega
  | succ n ih =>
    rw [ringK_succ m c ⟨n, lt_of_lt_of_eq (by omega) (show cfg0.N = 64 from N_0).symm⟩, knew_at]
    by_cases h : u = n
    · subst h
      rw [if_pos rfl]
    · rw [if_neg (by show ¬ u % 3 = n % 3; omega)]
      exact ih (by omega) (by omega) (by omega)

/-- and so does the value ring's. -/
theorem ringV_at (n : ℕ) (hn : n ≤ 64) (u : ℕ) (hu : u < n) (hun : n ≤ u + 3) (j : Fin 256) (x : Fin 1024) :
    ringV m c n (ix3 ⟨u % 3, by omega⟩ j x)
      = vv m c (rowOf u (by omega) j) ⟨x.val / 128, by omega⟩ ⟨x.val % 128, by omega⟩ := by
  induction n with
  | zero => omega
  | succ n ih =>
    rw [ringV_succ m c ⟨n, lt_of_lt_of_eq (by omega) (show cfg0.N = 64 from N_0).symm⟩, vnew_at]
    by_cases h : u = n
    · subst h
      rw [if_pos rfl]
    · rw [if_neg (by show ¬ u % 3 = n % 3; omega)]
      exact ih (by omega) (by omega) (by omega)

/-- A point's key block `b` is block `t − 2 + b`, where that exists. -/
theorem keys_at (b : Fin 3) (hb : 2 ≤ t.val + b.val) (h : Fin 8) (j : Fin 256) (d : Fin 128) :
    slice3 (ringK m c (t.val + 1)) (slot (grid0.coords t) b) h (ix3 0 j d)
      = kv m c (rowOf (t.val + b.val - 2) (by have := lt64 t; omega) j) h d := by
  have h64 := lt64 t
  have hs : slot (grid0.coords t) b = ⟨(t.val + b.val - 2) % 3, by omega⟩ := Fin.ext (by
    show ((grid0.coords t 0).val + b.val + 1) % 3 = _
    rw [point_val]
    show (t.val + b.val + 1) % 3 = (t.val + b.val - 2) % 3
    omega)
  rw [hs]
  refine (ringK_at m c (t.val + 1) (by omega) (t.val + b.val - 2) (by omega) (by omega) j
    ⟨128 * h.val + d.val, by omega⟩).trans ?_
  congr 1
  · exact Fin.ext (by show (128 * h.val + d.val) / 128 = h.val; omega)
  · exact Fin.ext (by show (128 * h.val + d.val) % 128 = d.val; omega)

theorem values_at (b : Fin 3) (hb : 2 ≤ t.val + b.val) (h : Fin 8) (j : Fin 256) (d : Fin 128) :
    slice3 (ringV m c (t.val + 1)) (slot (grid0.coords t) b) h (ix3 0 j d)
      = vv m c (rowOf (t.val + b.val - 2) (by have := lt64 t; omega) j) h d := by
  have h64 := lt64 t
  have hs : slot (grid0.coords t) b = ⟨(t.val + b.val - 2) % 3, by omega⟩ := Fin.ext (by
    show ((grid0.coords t 0).val + b.val + 1) % 3 = _
    rw [point_val]
    show (t.val + b.val + 1) % 3 = (t.val + b.val - 2) % 3
    omega)
  rw [hs]
  refine (ringV_at m c (t.val + 1) (by omega) (t.val + b.val - 2) (by omega) (by omega) j
    ⟨128 * h.val + d.val, by omega⟩).trans ?_
  congr 1
  · exact Fin.ext (by show (128 * h.val + d.val) / 128 = h.val; omega)
  · exact Fin.ext (by show (128 * h.val + d.val) % 128 = d.val; omega)

/-! ## The output -/

/-- A score of row `r` of point `t` at window place `p`. -/
def scoreAt (h : Fin 8) (r : Fin 256) (p : Fin 3 × Fin 256) : EReal :=
  if hb : 2 ≤ t.val + p.1.val then
    ∑ d, qv m c (rowOf t.val (lt64 t) r) h d * (((Real.sqrt 128)⁻¹ * (Real.log 2)⁻¹ : ℝ) : EReal)
        * kv m c (rowOf (t.val + p.1.val - 2) (by have := lt64 t; omega) p.2) h d
      + (if r.val / 64 ≤ (256 * p.1.val + p.2.val) / 64 ∧ (256 * p.1.val + p.2.val) / 64 ≤ r.val / 64 + 8 then
          argB m c (ix2 h ⟨min 512 (256 * p.1.val + p.2.val - (r.val + 256)), by omega⟩) * ((lg : ℝ) : EReal) else ⊥)
  else ⊥

/-- The value beside it. -/
def valAt (h : Fin 8) (d : Fin 128) (p : Fin 3 × Fin 256) : EReal :=
  slice3 (ringV m c (t.val + 1)) (slot (grid0.coords t) p.1) h (ix3 0 p.2 d)

/-- The kernel's score blocks hold those scores. -/
theorem score_eq (b : Fin 3) (g : BitVec 1) (hg : g = 1#1 ↔ 2 ≤ t.val + b.val) (h : Fin 8) (r j : Fin 256) :
    scoreAt m c t h r (b, j) = sblk g (band (BitVec.ofNat 32 (256 * b.val))) (qn (iblk m c 4 t) (hcols (iblk m c 0 t) h))
      (slice3 (ringK m c (t.val + 1)) (slot (grid0.coords t) b) h) (btile (iblk m c 3 t) h b) (ix2 r j) := by
  rw [sblk_apply]
  unfold scoreAt
  by_cases hb : 2 ≤ t.val + b.val
  · rw [dif_pos hb, if_pos (show g = 1 from hg.mpr hb)]
    refine congrArg₂ (· + ·) (Finset.sum_congr rfl fun d _ => ?_) ?_
    · rw [qn_apply, keys_at m c t b hb]
      refine congrArg (· * _ * _) ?_
      unfold qv
      congr 1
      · funext e; exact (blk_qw m c t e).symm
      · funext e; exact (blk_q m c t r ⟨128 * h.val + e.val, by omega⟩).symm
    · refine (if_congr (band_iff b r j) (congrArg (· * _) ?_) rfl).symm
      exact blk_b m c t h r ⟨256 * b.val + j.val, by omega⟩
  · rw [dif_neg hb, if_neg (show ¬ g = 1 from fun q => hb (hg.mp q))]

/-- A point's output, given the largest score of its row. -/
theorem oAt_apply (r : Fin 256) (h : Fin 8) (d : Fin 128) (μ : EReal)
    (hub : ∀ p, scoreAt m c t h r p ≤ μ) (hat : ∃ p, scoreAt m c t h r p = μ) :
    oAt m c t (ix2 r ⟨128 * h.val + d.val, by omega⟩)
      = Ideal.div (∑ p, Ideal.exp2 (scoreAt m c t h r p - μ) * valAt m c t h d p)
          (∑ p, Ideal.exp2 (scoreAt m c t h r p - μ)) := by
  obtain ⟨g0, g1, g2⟩ := guard_word ⟨t.val, lt64 t⟩
  have e1 : (⟨(128 * h.val + d.val) / 128, by omega⟩ : Fin 8) = h := Fin.ext (by show (128 * h.val + d.val) / 128 = h.val; omega)
  have e2 : (⟨(128 * h.val + d.val) % 128, Nat.mod_lt _ (by decide)⟩ : Fin 128) = d :=
    Fin.ext (by show (128 * h.val + d.val) % 128 = d.val; omega)
  show headAt (grid0.coords t) (iblk m c 0 t) (iblk m c 3 t) (iblk m c 4 t) (ringK m c (t.val + 1)) (ringV m c (t.val + 1))
    ⟨(128 * h.val + d.val) / 128, _⟩ (ix2 r ⟨(128 * h.val + d.val) % 128, _⟩) = _
  rw [e1, e2]
  unfold headAt headOut
  rw [point_val]
  exact attn_apply _ _ _ _ _ _ r d (scoreAt m c t h r) (valAt m c t h d) μ
    (fun j => score_eq m c t 0 _ g0 h r j) (fun j => score_eq m c t 1 _ g1 h r j) (fun j => score_eq m c t 2 _ g2 h r j)
    (fun _ => rfl) (fun _ => rfl) (fun _ => rfl) hub hat

end Cert.KernelIdeal.Att

end
-- ==== Proof.Att.Ref.lean ====
/-
  The attention's reference, element by element: its scores over the nine chunks of keys behind and at a query's own, the
  softmax over their 576 places, and the sum of values that it leaves.
-/
module

public import proofs.«01_k».proof.Proof.Att.Spec
public import proofs.«01_k».proof.Proof.Gen.ReferenceIdeal.Read
public import proofs.«01_k».proof.Proof.Gen.Pre_finite_weights
public import Idealize.ShloMosaic.Lib.Pointwise

@[expose] public section

noncomputable section

namespace Cert.ReferenceIdeal.Att

open Cert.ReferenceIdeal Cert.ReferenceIdeal.Gen Cert.ReferenceIdeal.Read Cert.Att Idealize.ShloMosaic

variable (x0 : S16384x7168.Idx → EReal) (x1 x2 : S128.Idx → EReal) (x3 : S8x513.Idx → EReal)

/-! ## The rows -/

/-- A query, normalised and scaled. -/
theorem query_apply (n : Fin 256) (q : Fin 64) (h : Fin 8) (d : Fin 128) :
    val_main_v19 (F := Ideal) x0 x1 (ix4 n q h d)
      = nrm (fun e => x1 (ix1 e)) (fun e => x0 (ix2 ⟨n.val * 64 + q.val, by omega⟩ ⟨4096 + (h.val * 128 + e.val), by omega⟩)) d
        * (((Real.sqrt 128)⁻¹ : ℝ) : EReal) := by
  rw [← rsqrt_128]
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_cst_2]
  rfl

/-- A key, normalised. -/
theorem key_apply (n : Fin 256) (q : Fin 64) (h : Fin 8) (d : Fin 128) :
    val_main_v33 (F := Ideal) x0 x2 (ix4 n q h d)
      = nrm (fun e => x2 (ix1 e)) (fun e => x0 (ix2 ⟨n.val * 64 + q.val, by omega⟩ ⟨5120 + (h.val * 128 + e.val), by omega⟩)) d := by
  pointwise [val_main_v33, val_main_v32, val_main_v31, val_main_v30, val_main_v29, val_main_v28, val_main_v27, val_main_v26,
    val_main_v25, val_main_v24, val_main_v23, val_main_v22, val_main_v21, val_main_v20, val_main_v1,
    val_main_cst_3, val_main_cst_4, val_main_cst_5]
  rfl

/-- A value. -/
theorem value_apply (n : Fin 256) (q : Fin 64) (h : Fin 8) (d : Fin 128) :
    val_main_v34 (F := Ideal) x0 (ix4 n q h d)
      = x0 (ix2 ⟨n.val * 64 + q.val, by omega⟩ ⟨6144 + (h.val * 128 + d.val), by omega⟩) := by
  pointwise [val_main_v34, val_main_v2]

/-- The keys with eight chunks in front, read at a chunk that exists, -/
theorem padded_key (n : Fin 264) (q : Fin 64) (h : Fin 8) (d : Fin 128) (hn : 8 ≤ n.val) :
    val_main_v35 (F := Ideal) x0 x2 (ix4 n q h d) = val_main_v33 (F := Ideal) x0 x2 (ix4 ⟨n.val - 8, by omega⟩ q h d) := by
  pointwise [val_main_v35]
  rw [dif_pos ⟨hn, by omega⟩]

/-- and the values. -/
theorem padded_value (n : Fin 264) (q : Fin 64) (h : Fin 8) (d : Fin 128) (hn : 8 ≤ n.val) :
    val_main_v36 (F := Ideal) x0 (ix4 n q h d) = val_main_v34 (F := Ideal) x0 (ix4 ⟨n.val - 8, by omega⟩ q h d) := by
  pointwise [val_main_v36]
  rw [dif_pos ⟨hn, by omega⟩]

/-! ## The scores -/

/-- The products of a query with the nine chunks of keys from eight behind its own. -/
theorem products_apply (h : Fin 8) (n : Fin 256) (q : Fin 64) (x : Fin 576) :
    val_main_v55 (F := Ideal) x0 x1 x2 (ix4 h n q x) = ∑ d : Fin 128, val_main_v19 (F := Ideal) x0 x1 (ix4 n q h d)
      * val_main_v35 (F := Ideal) x0 x2 (ix4 ⟨n.val + x.val / 64, by omega⟩ ⟨x.val % 64, by omega⟩ h d) := by
  pointwise [val_main_v55, val_main_v38, val_main_v40, val_main_v42, val_main_v44, val_main_v46, val_main_v48, val_main_v50,
    val_main_v52, val_main_v54, val_main_v37, val_main_v39, val_main_v41, val_main_v43, val_main_v45, val_main_v47, val_main_v49,
    val_main_v51, val_main_v53]
  repeat' split
  all_goals
    refine Finset.sum_congr rfl fun d _ => congrArg (fun i => _ * val_main_v35 (F := Ideal) x0 x2 i) ?_
    congr 1 <;> exact Fin.ext (by dsimp only; omega)

/-- The gather of one bias column per pair of a query's and a key's place. -/
theorem gather_pairs {α : Type} (y : S8x513.Idx → α) (idx : IVec S64x576x1 32) (h : Fin 8) (q : Fin 64) (x : Fin 576) :
    Host.gather gather_S8x513_S64x576x1_S8x64x576_0_1_n_n_1_2_81 y idx (ix3 h q x)
      = y (ix2 h ⟨min (idx (ix3 q x 0)).toInt.toNat 512, by omega⟩) := by
  unfold Host.gather
  refine congrArg y (funext fun a => Fin.ext ?_)
  match a with
  | ⟨0, _⟩ =>
    show GatherDims.start _ _ idx 0 + GatherDims.batchCoord _ _ 0 + GatherDims.offCoord _ _ 0 = h.val
    rw [GatherDims.batchCoord_eq_zero _ _ _ List.not_mem_nil]
    unfold GatherDims.start
    rw [dif_neg (by decide)]
    show 0 + 0 + h.val = h.val
    omega
  | ⟨1, _⟩ =>
    show GatherDims.start _ _ idx 1 + GatherDims.batchCoord _ _ 1 + GatherDims.offCoord _ _ 1 = _
    rw [GatherDims.batchCoord_eq_zero _ _ _ List.not_mem_nil,
      GatherDims.offCoord_eq_zero _ _ _ (fun r => ((GatherDims.mem_sKept _ _).mp r).1 (List.mem_singleton.mpr rfl))]
    unfold GatherDims.start
    rw [dif_pos (show (1 : Fin 2) ∈ gather_S8x513_S64x576x1_S8x64x576_0_1_n_n_1_2_81.startIndexMap from List.mem_singleton.mpr rfl)]
    rw [show (GatherDims.siIdx gather_S8x513_S64x576x1_S8x64x576_0_1_n_n_1_2_81 (ix3 h q x)
      ⟨List.idxOf (1 : Fin 2) gather_S8x513_S64x576x1_S8x64x576_0_1_n_n_1_2_81.startIndexMap,
        List.idxOf_lt_length_iff.2 (List.mem_singleton.mpr rfl)⟩) = ix3 q x 0 from funext fun b => by
        match b with
        | ⟨0, _⟩ => rfl
        | ⟨1, _⟩ => rfl
        | ⟨2, _⟩ => rfl]
    rfl

/-- The column that a distance names, the distance given as `k − 576`: clipped to ±256, plus 256. -/
theorem pair_word : ∀ k : Fin 640, (Scalar.select
      (IntOp.cmpi CmpIPredicate.slt
        (IntOp.addi (IntOp.minsi 256#32 (IntOp.maxsi 4294967040#32 (IntOp.subi (BitVec.ofNat 32 k.val) 576#32))) 256#32) 0#32)
      (IntOp.addi (IntOp.addi (IntOp.minsi 256#32 (IntOp.maxsi 4294967040#32
          (IntOp.subi (BitVec.ofNat 32 k.val) 576#32))) 256#32) 513#32)
      (IntOp.addi (IntOp.minsi 256#32 (IntOp.maxsi 4294967040#32
          (IntOp.subi (BitVec.ofNat 32 k.val) 576#32))) 256#32) : BitVec 32).toInt.toNat = min 512 (k.val - 320) := by
  decide +kernel

/-- The distance of two places as the reference computes it. -/
theorem distance_word (q : Fin 64) (x : Fin 576) :
    IntOp.subi (IntOp.subi (BitVec.ofNat 32 x.val) 512#32) (BitVec.ofNat 32 q.val)
      = IntOp.subi (BitVec.ofNat 32 (x.val + 64 - q.val)) 576#32 := by
  show BitVec.ofNat 32 x.val - 512#32 - BitVec.ofNat 32 q.val = BitVec.ofNat 32 (x.val + 64 - q.val) - 576#32
  refine BitVec.eq_of_toNat_eq ?_
  simp only [BitVec.toNat_sub, BitVec.toNat_ofNat]
  omega

/-- The bias of a query's and a key's place. -/
theorem bias_apply (h : Fin 8) (q : Fin 64) (x : Fin 576) :
    val_main_v74 (F := Ideal) x3 (ix3 h q x) = x3 (ix2 h ⟨min 512 (x.val - (q.val + 256)), by omega⟩) := by
  unfold val_main_v74
  rw [gather_pairs]
  refine congrArg x3 (congrArg (ix2 h) (Fin.ext ?_))
  show min (BitVec.toInt _).toNat 512 = min 512 (x.val - (q.val + 256))
  pointwise [val_main_v73, val_main_v72, val_main_v71, val_main_v70, val_main_v69, val_main_v68, val_main_v67, val_main_v66,
    val_main_v65, val_main_v64, val_main_v63, val_main_v62, val_main_v61, val_main_v60, val_main_v59, val_main_v58, val_main_v57,
    val_main_v56, val_main_call2_v4, val_main_call2_v3, val_main_call2_v2, val_main_call2_v1, val_main_call2_v0, val_main_c_7,
    val_main_c_8, val_main_c_9, val_main_c_10, val_main_c_11, val_main_c_12]
  rw [distance_word]
  refine (congrArg (min · 512) (pair_word ⟨x.val + 64 - q.val, by omega⟩)).trans ?_
  show min (min 512 (x.val + 64 - q.val - 320)) 512 = _
  omega

/-- Whether a chunk exists: it is not before the first. -/
theorem exists_word : ∀ n : Fin 256, ∀ o : Fin 9, IntOp.cmpi CmpIPredicate.sge
      (IntOp.subi (IntOp.addi (BitVec.ofNat 32 n.val) (BitVec.ofNat 32 o.val)) 8#32) 0#32 = 1#1 ↔ 8 ≤ n.val + o.val := by
  decide +kernel

theorem exists_apply (n : Fin 256) (x : Fin 576) :
    val_main_v87 (F := Ideal) (ix2 n x) = 1#1 ↔ 8 ≤ n.val + x.val / 64 := by
  refine Iff.trans (Eq.congr_left ?_) (exists_word n ⟨x.val / 64, by omega⟩)
  pointwise [val_main_v87, val_main_v86, val_main_v85, val_main_v84, val_main_v83, val_main_v82, val_main_v81, val_main_v80,
    val_main_v79, val_main_v78, val_main_v77, val_main_v76, val_main_v75, val_main_c_13, val_main_c_14]

/-- A score. -/
def refScore (h : Fin 8) (n : Fin 256) (q : Fin 64) (x : Fin 576) : EReal := val_main_v92 (F := Ideal) x0 x1 x2 x3 (ix4 h n q x)

theorem refScore_eq (h : Fin 8) (n : Fin 256) (q : Fin 64) (x : Fin 576) :
    refScore x0 x1 x2 x3 h n q x = if 8 ≤ n.val + x.val / 64 then
      ∑ d : Fin 128, val_main_v19 (F := Ideal) x0 x1 (ix4 n q h d)
        * val_main_v35 (F := Ideal) x0 x2 (ix4 ⟨n.val + x.val / 64, by omega⟩ ⟨x.val % 64, by omega⟩ h d)
        + x3 (ix2 h ⟨min 512 (x.val - (q.val + 256)), by omega⟩) else ⊥ := by
  unfold refScore
  pointwise [val_main_v92, val_main_v91, val_main_v90, val_main_v89, val_main_v88, val_main_call3_v1, val_main_call3_v2,
    val_main_call3_v0, val_main_cst_15]
  rw [products_apply, bias_apply, ← word_bot]
  exact if_congr (exists_apply n x) rfl rfl

end Cert.ReferenceIdeal.Att

end
-- ==== Proof.Att.RefOut.lean ====
/-
  The attention reference's result: at a query, the softmax-weighted sum of values over the 576 places.
-/
module

public import proofs.«01_k».proof.Proof.Att.Ref

@[expose] public section

noncomputable section

namespace Cert.ReferenceIdeal.Att

open Cert.ReferenceIdeal Cert.ReferenceIdeal.Gen Cert.ReferenceIdeal.Read Cert.Att Idealize.ShloMosaic

variable (x0 : S16384x7168.Idx → EReal) (x1 x2 : S128.Idx → EReal) (x3 : S8x513.Idx → EReal)

/-- The largest score of a row. -/
theorem top_apply (h : Fin 8) (n : Fin 256) (q : Fin 64) (μ : EReal) (hub : ∀ x, refScore x0 x1 x2 x3 h n q x ≤ μ)
    (hat : ∃ x, refScore x0 x1 x2 x3 h n q x = μ) : val_main_v95 (F := Ideal) x0 x1 x2 x3 (ix3 h n q) = μ := by
  have e : val_main_v93 (F := Ideal) x0 x1 x2 x3 (ix3 h n q) = μ := by
    pointwise [val_main_v93, val_main_cst_16]
    rw [word_bot]
    exact max1 (refScore x0 x1 x2 x3 h n q) μ hub hat
  rw [val_main_v95_apply, val_main_v94_apply, val_main_cst_17_apply, e]
  show max (Ideal.ofBits .f32 4286578688#32) μ = μ
  rw [word_bot]
  exact max_eq_right bot_le

/-- A weight before the division. -/
theorem weight_apply (h : Fin 8) (n : Fin 256) (q : Fin 64) (x : Fin 576) :
    val_main_v99 (F := Ideal) x0 x1 x2 x3 (ix4 h n q x)
      = Ideal.exp (refScore x0 x1 x2 x3 h n q x - val_main_v95 (F := Ideal) x0 x1 x2 x3 (ix3 h n q)) := by
  pointwise [val_main_v99, val_main_v98, val_main_v97, val_main_v96]
  rfl

/-- Their sum. -/
theorem total_apply (h : Fin 8) (n : Fin 256) (q : Fin 64) :
    val_main_v100 (F := Ideal) x0 x1 x2 x3 (ix3 h n q) = ∑ x, val_main_v99 (F := Ideal) x0 x1 x2 x3 (ix4 h n q x) := by
  rw [val_main_v100_apply]
  rw [show val_main_cst_18 (F := Ideal) (Shape.Idx.first h_S_) = (0 : EReal) from by
    rw [val_main_cst_18_apply]
    exact Ideal.ofBits_zero _]
  rw [zero_add]
  refine Finset.sum_congr rfl fun x _ => congrArg (val_main_v99 (F := Ideal) x0 x1 x2 x3) (funext fun a => ?_)
  match a with
  | ⟨0, _⟩ => rfl
  | ⟨1, _⟩ => rfl
  | ⟨2, _⟩ => rfl
  | ⟨3, _⟩ => rfl

/-- A weight. -/
theorem share_apply (h : Fin 8) (n : Fin 256) (q : Fin 64) (x : Fin 576) :
    val_main_v103 (F := Ideal) x0 x1 x2 x3 (ix4 h n q x)
      = Ideal.div (val_main_v99 (F := Ideal) x0 x1 x2 x3 (ix4 h n q x)) (val_main_v100 (F := Ideal) x0 x1 x2 x3 (ix3 h n q)) := by
  pointwise [val_main_v103, val_main_v102, val_main_v101]

/-- Nine chunks of 64 places are the 576. -/
theorem sum_chunks (f : Fin 576 → EReal) : ∑ o : Fin 9, ∑ k : Fin 64, f ⟨64 * o.val + k.val, by omega⟩ = ∑ k, f k := by
  rw [← Fintype.sum_prod_type']
  refine Fintype.sum_equiv (finProdFinEquiv (m := 9) (n := 64)) _ _ fun p => congrArg f (Fin.ext ?_)
  show 64 * p.1.val + p.2.val = p.2.val + 64 * p.1.val
  omega

/-- One place's part of a result. -/
def placeOf (h : Fin 8) (n : Fin 256) (q : Fin 64) (d : Fin 128) (x : Fin 576) : EReal :=
  val_main_v36 (F := Ideal) x0 (ix4 ⟨n.val + x.val / 64, by omega⟩ ⟨x.val % 64, by omega⟩ h d)
    * val_main_v103 (F := Ideal) x0 x1 x2 x3 (ix4 h n q x)

/-- The product with one chunk of values. -/
theorem chunk_sum (h : Fin 8) (n : Fin 256) (q : Fin 64) (d : Fin 128) (o : ℕ) (ho : o < 9)
    (i : Fin 64 → S264x64x8x128.Idx) (j : Fin 64 → S8x256x64x576.Idx)
    (hi : ∀ k, i k = ix4 ⟨o + n.val, by omega⟩ k h d) (hj : ∀ k, j k = ix4 h n q ⟨64 * o + k.val, by omega⟩) :
    ∑ k, val_main_v36 (F := Ideal) x0 (i k) * val_main_v103 (F := Ideal) x0 x1 x2 x3 (j k)
      = ∑ k : Fin 64, placeOf x0 x1 x2 x3 h n q d ⟨64 * o + k.val, by omega⟩ := by
  refine Finset.sum_congr rfl fun k _ => ?_
  rw [hi, hj]
  unfold placeOf
  refine congrArg (fun u => val_main_v36 (F := Ideal) x0 u * _) ?_
  congr 1
  · exact Fin.ext (by show o + n.val = n.val + (64 * o + k.val) / 64; omega)
  · exact Fin.ext (by show k.val = (64 * o + k.val) % 64; omega)

/-- The result at a query. -/
theorem result_apply (n : Fin 256) (q : Fin 64) (h : Fin 8) (d : Fin 128) :
    val_main_v147 (F := Ideal) x0 x1 x2 x3 (ix4 n q h d) = ∑ x, placeOf x0 x1 x2 x3 h n q d x := by
  rw [← sum_chunks, Fin.sum_univ_castSucc, Fin.sum_univ_eight]
  pointwise [val_main_v147, val_main_v146, val_main_v145, val_main_v144, val_main_v143, val_main_v142, val_main_v141,
    val_main_v140, val_main_v139, val_main_v138, val_main_v137, val_main_v136, val_main_v135, val_main_v134, val_main_v133,
    val_main_v132, val_main_v131, val_main_v130, val_main_v129, val_main_v128, val_main_v127, val_main_v126, val_main_v125,
    val_main_v124, val_main_v123, val_main_v122, val_main_v121, val_main_v120, val_main_v119, val_main_v118, val_main_v117,
    val_main_v116, val_main_v115, val_main_v114, val_main_v113, val_main_v112, val_main_v111, val_main_v110, val_main_v109,
    val_main_v108, val_main_v107, val_main_v106, val_main_v105, val_main_v104]
  refine congrArg₂ (· + ·) (congrArg₂ (· + ·) (congrArg₂ (· + ·) (congrArg₂ (· + ·) (congrArg₂ (· + ·) (congrArg₂ (· + ·)
    (congrArg₂ (· + ·) (congrArg₂ (· + ·) (chunk_sum x0 x1 x2 x3 h n q d 0 (by omega) _ _ (fun k => ?_) (fun k => ?_))
      (chunk_sum x0 x1 x2 x3 h n q d 1 (by omega) _ _ (fun k => ?_) (fun k => ?_)))
      (chunk_sum x0 x1 x2 x3 h n q d 2 (by omega) _ _ (fun k => ?_) (fun k => ?_)))
      (chunk_sum x0 x1 x2 x3 h n q d 3 (by omega) _ _ (fun k => ?_) (fun k => ?_)))
      (chunk_sum x0 x1 x2 x3 h n q d 4 (by omega) _ _ (fun k => ?_) (fun k => ?_)))
      (chunk_sum x0 x1 x2 x3 h n q d 5 (by omega) _ _ (fun k => ?_) (fun k => ?_)))
      (chunk_sum x0 x1 x2 x3 h n q d 6 (by omega) _ _ (fun k => ?_) (fun k => ?_)))
      (chunk_sum x0 x1 x2 x3 h n q d 7 (by omega) _ _ (fun k => ?_) (fun k => ?_)))
      (chunk_sum x0 x1 x2 x3 h n q d 8 (by omega) _ _ (fun k => ?_) (fun k => ?_))
  all_goals first | rfl | (congr 1; exact Fin.ext (by dsimp only; omega))

theorem out_apply (R : Fin 16384) (h : Fin 8) (d : Fin 128) :
    val_main_v149 (F := Ideal) x0 x1 x2 x3 (ix2 R ⟨128 * h.val + d.val, by omega⟩)
      = ∑ x, placeOf x0 x1 x2 x3 h ⟨R.val / 64, by omega⟩ ⟨R.val % 64, by omega⟩ d x := by
  rw [← result_apply]
  pointwise [val_main_v149, val_main_v148]

end Cert.ReferenceIdeal.Att

end
-- ==== Proof.Att.Match.lean ====
/-
  The two attentions agree row by row: the window of three key blocks holds the nine chunks of the reference at the
  places from 64 times the row's chunk on, and the mask everywhere else.
-/
module

public import proofs.«01_k».proof.Proof.Att.Ring
public import proofs.«01_k».proof.Proof.Att.RefOut

@[expose] public section

noncomputable section

namespace Cert.KernelIdeal.Att

open Cert.KernelIdeal Cert.KernelIdeal.Gen Cert.Att Cert.ReferenceIdeal.Att Idealize.ShloMosaic Idealize.ShloMosaic.TcCoe Idealize.SL.Sem

variable (m : (ℓ : Loc nD τ sig) → Buf (Elt Ideal) ℓ) (c : Dev nD) (t : Fin cfg0.N) (h : Fin 8) (r : Fin 256)

/-- The chunk of a row. -/
def chunkNo : Fin 256 := ⟨4 * t.val + r.val / 64, by have := lt64 t; omega⟩

/-- Its place in the chunk. -/
def placeNo : Fin 64 := ⟨r.val % 64, by omega⟩

/-- The reference's score at a place. -/
abbrev rscore (x : Fin 576) : EReal := refScore (argX m c) (argQ m c) (argK m c) (argB m c) h (chunkNo t r) (placeNo r) x

/-- Where the window holds the reference's place `x`. -/
def put (x : Fin 576) : Fin 3 × Fin 256 := (⟨(x.val + 64 * (r.val / 64)) / 256, by omega⟩, ⟨(x.val + 64 * (r.val / 64)) % 256, by omega⟩)

theorem put_inj : Function.Injective (put r) := fun x y e => by
  have e1 := congrArg (fun p => p.1.val) e
  have e2 := congrArg (fun p => p.2.val) e
  simp only [put] at e1 e2
  exact Fin.ext (by omega)

/-- A query of the reference is the kernel's, scaled by 1/√128. -/
theorem query_eq (d : Fin 128) : Cert.ReferenceIdeal.Read.val_main_v19 (F := Ideal) (argX m c) (argQ m c) (ix4 (chunkNo t r) (placeNo r) h d)
    = qv m c (rowOf t.val (lt64 t) r) h d * (((Real.sqrt 128)⁻¹ : ℝ) : EReal) := by
  rw [query_apply]
  unfold qv
  refine congrArg (nrm _ · d * _) (funext fun e => congrArg (argX m c) ?_)
  congr 1
  · exact Fin.ext (by show (4 * t.val + r.val / 64) * 64 + r.val % 64 = 256 * t.val + r.val; omega)
  · exact Fin.ext (by show 4096 + (h.val * 128 + e.val) = 4096 + (128 * h.val + e.val); omega)

section Place

variable (x : Fin 576) (hx : 8 ≤ 4 * t.val + r.val / 64 + x.val / 64)

include hx in
theorem block_exists : 2 ≤ t.val + (put r x).1.val := by
  show 2 ≤ t.val + (x.val + 64 * (r.val / 64)) / 256
  omega

theorem key_row_lt : t.val + (put r x).1.val - 2 < 64 := by
  have := lt64 t
  have := (put r x).1.isLt
  omega

include hx in
/-- A key of the reference is the kernel's, -/
theorem key_eq (d : Fin 128) (p1 : 4 * t.val + r.val / 64 + x.val / 64 < 264) (p2 : x.val % 64 < 64) :
    Cert.ReferenceIdeal.Read.val_main_v35 (F := Ideal) (argX m c) (argK m c) (ix4 ⟨4 * t.val + r.val / 64 + x.val / 64, p1⟩ ⟨x.val % 64, p2⟩ h d)
      = kv m c (rowOf (t.val + (put r x).1.val - 2) (key_row_lt t r x) (put r x).2) h d := by
  rw [padded_key _ _ _ _ _ _ hx, key_apply]
  unfold kv
  refine congrArg (nrm _ · d) (funext fun e => congrArg (argX m c) ?_)
  congr 1
  · refine Fin.ext ?_
    show (4 * t.val + r.val / 64 + x.val / 64 - 8) * 64 + x.val % 64
      = 256 * (t.val + (x.val + 64 * (r.val / 64)) / 256 - 2) + (x.val + 64 * (r.val / 64)) % 256
    omega
  · exact Fin.ext (by show 5120 + (h.val * 128 + e.val) = 5120 + (128 * h.val + e.val); omega)

include hx in
/-- and so is a value. -/
theorem value_eq (d : Fin 128) (p1 : 4 * t.val + r.val / 64 + x.val / 64 < 264) (p2 : x.val % 64 < 64) :
    Cert.ReferenceIdeal.Read.val_main_v36 (F := Ideal) (argX m c) (ix4 ⟨4 * t.val + r.val / 64 + x.val / 64, p1⟩ ⟨x.val % 64, p2⟩ h d)
      = valAt m c t h d (put r x) := by
  unfold valAt
  rw [padded_value _ _ _ _ _ hx, value_apply, values_at m c t _ (block_exists t r x hx)]
  unfold vv
  refine congrArg (argX m c) ?_
  congr 1
  · refine Fin.ext ?_
    show (4 * t.val + r.val / 64 + x.val / 64 - 8) * 64 + x.val % 64
      = 256 * (t.val + (x.val + 64 * (r.val / 64)) / 256 - 2) + (x.val + 64 * (r.val / 64)) % 256
    omega
  · exact Fin.ext (by show 6144 + (h.val * 128 + d.val) = 6144 + (128 * h.val + d.val); omega)

end Place

variable (hq : ∀ d, ∃ y : ℝ, argQ m c (ix1 d) = y) (hk : ∀ d, ∃ y : ℝ, argK m c (ix1 d) = y)
  (hb : ∀ g n, ∃ y : ℝ, argB m c (ix2 g n) = y)

include hq hk hb in
/-- At a chunk that exists both scores are one real number, the kernel's times log2 e. -/
theorem scores_real (x : Fin 576) (hx : 8 ≤ 4 * t.val + r.val / 64 + x.val / 64) : ∃ y : ℝ, rscore m c t h r x = y ∧ scoreAt m c t h r (put r x) = ((lg * y : ℝ) : EReal) := by
  obtain ⟨y, h1, h2⟩ := score_real (qv m c (rowOf t.val (lt64 t) r) h)
    (kv m c (rowOf (t.val + (put r x).1.val - 2) (key_row_lt t r x) (put r x).2) h)
    (argB m c (ix2 h ⟨min 512 (x.val - (r.val % 64 + 256)), by omega⟩))
    (fun d => nrm_real _ _ hq d) (fun d => nrm_real _ _ hk d) (hb _ _)
  refine ⟨y, ?_, ?_⟩
  · rw [← h1, rscore, refScore_eq]
    refine (if_pos hx).trans ?_
    refine congrArg (· + _) (Finset.sum_congr rfl fun d _ => ?_)
    rw [query_eq]
    exact congrArg (_ * ·) (key_eq m c t h r x hx d _ _)
  · rw [← h2, scoreAt, dif_pos (block_exists t r x hx), if_pos]
    · refine congrArg (fun i : Fin 513 => _ + argB m c (ix2 h i) * ((lg : ℝ) : EReal)) (Fin.ext ?_)
      show min 512 (256 * ((x.val + 64 * (r.val / 64)) / 256) + (x.val + 64 * (r.val / 64)) % 256 - (r.val + 256))
        = min 512 (x.val - (r.val % 64 + 256))
      omega
    · show r.val / 64 ≤ (256 * ((x.val + 64 * (r.val / 64)) / 256) + (x.val + 64 * (r.val / 64)) % 256) / 64
        ∧ (256 * ((x.val + 64 * (r.val / 64)) / 256) + (x.val + 64 * (r.val / 64)) % 256) / 64 ≤ r.val / 64 + 8
      omega

/-- At a chunk before the first both are masked. -/
theorem scores_bot (x : Fin 576) (hx' : ¬ 8 ≤ 4 * t.val + r.val / 64 + x.val / 64) :
    rscore m c t h r x = ⊥ ∧ scoreAt m c t h r (put r x) = ⊥ := by
  refine ⟨?_, ?_⟩
  · rw [rscore, refScore_eq]
    exact if_neg hx'
  · rw [scoreAt]
    refine dif_neg ?_
    show ¬ 2 ≤ t.val + (x.val + 64 * (r.val / 64)) / 256
    omega

/-- Outside the nine chunks the window is masked. -/
theorem scores_out (p : Fin 3 × Fin 256) (hp : ∀ x, put r x ≠ p) : scoreAt m c t h r p = ⊥ := by
  have hout : ¬ (r.val / 64 ≤ (256 * p.1.val + p.2.val) / 64 ∧ (256 * p.1.val + p.2.val) / 64 ≤ r.val / 64 + 8) := fun ⟨a, b⟩ =>
    hp ⟨256 * p.1.val + p.2.val - 64 * (r.val / 64), by omega⟩ (Prod.ext
      (Fin.ext (by
        show (256 * p.1.val + p.2.val - 64 * (r.val / 64) + 64 * (r.val / 64)) / 256 = p.1.val
        omega))
      (Fin.ext (by
        show (256 * p.1.val + p.2.val - 64 * (r.val / 64) + 64 * (r.val / 64)) % 256 = p.2.val
        omega)))
  rw [scoreAt]
  split
  · exact EReal.add_bot _
  · rfl

include hq hk hb in
/-- A point's output is the reference's. -/
theorem row_eq (d : Fin 128) : oAt m c t (ix2 r ⟨128 * h.val + d.val, by omega⟩)
    = Cert.ReferenceIdeal.Read.val_main_v149 (F := Ideal) (argX m c) (argQ m c) (argK m c) (argB m c)
        (ix2 (rowOf t.val (lt64 t) r) ⟨128 * h.val + d.val, by omega⟩) := by
  have hreal := fun x hx => scores_real m c t h r hq hk hb x hx
  have hbot := scores_bot m c t h r
  obtain ⟨μ, hub, hat⟩ := top_score (rscore m c t h r)
    (fun x => if hx : 8 ≤ 4 * t.val + r.val / 64 + x.val / 64 then Or.inr ((hreal x hx).imp fun _ e => e.1) else Or.inl (hbot x hx).1)
    ⟨⟨512, by omega⟩, (hreal ⟨512, by omega⟩ (by show 8 ≤ 4 * t.val + r.val / 64 + 512 / 64; omega)).imp fun _ e => e.1⟩
  have hle : ∀ p, scoreAt m c t h r p ≤ ((lg * μ : ℝ) : EReal) := fun p => by
    by_cases hp : ∃ x, put r x = p
    · obtain ⟨x, rfl⟩ := hp
      by_cases hx : 8 ≤ 4 * t.val + r.val / 64 + x.val / 64
      · obtain ⟨y, h1, h2⟩ := hreal x hx
        have := hub x
        rw [h1, EReal.coe_le_coe_iff] at this
        rw [h2, EReal.coe_le_coe_iff]
        exact mul_le_mul_of_nonneg_left this lg_pos.le
      · rw [(hbot x hx).2]
        exact bot_le
    · rw [scores_out m c t h r p fun x e => hp ⟨x, e⟩]
      exact bot_le
  have hmax : ∃ p, scoreAt m c t h r p = ((lg * μ : ℝ) : EReal) := by
    obtain ⟨x, hx⟩ := hat
    by_cases h8 : 8 ≤ 4 * t.val + r.val / 64 + x.val / 64
    · obtain ⟨y, h1, h2⟩ := hreal x h8
      obtain rfl : y = μ := EReal.coe_injective (h1.symm.trans hx)
      exact ⟨_, h2⟩
    · exact absurd ((hbot x h8).1.symm.trans hx).symm (EReal.coe_ne_bot μ)
  rw [oAt_apply m c t r h d _ hle hmax, out_apply,
    softmax_eq (rscore m c t h r) (scoreAt m c t h r) (put r) (put_inj r)
      (fun x => Cert.ReferenceIdeal.Read.val_main_v36 (F := Ideal) (argX m c)
        (ix4 ⟨(chunkNo t r).val + x.val / 64, by have := (chunkNo t r).isLt; omega⟩ ⟨x.val % 64, by omega⟩ h d))
      (valAt m c t h d) μ
      (fun x => if hx : 8 ≤ 4 * t.val + r.val / 64 + x.val / 64 then
          Or.inr ((hreal x hx).imp fun _ e => ⟨e.1, e.2, (value_eq m c t h r x hx d _ _).symm⟩)
        else Or.inl (hbot x hx))
      (scores_out m c t h r) hat]
  have e1 : (⟨(256 * t.val + r.val) / 64, by have := lt64 t; omega⟩ : Fin 256) = chunkNo t r :=
    Fin.ext (by show (256 * t.val + r.val) / 64 = 4 * t.val + r.val / 64; omega)
  have e2 : (⟨(256 * t.val + r.val) % 64, by omega⟩ : Fin 64) = placeNo r :=
    Fin.ext (by show (256 * t.val + r.val) % 64 = r.val % 64; omega)
  show _ = ∑ x, placeOf _ _ _ _ h ⟨(256 * t.val + r.val) / 64, _⟩ ⟨(256 * t.val + r.val) % 64, _⟩ d x
  rw [e1, e2]
  refine Finset.sum_congr rfl fun x _ => ?_
  unfold placeOf
  rw [share_apply, total_apply, mul_comm]
  simp only [weight_apply, top_apply _ _ _ _ h (chunkNo t r) (placeNo r) _ hub hat]

/-! ## The array -/

/-- What the reference leaves on a kernel's arguments. -/
abbrev G (c : Dev nD) : Buf (Elt Ideal) ((c : Thread nD τ).loc main_v23) :=
  Cert.ReferenceIdeal.Read.val_main_v149 (F := Ideal) (argX m c) (argQ m c) (argK m c) (argB m c)

theorem mem_block (t : Fin cfg0.N) (i : S16384x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v23).slice (win0_6.rect t)).set ↔ _
  rw [View.set_slice_whole, Rect.mem_set_unit]
  exact Iff.rfl

include hq hk hb in
/-- The output array at the end. -/
theorem final : (dats m 0 c).arrAt 6 cfg0.N = G m c := by
  refine (dats m 0 c).arrAt_eq_of_cover 6 (G m c) (fun t _ => ?_) (fun i => ?_)
  · obtain ⟨-, -, -, -, -, -, ⟨a0, a1⟩⟩ := index_facts t
    show (dats m 0 c).after 6 t = _
    rw [after_6]
    funext j
    obtain ⟨r, y, rfl⟩ : ∃ (r : Fin 256) (y : Fin 1024), j = ix2 r y := ⟨j 0, j 1, eq_ix2 j⟩
    obtain ⟨h, d, rfl⟩ : ∃ (h : Fin 8) (d : Fin 128), y = ⟨128 * h.val + d.val, by omega⟩ :=
      ⟨⟨y.val / 128, by omega⟩, ⟨y.val % 128, by omega⟩, Fin.ext (by show y.val = 128 * (y.val / 128) + y.val % 128; omega)⟩
    rw [row_eq m c t h r hq hk hb d]
    show _ = G m c (((cfg0.win 6).blk t).view.emb (ix2 r ⟨128 * h.val + d.val, _⟩))
    refine congrArg (G m c) (funext fun a => Fin.ext ?_)
    match a with
    | ⟨0, _⟩ => show 256 * t.val + r.val = win0_6.index t 0 * 256 + 1 * r.val; omega
    | ⟨1, _⟩ => show 128 * h.val + d.val = win0_6.index t 1 * 1024 + 1 * (128 * h.val + d.val); omega
  · have h0 : (i 0).val < 16384 := (i 0).isLt
    have h1 : (i 1).val < 1024 := (i 1).isLt
    refine ⟨⟨(i 0).val / 256, lt_of_lt_of_eq (by omega) (show cfg0.N = 64 from N_0).symm⟩, ?_, ?_⟩
    · exact flush0_6 _
    · obtain ⟨-, -, -, -, -, -, ⟨a0, a1⟩⟩ := index_facts ⟨(i 0).val / 256, lt_of_lt_of_eq (by omega) (show cfg0.N = 64 from N_0).symm⟩
      refine (mem_block _ i).2 ?_
      intro a
      match a with
      | ⟨0, _⟩ =>
        show win0_6.index _ 0 * 256 ≤ (i 0).val ∧ (i 0).val < win0_6.index _ 0 * 256 + 256
        rw [a0]
        show (i 0).val / 256 * 256 ≤ (i 0).val ∧ (i 0).val < (i 0).val / 256 * 256 + 256
        omega
      | ⟨1, _⟩ =>
        show win0_6.index _ 1 * 1024 ≤ (i 1).val ∧ (i 1).val < win0_6.index _ 1 * 1024 + 1024
        rw [a1]
        omega

end Cert.KernelIdeal.Att

end
-- ==== Proof.Att.Claims.lean ====
/-
  The attention's value claim: where the normalisation weights and the biases are finite, the launch leaves the
  reference's array.
-/
module

public import proofs.«01_k».proof.Proof.Att.Frames
public import proofs.«01_k».proof.Proof.Att.Match
public import proofs.«01_k».proof.Proof.Gen.Pre_finite_weights

@[expose] public section

noncomputable section

namespace Cert.Att

open Idealize.ShloMosaic Idealize.ShloMosaic.TcCoe Idealize.SL.Sem

theorem frame_ideal_finite : quiescent_KernelIdeal_pre_finite_weights (hKernelIdeal := Cert.KernelIdeal.Gen.facts)
    (hPre_finite_weights := Cert.Pre_finite_weights.Gen.facts) :=
  fun m g _ => Cert.KernelIdeal.Att.frame_run m g

theorem frame_ref_finite : quiescent_ReferenceIdeal_pre_finite_weights (hReferenceIdeal := Cert.ReferenceIdeal.Gen.facts)
    (hPre_finite_weights := Cert.Pre_finite_weights.Gen.facts) :=
  fun m g _ => frame_ref m g trivial

/-- The word the precondition compares with is infinity. -/
theorem inf_word : Ideal.ofBits .f32 0x7F800000#32 = (⊤ : EReal) := by
  show Ideal.ieee 8 23 0x7F800000#32 = ⊤
  unfold Ideal.ieee
  rw [if_pos (by decide), if_pos (by decide), if_neg (by decide)]

/-- A number smaller in size than infinity is real. -/
theorem real_of_abs_lt (a : EReal) (h : max a (-a) < ⊤) : ∃ y : ℝ, a = y := by
  induction a with
  | bot => simp at h
  | coe y => exact ⟨y, rfl⟩
  | top => simp at h

theorem real_of_cmp (a : EReal) (h : Ideal.cmp .olt (max a (-a)) (Ideal.ofBits .f32 0x7F800000#32) = 1#1) : ∃ y : ℝ, a = y := by
  rw [inf_word] at h
  refine real_of_abs_lt a ?_
  by_contra hn
  simp [Ideal.cmp, hn] at h

open Cert.KernelIdeal Cert.KernelIdeal.Gen Cert.KernelIdeal.Att

variable (m : (ℓ : Loc nD τ sig) → Buf (Elt Ideal) ℓ)

theorem finite_at [Cert.Pre_finite_weights.Facts] (h : Pre_KernelIdeal_finite_weights m) (c : Dev nD) :
    (∀ d, ∃ y : ℝ, argQ m c (ix1 d) = y) ∧ (∀ d, ∃ y : ℝ, argK m c (ix1 d) = y)
      ∧ ∀ g n, ∃ y : ℝ, argB m c (ix2 g n) = y := by
  obtain ⟨hq, hk, hb⟩ := h c
  refine ⟨fun d => real_of_cmp _ (congrFun hq (ix1 d)), fun d => real_of_cmp _ (congrFun hk (ix1 d)),
    fun g n => real_of_cmp _ (congrFun hb (ix2 g n))⟩

theorem algebraic : algebraic_KernelIdeal_ReferenceIdeal_pre_finite_weights (hKernelIdeal := Cert.KernelIdeal.Gen.facts)
    (hReferenceIdeal := Cert.ReferenceIdeal.Gen.facts) (hPre_finite_weights := Cert.Pre_finite_weights.Gen.facts) := by
  intro m g m' g' hpre hagree
  refine ⟨fun c => G m c, ?_, ?_⟩
  · refine (θ_run _ _ _).mono (fun r h c => ⟨?_, ?_, ?_, ?_, ?_⟩) (run_main m g)
    · obtain ⟨hq, hk, hb⟩ := finite_at m hpre c
      exact ((h c).1 6).trans (final m c hq hk hb)
    · exact ((h c).1 0).trans (((dats m 0 c).arrAt_in 0 rfl _).trans ((A_eq m c 0).trans (V_main_arg0 m c)))
    · exact ((h c).2 main_arg1 (Pipeline.mem_restRefs_of main_arg1 (by decide) (by decide))).trans (V_main_arg1 m c)
    · exact ((h c).2 main_arg2 (Pipeline.mem_restRefs_of main_arg2 (by decide) (by decide))).trans (V_main_arg2 m c)
    · exact ((h c).2 main_arg3 (Pipeline.mem_restRefs_of main_arg3 (by decide) (by decide))).trans (V_main_arg3 m c)
  · refine (θ_run _ _ _).mono (fun _ h c => ⟨(h c).1.trans ?_, (h c).2⟩) (Cert.ReferenceIdeal.Value.run m' g')
    obtain ⟨h0, h1, h2, h3⟩ := hagree c
    refine (Cert.ReferenceIdeal.Read.val_main_v149_eq (F := Ideal) (StableHlo.launchContents m' c)).trans ?_
    show Cert.ReferenceIdeal.Read.val_main_v149 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = _
    rw [h0, h1, h2, h3]

end Cert.Att

end
-- ==== Proof.Mlp.Block.lean ====
/-
  The squared-ReLU MLP, one grid point at a time: what a point adds to the output block, and what the last point of a
  run makes of the finished sum, each read at an element.
-/
module

public import proofs.«01_k».proof.Proof.Gen.MlpIdeal.Value
public import Idealize.ShloMosaic.Lib.Pointwise
public import Idealize.ShloMosaic.Lib.ValueIdx

@[expose] public section

noncomputable section

namespace Cert.MlpIdeal.Sum

open Cert.MlpIdeal Cert.MlpIdeal.Gen Idealize.ShloMosaic Idealize.ShloMosaic.TcCoe

/-- The square of the positive part. -/
def sq (a : EReal) : EReal := max a 0 * max a 0

/-- The block that a run starts from is zero. -/
theorem pay1_apply (j : S1024x2048.Idx) : k0_pay1 (F := Ideal) j = (0 : EReal) := by
  pointwise [k0_pay1]

/-- A point adds to the block, at each element, the products of 512 activations with their rows of the second
    weights. -/
theorem pay2_apply (x : Vec Ideal S1024x2048 .bf16) (w : Vec Ideal S1x2048x512 .bf16) (a : Vec Ideal S1024x2048 .f32)
    (u : Vec Ideal S1x512x2048 .bf16) (r : Fin 1024) (d : Fin 2048) :
    k0_pay2 x w a u (ix2 r d) = (a (ix2 r d) : EReal) + ∑ k : Fin 512,
      sq (∑ e : Fin 2048, (x (ix2 r e) : EReal) * w (ix3 0 e k)) * u (ix3 0 k d) := by
  pointwise [k0_pay2]
  rfl

/-- The last point of a run gates the finished sum and adds the block of the residual stream. -/
theorem pay3_apply (x : Vec Ideal S1024x2048 .f32) (g : Vec Ideal S1x2048 .f32) (o : Vec Ideal S1024x2048 .f32)
    (r : Fin 1024) (d : Fin 2048) :
    k0_pay3 x g o (ix2 r d) = (x (ix2 r d) : EReal) + (g (ix2 0 d) : EReal) * o (ix2 r d) := by
  pointwise [k0_pay3]

end Cert.MlpIdeal.Sum

end
-- ==== Proof.Mlp.Equation.lean ====
/-
  The squared-ReLU MLP as the run leaves it and as the reference states it: sixteen consecutive points, one per strip of
  512 hidden columns, add up to the product over all 8192 of them.
-/
module

public import proofs.«01_k».proof.Proof.Mlp.Block
public import proofs.«01_k».proof.Proof.Gen.MlpRefIdeal.Read
public import Idealize.ShloMosaic.Lib.StableHlo.Run

@[expose] public section

noncomputable section

namespace Cert.MlpIdeal.Sum

open Cert.MlpIdeal Cert.MlpIdeal.Gen Cert.MlpIdeal.Value Idealize.ShloMosaic Idealize.ShloMosaic.TcCoe Idealize.SL.Sem

variable (m : (ℓ : Loc nD τ sig) → Buf (Elt Ideal) ℓ)

/-- The residual stream, as launched. -/
abbrev argX (c : Dev nD) : S16384x2048.Idx → EReal := m ((c : Thread nD τ).loc main_arg0)
/-- The normalised activations, as launched. -/
abbrev argH (c : Dev nD) : S16384x2048.Idx → EReal := m ((c : Thread nD τ).loc main_arg1)
/-- The gate, as launched. -/
abbrev argG (c : Dev nD) : S1x2048.Idx → EReal := m ((c : Thread nD τ).loc main_arg2)
/-- The first weights, as launched. -/
abbrev argW (c : Dev nD) : S2x2048x8192.Idx → EReal := m ((c : Thread nD τ).loc main_arg3)
/-- The second weights, as launched. -/
abbrev argU (c : Dev nD) : S2x8192x2048.Idx → EReal := m ((c : Thread nD τ).loc main_arg4)

/-- One hidden column's share of an element of the product: the squared positive part of the row's activation, times
    the second weight. -/
def part (c : Dev nD) (r : Fin 16384) (d : Fin 2048) (f : Fin 8192) : EReal :=
  sq (∑ e : Fin 2048, argH m c (ix2 r e) * argW m c (ix3 1 e f)) * argU m c (ix3 1 f d)

/-- Which blocks a point reads: rows by its first coordinate, hidden columns by its second. -/
theorem index_facts : ∀ t : Fin cfg0.N,
    (win0_0.index t 0 = t.val / 16 ∧ win0_0.index t 1 = 0) ∧ (win0_1.index t 0 = t.val / 16 ∧ win0_1.index t 1 = 0)
    ∧ (win0_2.index t 0 = 0 ∧ win0_2.index t 1 = 0)
    ∧ (win0_3.index t 0 = 1 ∧ win0_3.index t 1 = 0 ∧ win0_3.index t 2 = t.val % 16)
    ∧ (win0_4.index t 0 = 1 ∧ win0_4.index t 1 = t.val % 16 ∧ win0_4.index t 2 = 0) :=
  (by decide +kernel : ∀ t : Fin grid0.N, _)

/-- The rounded first weights are the first weights. -/
theorem V_w (c : Dev nD) : V m c main_v0 = (argW m c : S2x2048x8192.Idx → EReal) := by
  show StableHlo.after hostOps0 (fun b => m (c, b)) _ = _
  unfold hostOps0
  after_results
  rfl

/-- The rounded second weights are the second weights. -/
theorem V_u (c : Dev nD) : V m c main_v1 = (argU m c : S2x8192x2048.Idx → EReal) := by
  show StableHlo.after hostOps0 (fun b => m (c, b)) _ = _
  unfold hostOps0
  after_results
  rfl

variable (c : Dev nD) (t : Fin cfg0.N)

theorem row_lt (t : Fin cfg0.N) (r : Fin 1024) : 1024 * (t.val / 16) + r.val < 16384 := by
  have := lt_of_lt_of_eq t.isLt (show cfg0.N = 256 from N_0)
  omega

theorem col_lt (t : Fin cfg0.N) (k : Fin 512) : 512 * (t.val % 16) + k.val < 8192 := by omega

/-- The residual block of a point is 1024 rows of the residual stream. -/
theorem blk_x (r : Fin 1024) (d : Fin 2048) :
    iblk m c 0 t (ix2 r d) = argX m c (ix2 ⟨1024 * (t.val / 16) + r.val, row_lt t r⟩ d) := by
  obtain ⟨⟨a0, a1⟩, -⟩ := index_facts t
  show V m c main_arg0 (((cfg0.win 0).blk t).view.emb (ix2 r d)) = _
  rw [V_main_arg0]
  refine congrArg (argX m c) (funext fun a => Fin.ext ?_)
  match a with
  | ⟨0, _⟩ => show win0_0.index t 0 * 1024 + 1 * r.val = 1024 * (t.val / 16) + r.val; omega
  | ⟨1, _⟩ => show win0_0.index t 1 * 2048 + 1 * d.val = d.val; omega

/-- The activation block of a point is 1024 rows of the activations. -/
theorem blk_h (r : Fin 1024) (d : Fin 2048) :
    iblk m c 1 t (ix2 r d) = argH m c (ix2 ⟨1024 * (t.val / 16) + r.val, row_lt t r⟩ d) := by
  obtain ⟨-, ⟨a0, a1⟩, -⟩ := index_facts t
  show V m c main_arg1 (((cfg0.win 1).blk t).view.emb (ix2 r d)) = _
  rw [V_main_arg1]
  refine congrArg (argH m c) (funext fun a => Fin.ext ?_)
  match a with
  | ⟨0, _⟩ => show win0_1.index t 0 * 1024 + 1 * r.val = 1024 * (t.val / 16) + r.val; omega
  | ⟨1, _⟩ => show win0_1.index t 1 * 2048 + 1 * d.val = d.val; omega

/-- The gate block of a point is the gate. -/
theorem blk_g (d : Fin 2048) : iblk m c 2 t (ix2 0 d) = argG m c (ix2 0 d) := by
  obtain ⟨-, -, ⟨a0, a1⟩, -⟩ := index_facts t
  show V m c main_arg2 (((cfg0.win 2).blk t).view.emb (ix2 0 d)) = _
  rw [V_main_arg2]
  refine congrArg (argG m c) (funext fun a => Fin.ext ?_)
  match a with
  | ⟨0, _⟩ => show win0_2.index t 0 * 1 + 1 * 0 = 0; omega
  | ⟨1, _⟩ => show win0_2.index t 1 * 2048 + 1 * d.val = d.val; omega

/-- A point's block of the first weights is 512 columns of the second layer's. -/
theorem blk_w (e : Fin 2048) (k : Fin 512) :
    iblk m c 3 t (ix3 0 e k) = argW m c (ix3 1 e ⟨512 * (t.val % 16) + k.val, col_lt t k⟩) := by
  obtain ⟨-, -, -, ⟨a0, a1, a2⟩, -⟩ := index_facts t
  show V m c main_v0 (((cfg0.win 3).blk t).view.emb (ix3 0 e k)) = _
  rw [V_w]
  refine congrArg (argW m c) (funext fun a => Fin.ext ?_)
  match a with
  | ⟨0, _⟩ => show win0_3.index t 0 * 1 + 1 * 0 = 1; omega
  | ⟨1, _⟩ => show win0_3.index t 1 * 2048 + 1 * e.val = e.val; omega
  | ⟨2, _⟩ => show win0_3.index t 2 * 512 + 1 * k.val = 512 * (t.val % 16) + k.val; omega

/-- A point's block of the second weights is 512 rows of the second layer's. -/
theorem blk_u (k : Fin 512) (d : Fin 2048) :
    iblk m c 4 t (ix3 0 k d) = argU m c (ix3 1 ⟨512 * (t.val % 16) + k.val, col_lt t k⟩ d) := by
  obtain ⟨-, -, -, -, ⟨a0, a1, a2⟩⟩ := index_facts t
  show V m c main_v1 (((cfg0.win 4).blk t).view.emb (ix3 0 k d)) = _
  rw [V_u]
  refine congrArg (argU m c) (funext fun a => Fin.ext ?_)
  match a with
  | ⟨0, _⟩ => show win0_4.index t 0 * 1 + 1 * 0 = 1; omega
  | ⟨1, _⟩ => show win0_4.index t 1 * 512 + 1 * k.val = 512 * (t.val % 16) + k.val; omega
  | ⟨2, _⟩ => show win0_4.index t 2 * 2048 + 1 * d.val = d.val; omega

/-- A point's share of an element of its row block: its strip's hidden columns. -/
def strip (q s : ℕ) (hq : q < 16) (hs : s < 16) (i : S1024x2048.Idx) : EReal :=
  ∑ k : Fin 512, part m c ⟨1024 * q + (i 0).val, by have : (i 0).val < 1024 := (i 0).isLt; omega⟩
    ⟨(i 1).val, (i 1).isLt⟩ ⟨512 * s + k.val, by omega⟩

/-- The same, by the point's number. -/
def share (n : ℕ) (i : S1024x2048.Idx) : EReal :=
  if h : n < 256 then strip m c (n / 16) (n % 16) (by omega) (by omega) i else 0

/-- A point adds its share to what the block holds. -/
theorem point_adds (n : ℕ) (h : n < cfg0.N) (acc : Vec Ideal S1024x2048 .f32) (i : S1024x2048.Idx) :
    k0_pay2 (iblk m c 1 ⟨n, h⟩) (iblk m c 3 ⟨n, h⟩) acc (iblk m c 4 ⟨n, h⟩) i = (acc i : EReal) + share m c n i := by
  obtain ⟨r, d, rfl⟩ : ∃ (r : Fin 1024) (d : Fin 2048), i = ix2 r d := ⟨i 0, i 1, eq_ix2 i⟩
  rw [pay2_apply, share, dif_pos (lt_of_lt_of_eq h N_0), strip]
  simp only [part]
  refine congrArg (_ + ·) (Finset.sum_congr rfl fun k _ => ?_)
  rw [blk_u m c ⟨n, h⟩ k d]
  refine congrArg (fun z => sq z * _) (Finset.sum_congr rfl fun e _ => ?_)
  rw [blk_h m c ⟨n, h⟩ r e, blk_w m c ⟨n, h⟩ e k]
  rfl

/-- Before its last point a run's block holds the sum of the shares so far. -/
theorem acc_eq (q : ℕ) (j : ℕ) (hj : j ≤ 14) (h : 16 * q + j < cfg0.N) (i : S1024x2048.Idx) :
    Pipeline.accAt (reset5 m c) (step5 m c) (16 * q) j h i
      = (0 : EReal) + ∑ s ∈ Finset.range (j + 1), share m c (16 * q + s) i := by
  refine Pipeline.accAt_add_apply (ι := S1024x2048.Idx) (β := EReal) (reset5 m c) (step5 m c) (fun _ => 0)
    (share m c) (16 * q) 14 ?_ ?_ j hj h i
  · intro h i
    unfold reset5
    rw [point_adds, pay1_apply]
  · intro n h acc i h1 h2
    unfold step5
    rw [if_pos (by omega), point_adds]

/-- What a run's last point leaves: the gated sum over the residual block. -/
theorem step_last (n : ℕ) (h : n < cfg0.N) (acc : Vec Ideal S1024x2048 .f32) (hn : n % 16 = 15) :
    step5 m c n h acc = k0_pay3 (iblk m c 0 ⟨n, h⟩) (iblk m c 2 ⟨n, h⟩)
      (k0_pay2 (iblk m c 1 ⟨n, h⟩) (iblk m c 3 ⟨n, h⟩) acc (iblk m c 4 ⟨n, h⟩)) := by
  unfold step5
  rw [if_neg (by omega), if_pos (by omega)]

/-- Sixteen strips of 512 columns are the 8192 columns. -/
theorem sum_strips (f : Fin 8192 → EReal) :
    ∑ s : Fin 16, ∑ k : Fin 512, f ⟨512 * s.val + k.val, by omega⟩ = ∑ k : Fin 8192, f k := by
  rw [← Fintype.sum_prod_type']
  refine Fintype.sum_equiv (finProdFinEquiv (m := 16) (n := 512)) _ _ fun p => congrArg f (Fin.ext ?_)
  show 512 * p.1.val + p.2.val = p.2.val + 512 * p.1.val
  omega

/-- What the output array holds at an element: the residual plus the gated product over all hidden columns. -/
theorem G5_apply (r : Fin 16384) (d : Fin 2048) :
    G5 m c (ix2 r d) = argX m c (ix2 r d) + argG m c (ix2 0 d) * ∑ f : Fin 8192, part m c r d f := by
  have hrun : run5Of (ix2 r d) = r.val / 1024 := by
    show 1 * (r.val / 1024 - 0) + 1 * (d.val / 2048 - 0) = _
    omega
  have hloc : loc5Of (ix2 r d) = ix2 (⟨r.val % 1024, by omega⟩ : Fin 1024) d := by
    funext a
    match a with
    | ⟨0, _⟩ => rfl
    | ⟨1, _⟩ => exact Fin.ext (show d.val % 2048 = d.val by omega)
  have hb : 16 * run5Of (ix2 r d) + 15 < cfg0.N := by rw [hrun, show cfg0.N = 256 from N_0]; omega
  unfold G5
  rw [dif_pos hb, hloc, Pipeline.accAt_succ]
  generalize hq : run5Of (ix2 r d) = q at hb
  obtain rfl : q = r.val / 1024 := by rw [← hq, hrun]
  rw [step_last m c _ hb _ (by omega), pay3_apply, point_adds, acc_eq m c _ 14 le_rfl,
    blk_x m c _ _ d, blk_g m c _ d, zero_add]
  refine congrArg₂ (fun a b => a + argG m c (ix2 0 d) * b) (congrArg (argX m c) ?_) ?_
  · refine congrArg (ix2 · d) (Fin.ext ?_)
    show 1024 * ((16 * (r.val / 1024) + 15) / 16) + r.val % 1024 = r.val
    omega
  · show ∑ s ∈ Finset.range 15, share m c (16 * (r.val / 1024) + s) _ + share m c (16 * (r.val / 1024) + 15) _ = _
    rw [← Finset.sum_range_succ (fun s => share m c (16 * (r.val / 1024) + s) _) 15, ← sum_strips,
      Finset.sum_range]
    refine Finset.sum_congr rfl fun s _ => ?_
    rw [share, dif_pos (by omega), strip]
    refine Finset.sum_congr rfl fun k _ => ?_
    congr 1
    · refine Fin.ext ?_
      show 1024 * ((16 * (r.val / 1024) + s.val) / 16) + r.val % 1024 = r.val
      omega
    · refine Fin.ext ?_
      show 512 * ((16 * (r.val / 1024) + s.val) % 16) + k.val = 512 * s.val + k.val
      omega

open Cert.MlpRefIdeal.Read in
/-- The reference's result at an element: the same. -/
theorem ref_apply (x h : S16384x2048.Idx → EReal) (g : S1x2048.Idx → EReal) (w : S2x2048x8192.Idx → EReal)
    (u : S2x8192x2048.Idx → EReal) (r : Fin 16384) (d : Fin 2048) :
    val_main_v11 (F := Ideal) x h g w u (ix2 r d) = x (ix2 r d) + g (ix2 0 d) *
      ∑ f : Fin 8192, sq (∑ e : Fin 2048, h (ix2 r e) * w (ix3 1 e f)) * u (ix3 1 f d) := by
  pointwise [val_main_v11, val_main_v10, val_main_v9, val_main_v8, val_main_v7, val_main_v6, val_main_v5, val_main_v4,
    val_main_call0_v0, val_main_call0_cst, val_main_v3, val_main_v2, val_main_v1, val_main_v0]
  rfl

end Cert.MlpIdeal.Sum

end
-- ==== Proof.Mlp.Claims.lean ====
/-
  The squared-ReLU MLP's claims: its frames, and that the launch and the reference leave the same array.
-/
module

public import proofs.«01_k».proof.Defs
public import proofs.«01_k».proof.Proof.Mlp.Equation
public import proofs.«01_k».proof.Proof.Gen.Mlp.Frame
public import proofs.«01_k».proof.Proof.Gen.MlpRefIdeal.Run

@[expose] public section

noncomputable section

namespace Cert.Mlps

open Idealize.ShloMosaic Idealize.ShloMosaic.TcCoe Idealize.SL.Sem

theorem frame_words : quiescent_Mlp (hMlp := Cert.Mlp.Gen.facts) := fun m g _ => Cert.Mlp.Gen.frame m g

theorem frame_ideal : quiescent_MlpIdeal (hMlpIdeal := Cert.MlpIdeal.Gen.facts) :=
  fun m g _ => Cert.MlpIdeal.Gen.frame m g

/-- The reference keeps its arguments; it has no counter to move. -/
theorem frame_ref : quiescent_MlpRefIdeal (hMlpRefIdeal := Cert.MlpRefIdeal.Gen.facts) := fun m g _ =>
  (θ_run _ _ _).mono (fun r h => ⟨fun c => (h c).2, sem_eq_zero_of_no_sems (by decide) r.2⟩) (Cert.MlpRefIdeal.Value.run m g)

/-- The launch's array is the reference's. -/
theorem arrays_eq (m : (ℓ : Loc Cert.MlpIdeal.nD Cert.MlpIdeal.τ Cert.MlpIdeal.sig) → Buf (Elt Ideal) ℓ)
    (c : Dev Cert.MlpIdeal.nD) :
    Cert.MlpRefIdeal.Read.val_main_v11 (F := Ideal) (Cert.MlpIdeal.Sum.argX m c) (Cert.MlpIdeal.Sum.argH m c)
        (Cert.MlpIdeal.Sum.argG m c) (Cert.MlpIdeal.Sum.argW m c) (Cert.MlpIdeal.Sum.argU m c)
      = Cert.MlpIdeal.Value.G5 m c := by
  funext i
  obtain ⟨r, d, rfl⟩ : ∃ r d, i = ix2 r d := ⟨i 0, i 1, eq_ix2 i⟩
  rw [Cert.MlpIdeal.Sum.ref_apply, Cert.MlpIdeal.Sum.G5_apply]
  rfl

theorem algebraic : algebraic_MlpIdeal_MlpRefIdeal (hMlpIdeal := Cert.MlpIdeal.Gen.facts)
    (hMlpRefIdeal := Cert.MlpRefIdeal.Gen.facts) := by
  intro m g m' g' _ hagree
  refine ⟨fun c => Cert.MlpIdeal.Value.G5 m c, Cert.MlpIdeal.Value.run m g, ?_⟩
  refine (θ_run _ _ _).mono (fun _ h c => ⟨(h c).1.trans ?_, (h c).2⟩) (Cert.MlpRefIdeal.Value.run m' g')
  obtain ⟨h0, h1, h2, h3, h4⟩ := hagree c
  rw [h0, h1, h2, h3, h4]
  exact arrays_eq m c

end Cert.Mlps

end
-- ==== Proof.Proj.Spec.lean ====
/-
  What the projections compute, as functions on extended reals: the modulated norm of a row, the gated residual update,
  and a product with weights that come in two parts.
-/
module

public import Idealize.ShloMosaic.PureOps.Ideal
public import Idealize.ShloMosaic.Lib.ValueIdx

@[expose] public section

noncomputable section

namespace Cert.Proj

open Idealize.ShloMosaic

/-- The root mean square norm of a row, weighted, then scaled by one plus a scale and shifted. -/
def normMod (x nw sc sh : Fin 2048 → EReal) (d : Fin 2048) : EReal :=
  x d * Ideal.rsqrt (Ideal.div (∑ e, x e * x e) (Ideal.ofBits .f32 0x45000000#32) + Ideal.ofBits .f32 0x358637BD#32)
    * nw d * (1 + sc d) + sh d

/-- The product with a real number is the product with it, plus the product with what is left over from it: nothing. -/
theorem sum_split {n : ℕ} (h w : Fin n → EReal) (hw : ∀ k, ∃ y : ℝ, w k = y) :
    ∑ k, h k * w k + ∑ k, h k * (w k - w k) = ∑ k, h k * w k := by
  have hz : ∀ k, h k * (w k - w k) = 0 := fun k => by
    obtain ⟨y, hy⟩ := hw k
    rw [hy, ← EReal.coe_sub, sub_self, EReal.coe_zero, mul_zero]
  rw [Finset.sum_eq_zero fun k _ => hz k, add_zero]

/-- The word the preconditions compare with is infinity. -/
theorem inf_word : Ideal.ofBits .f32 0x7F800000#32 = (⊤ : EReal) := by
  show Ideal.ieee 8 23 0x7F800000#32 = ⊤
  unfold Ideal.ieee
  rw [if_pos (by decide), if_pos (by decide), if_neg (by decide)]

/-- A number smaller in size than infinity is real. -/
theorem real_of_cmp (a : EReal) (h : Ideal.cmp .olt (max a (-a)) (Ideal.ofBits .f32 0x7F800000#32) = 1#1) :
    ∃ y : ℝ, a = y := by
  rw [inf_word] at h
  have hlt : max a (-a) < ⊤ := by
    by_contra hn
    simp [Ideal.cmp, hn] at h
  induction a with
  | bot => simp at hlt
  | coe y => exact ⟨y, rfl⟩
  | top => simp at hlt

end Cert.Proj

end
-- ==== Proof.Proj.In.lean ====
/-
  The input projection of the first layer: what the launch leaves in its two arrays, what the reference states, and that they
  agree where the gate weights the call reads are finite.
-/
module

public import proofs.«01_k».proof.Defs
public import proofs.«01_k».proof.Proof.Proj.Spec
public import proofs.«01_k».proof.Proof.Gen.InIdeal.Value
public import proofs.«01_k».proof.Proof.Gen.In.Frame
public import proofs.«01_k».proof.Proof.Gen.InRefIdeal.Read
public import proofs.«01_k».proof.Proof.Gen.Pre_finite_gates
public import Idealize.ShloMosaic.Lib.Pointwise
public import Idealize.ShloMosaic.Lib.ValueIdx
public import Idealize.ShloMosaic.Lib.StableHlo.Run
public import Idealize.ShloMosaic.Lib.Pipeline.ValueKit

@[expose] public section

noncomputable section

namespace Cert.Proj.In

open Cert.InIdeal Cert.InIdeal.Gen Cert.InIdeal.Value Idealize.ShloMosaic Idealize.ShloMosaic.TcCoe
  Idealize.SL.Sem

/-! ## The mathematics -/

/-- The weights' column a column of the result is the product with: the sixteen columns from 4096 on are skipped. -/
def srcCol (d : Fin 7168) : Fin 7680 := ⟨if d.val < 4096 then d.val else d.val + 16, by split <;> omega⟩

/-- A gate weight, or zero beyond the sixteen columns of them. -/
def gateCol (g : S2048x128.Idx → EReal) (k : Fin 2048) (d : Fin 128) : EReal := if d.val < 16 then g (ix2 k d) else 0

/-- The modulated norm of a row. -/
def hidden (x : S16384x2048.Idx → EReal) (nw sc sh : S1x2048.Idx → EReal) (r : Fin 16384) (k : Fin 2048) : EReal :=
  normMod (fun e => x (ix2 r e)) (fun e => nw (ix2 0 e)) (fun e => sc (ix2 0 e)) (fun e => sh (ix2 0 e)) k

/-- The projection of the modulated norm. -/
def proj (x : S16384x2048.Idx → EReal) (nw sc sh : S1x2048.Idx → EReal) (w : S2048x7680.Idx → EReal) :
    S16384x7168.Idx → EReal := fun i => ∑ k, hidden x nw sc sh (i 0) k * w (ix2 k (srcCol (i 1)))

/-- The gates' logits, with zero beyond them. -/
def gates (x : S16384x2048.Idx → EReal) (nw sc sh : S1x2048.Idx → EReal) (g : S2048x128.Idx → EReal) :
    S16384x128.Idx → EReal := fun i => ∑ k, hidden x nw sc sh (i 0) k * gateCol g k (i 1)

/-! ## What a point stores -/

theorem pay2_apply (x : Vec Ideal S256x2048 .f32) (nw sc sh : Vec Ideal S1x2048 .f32) (r : Fin 256) (d : Fin 2048) :
    k0_pay2 x nw sc sh (ix2 r d) = normMod (fun e => x (ix2 r e)) (fun e => nw (ix2 0 e))
      (fun e => sc (ix2 0 e)) (fun e => sh (ix2 0 e)) d := by
  pointwise [k0_pay2, normMod]

theorem pay3_apply (x : Vec Ideal S256x2048 .f32) (nw sc sh : Vec Ideal S1x2048 .f32) (w : Vec Ideal S2048x4096 .bf16)
    (r : Fin 256) (d : Fin 4096) :
    k0_pay3 x nw sc sh w (ix2 r d) = ∑ k : Fin 2048, (k0_pay2 x nw sc sh (ix2 r k) : EReal) * w (ix2 k d) := by
  unfold k0_pay3
  generalize k0_pay2 x nw sc sh = h
  pointwise []

theorem pay4_apply (x : Vec Ideal S256x2048 .f32) (nw sc sh : Vec Ideal S1x2048 .f32) (w : Vec Ideal S2048x3072 .bf16)
    (r : Fin 256) (d : Fin 3072) :
    k0_pay4 x nw sc sh w (ix2 r d) = ∑ k : Fin 2048, (k0_pay2 x nw sc sh (ix2 r k) : EReal) * w (ix2 k d) := by
  unfold k0_pay4
  generalize k0_pay2 x nw sc sh = h
  pointwise []

theorem pay1_apply (h : Vec Ideal S256x2048 .bf16) (w : Vec Ideal S2048x256 .bf16) (r : Fin 256) (d : Fin 128) :
    k0_pay1 h (k0_pay5 w) (constant S256x256 .f32 0x00000000#32) (ix2 r d)
      = ∑ k : Fin 2048, (h (ix2 r k) : EReal) * w (ix2 k ⟨d.val, by omega⟩)
        + ∑ k : Fin 2048, (h (ix2 r k) : EReal) * w (ix2 k ⟨128 + d.val, by omega⟩) := by
  pointwise [k0_pay1, k0_pay5]

/-! ## The blocks a point reads -/

variable (m : (ℓ : Loc nD τ sig) → Buf (Elt Ideal) ℓ)

theorem index_facts : ∀ t : Fin cfg0.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = t.val ∧ win0_7.index t 1 = 0)
    ∧ (win0_8.index t 0 = t.val ∧ win0_8.index t 1 = 0) :=
  (by decide +kernel : ∀ t : Fin grid0.N, _)

abbrev argX (c : Dev nD) : S16384x2048.Idx → EReal := m ((c : Thread nD τ).loc main_arg0)
abbrev argNw (c : Dev nD) : S1x2048.Idx → EReal := m ((c : Thread nD τ).loc main_arg1)
abbrev argSc (c : Dev nD) : S1x2048.Idx → EReal := m ((c : Thread nD τ).loc main_arg2)
abbrev argSh (c : Dev nD) : S1x2048.Idx → EReal := m ((c : Thread nD τ).loc main_arg3)
abbrev argW (c : Dev nD) : S2048x7680.Idx → EReal := m ((c : Thread nD τ).loc main_arg4)
abbrev argG (c : Dev nD) : S2048x128.Idx → EReal := m ((c : Thread nD τ).loc main_arg5)

/-- The last columns of the weights, as the host slices them. -/
theorem V_u (c : Dev nD) (k : Fin 2048) (d : Fin 3072) :
    (V m c main_v2 : S2048x3072.Idx → EReal) (ix2 k d) = argW m c (ix2 k ⟨4112 + d.val, by omega⟩) := by
  have h : (V m c main_v2 : S2048x3072.Idx → EReal)
      = extractStridedSlice S2048x3072 ![0, 4112] (argW m c) slices_S2048x7680_S2048x3072_0_4112 := by
    show StableHlo.after (List.flatten [hostOps0, hostOps0_1, hostOps0_2]) (fun b => m (c, b)) _ = _
    unfold hostOps0 hostOps0_1 hostOps0_2
    simp only [List.flatten_cons, List.flatten_nil, List.append_nil, List.cons_append, List.nil_append]
    after_results
  rw [h]
  pointwise []

/-- The gate weights, padded with zeros to 128 columns. -/
def padded (g : S2048x128.Idx → EReal) : Vec Ideal S2048x128 .f32 :=
  pad S2048x128 ![0, 0] ![0, 112] ![0, 0] (extractStridedSlice S2048x16 ![0, 0] (g : Vec Ideal S2048x128 .f32) slices_S2048x128_S2048x16_0_0)
    (sitofp (F := Ideal) .f32 (constantI S_ 32 0#32)) pads_S2048x16_S2048x128_000_01120 h_S_

theorem sitofp_zero : (FloatOps.sitofp (F := Ideal) .f32 0#32 : EReal) = 0 := by
  show ((((0#32 : BitVec 32).toInt : ℤ) : ℝ) : EReal) = 0
  simp

theorem padded_apply (g : S2048x128.Idx → EReal) (k : Fin 2048) (d : Fin 128) : padded g (ix2 k d) = gateCol g k d := by
  have h : padded g (ix2 k d) = if h : d.val < 16 then g (ix2 k ⟨d.val, by omega⟩) else FloatOps.sitofp (F := Ideal) .f32 0#32 := by
    pointwise [padded]
  rw [h, sitofp_zero]
  unfold gateCol
  split <;> rfl

/-- The weights, rounded. -/
def rounded (p : FVec Ideal S2048x128 .f32) : FVec Ideal S2048x128 .bf16 := truncf .bf16 p bitsLt_bf16_f32

/-- What is left of the weights when their rounding is taken off, rounded. -/
def leftover (p : FVec Ideal S2048x128 .f32) : FVec Ideal S2048x128 .bf16 :=
  truncf .bf16 (subf p (extf .f32 (rounded p) bitsLt_bf16_f32)) bitsLt_bf16_f32

/-- The padded gate weights, and what is left of each when its rounding is taken off. -/
def halves (p : Vec Ideal S2048x128 .f32) : Vec Ideal S2048x256 .bf16 :=
  concatenate S2048x256 1 [⟨S2048x128, rounded p⟩, ⟨S2048x128, leftover p⟩] concatenates_S2048x128_S2048x128_S2048x256_d1

theorem halves_left (p : Vec Ideal S2048x128 .f32) (k : Fin 2048) (d : Fin 128) :
    (halves p (ix2 k ⟨d.val, by omega⟩) : EReal) = p (ix2 k d) := by
  pointwise [halves, rounded, leftover]

theorem halves_right (p : Vec Ideal S2048x128 .f32) (k : Fin 2048) (d : Fin 128) :
    (halves p (ix2 k ⟨128 + d.val, by omega⟩) : EReal) = (p (ix2 k d) : EReal) - p (ix2 k d) := by
  pointwise [halves, rounded, leftover]

theorem V_g (c : Dev nD) : (V m c main_v7 : S2048x256.Idx → EReal) = halves (padded (argG m c)) := by
  show StableHlo.after (List.flatten [hostOps0, hostOps0_1, hostOps0_2]) (fun b => m (c, b)) _ = _
  unfold hostOps0 hostOps0_1 hostOps0_2
  simp only [List.flatten_cons, List.flatten_nil, List.append_nil, List.cons_append, List.nil_append]
  after_results
  simp only [StableHlo.TRef.toBuf, StableHlo.TRef.ofBuf, cast_cast, cast_eq]
  rfl

variable (c : Dev nD) (t : Fin cfg0.N)

theorem row_lt (t : Fin cfg0.N) (r : Fin 256) : 256 * t.val + r.val < 16384 := by
  have := lt_of_lt_of_eq t.isLt (show cfg0.N = 64 from N_0)
  omega

/-- A point's row in the arrays. -/
abbrev row (t : Fin cfg0.N) (r : Fin 256) : Fin 16384 := ⟨256 * t.val + r.val, row_lt t r⟩

theorem blk_x (r : Fin 256) (k : Fin 2048) : iblk m c 0 t (ix2 r k) = argX m c (ix2 (row t r) k) := by
  obtain ⟨⟨a0, a1⟩, -⟩ := index_facts t
  show V m c main_arg0 (((cfg0.win 0).blk t).view.emb (ix2 r k)) = _
  rw [V_main_arg0]
  refine congrArg (argX m c) (funext fun a => Fin.ext ?_)
  match a with
  | ⟨0, _⟩ => show win0_0.index t 0 * 256 + 1 * r.val = 256 * t.val + r.val; omega
  | ⟨1, _⟩ => show win0_0.index t 1 * 2048 + 1 * k.val = k.val; omega

theorem blk_nw (d : Fin 2048) : iblk m c 1 t (ix2 0 d) = argNw m c (ix2 0 d) := by
  obtain ⟨-, ⟨a0, a1⟩, -⟩ := index_facts t
  show V m c main_arg1 (((cfg0.win 1).blk t).view.emb (ix2 0 d)) = _
  rw [V_main_arg1]
  refine congrArg (argNw m c) (funext fun a => Fin.ext ?_)
  match a with
  | ⟨0, _⟩ => show win0_1.index t 0 * 1 + 1 * 0 = 0; omega
  | ⟨1, _⟩ => show win0_1.index t 1 * 2048 + 1 * d.val = d.val; omega

theorem blk_sc (d : Fin 2048) : iblk m c 2 t (ix2 0 d) = argSc m c (ix2 0 d) := by
  obtain ⟨-, -, ⟨a0, a1⟩, -⟩ := index_facts t
  show V m c main_arg2 (((cfg0.win 2).blk t).view.emb (ix2 0 d)) = _
  rw [V_main_arg2]
  refine congrArg (argSc m c) (funext fun a => Fin.ext ?_)
  match a with
  | ⟨0, _⟩ => show win0_2.index t 0 * 1 + 1 * 0 = 0; omega
  | ⟨1, _⟩ => show win0_2.index t 1 * 2048 + 1 * d.val = d.val; omega

theorem blk_sh (d : Fin 2048) : iblk m c 3 t (ix2 0 d) = argSh m c (ix2 0 d) := by
  obtain ⟨-, -, -, ⟨a0, a1⟩, -⟩ := index_facts t
  show V m c main_arg3 (((cfg0.win 3).blk t).view.emb (ix2 0 d)) = _
  rw [V_main_arg3]
  refine congrArg (argSh m c) (funext fun a => Fin.ext ?_)
  match a with
  | ⟨0, _⟩ => show win0_3.index t 0 * 1 + 1 * 0 = 0; omega
  | ⟨1, _⟩ => show win0_3.index t 1 * 2048 + 1 * d.val = d.val; omega

theorem blk_w (k : Fin 2048) (d : Fin 4096) : X0_4 m c t (ix2 k d) = argW m c (ix2 k ⟨d.val, by omega⟩) := by
  obtain ⟨-, -, -, -, ⟨a0, a1⟩, -⟩ := index_facts t
  unfold X0_4 Pipeline.Window.fill
  rw [dif_pos (moved0_4 t _)]
  show V m c main_arg4 (((cfg0.win 4).blk t).view.emb _) = _
  rw [V_main_arg4]
  refine congrArg (argW m c) (funext fun a => Fin.ext ?_)
  match a with
  | ⟨0, _⟩ => show win0_4.index t 0 * 2048 + 1 * k.val = k.val; omega
  | ⟨1, _⟩ => show win0_4.index t 1 * 4096 + 1 * d.val = d.val; omega

theorem blk_u (k : Fin 2048) (d : Fin 3072) :
    iblk m c 5 t (ix2 k d) = argW m c (ix2 k ⟨4112 + d.val, by omega⟩) := by
  obtain ⟨-, -, -, -, -, ⟨a0, a1⟩, -⟩ := index_facts t
  rw [← V_u]
  show (V m c main_v2 : S2048x3072.Idx → EReal) (((cfg0.win 5).blk t).view.emb (ix2 k d)) = _
  refine congrArg (V m c main_v2 : S2048x3072.Idx → EReal) (funext fun a => Fin.ext ?_)
  match a with
  | ⟨0, _⟩ => show win0_5.index t 0 * 2048 + 1 * k.val = k.val; omega
  | ⟨1, _⟩ => show win0_5.index t 1 * 3072 + 1 * d.val = d.val; omega

theorem blk_g (k : Fin 2048) (d : Fin 256) : iblk m c 6 t (ix2 k d) = halves (padded (argG m c)) (ix2 k d) := by
  obtain ⟨-, -, -, -, -, -, ⟨a0, a1⟩, -⟩ := index_facts t
  rw [← V_g]
  show (V m c main_v7 : S2048x256.Idx → EReal) (((cfg0.win 6).blk t).view.emb (ix2 k d)) = _
  refine congrArg (V m c main_v7 : S2048x256.Idx → EReal) (funext fun a => Fin.ext ?_)
  match a with
  | ⟨0, _⟩ => show win0_6.index t 0 * 2048 + 1 * k.val = k.val; omega
  | ⟨1, _⟩ => show win0_6.index t 1 * 256 + 1 * d.val = d.val; omega

/-! ## The two arrays -/

abbrev P' : S16384x7168.Idx → EReal := proj (argX m c) (argNw m c) (argSc m c) (argSh m c) (argW m c)
abbrev G' : S16384x128.Idx → EReal := gates (argX m c) (argNw m c) (argSc m c) (argSh m c) (argG m c)
abbrev H' (r : Fin 16384) (k : Fin 2048) : EReal := hidden (argX m c) (argNw m c) (argSc m c) (argSh m c) r k

theorem point_h (r : Fin 256) (d : Fin 2048) :
    k0_pay2 (iblk m c 0 t) (iblk m c 1 t) (iblk m c 2 t) (iblk m c 3 t) (ix2 r d) = H' m c (row t r) d := by
  rw [pay2_apply]
  show _ = normMod (fun e => argX m c (ix2 (row t r) e)) (fun e => argNw m c (ix2 0 e)) (fun e => argSc m c (ix2 0 e))
    (fun e => argSh m c (ix2 0 e)) d
  rw [show (fun e => iblk m c 0 t (ix2 r e)) = (fun e => argX m c (ix2 (row t r) e)) from funext fun e => blk_x m c t r e,
    show (fun e => iblk m c 1 t (ix2 0 e)) = (fun e => argNw m c (ix2 0 e)) from funext fun e => blk_nw m c t e,
    show (fun e => iblk m c 2 t (ix2 0 e)) = (fun e => argSc m c (ix2 0 e)) from funext fun e => blk_sc m c t e,
    show (fun e => iblk m c 3 t (ix2 0 e)) = (fun e => argSh m c (ix2 0 e)) from funext fun e => blk_sh m c t e]

/-- The first columns a point stores. -/
theorem point_left (r : Fin 256) (d : Fin 4096) :
    k0_pay3 (iblk m c 0 t) (iblk m c 1 t) (iblk m c 2 t) (iblk m c 3 t) (X0_4 m c t) (ix2 r d)
      = P' m c (ix2 (row t r) ⟨d.val, by omega⟩) := by
  rw [pay3_apply]
  show _ = ∑ k, H' m c (row t r) k * argW m c (ix2 k (srcCol ⟨d.val, by omega⟩))
  refine Finset.sum_congr rfl fun k _ => ?_
  rw [point_h m c t r k, blk_w m c t k d]
  refine congrArg (fun e => _ * argW m c (ix2 k e)) (Fin.ext ?_)
  show d.val = if d.val < 4096 then d.val else d.val + 16
  rw [if_pos d.isLt]

/-- The last columns a point stores. -/
theorem point_right (r : Fin 256) (d : Fin 3072) :
    k0_pay4 (iblk m c 0 t) (iblk m c 1 t) (iblk m c 2 t) (iblk m c 3 t) (iblk m c 5 t) (ix2 r d)
      = P' m c (ix2 (row t r) ⟨4096 + d.val, by omega⟩) := by
  rw [pay4_apply]
  show _ = ∑ k, H' m c (row t r) k * argW m c (ix2 k (srcCol ⟨4096 + d.val, by omega⟩))
  refine Finset.sum_congr rfl fun k _ => ?_
  rw [point_h m c t r k, blk_u m c t k d]
  refine congrArg (fun e => _ * argW m c (ix2 k e)) (Fin.ext ?_)
  show 4112 + d.val = if 4096 + d.val < 4096 then 4096 + d.val else 4096 + d.val + 16
  rw [if_neg (by omega)]
  omega

/-- The gates a point stores: the rounded weights carry all of each finite weight, and nothing is left over. -/
theorem point_g (hg : ∀ k d, ∃ y : ℝ, gateCol (argG m c) k d = y) (r : Fin 256) (d : Fin 128) :
    k0_pay1 (k0_pay2 (iblk m c 0 t) (iblk m c 1 t) (iblk m c 2 t) (iblk m c 3 t)) (k0_pay5 (iblk m c 6 t))
      (constant S256x256 .f32 0x00000000#32) (ix2 r d) = G' m c (ix2 (row t r) d) := by
  rw [pay1_apply]
  show _ = ∑ k, H' m c (row t r) k * gateCol (argG m c) k d
  rw [← sum_split (fun k => H' m c (row t r) k) (fun k => gateCol (argG m c) k d) (fun k => hg k d)]
  refine congrArg₂ (· + ·) (Finset.sum_congr rfl fun k _ => ?_) (Finset.sum_congr rfl fun k _ => ?_)
  · rw [point_h m c t r k, blk_g m c t k _, halves_left, padded_apply]
  · rw [point_h m c t r k, blk_g m c t k _, halves_right, padded_apply]

theorem mem_block7 (t : Fin cfg0.N) (i : S16384x7168.Idx) :
    i ∈ ((cfg0.win 7).blk t).view.set ↔ ∀ a : Fin 2, win0_7.index t a * S256x7168.size a ≤ (i a).val
      ∧ (i a).val < win0_7.index t a * S256x7168.size a + S256x7168.size a := by
  show i ∈ ((View.whole main_v8_0).slice (win0_7.rect t)).set ↔ _
  rw [View.set_slice_whole, Rect.mem_set_unit]
  exact Iff.rfl

theorem mem_block8 (t : Fin cfg0.N) (i : S16384x128.Idx) :
    i ∈ ((cfg0.win 8).blk t).view.set ↔ ∀ a : Fin 2, win0_8.index t a * S256x128.size a ≤ (i a).val
      ∧ (i a).val < win0_8.index t a * S256x128.size a + S256x128.size a := by
  show i ∈ ((View.whole main_v8_1).slice (win0_8.rect t)).set ↔ _
  rw [View.set_slice_whole, Rect.mem_set_unit]
  exact Iff.rfl

/-- A point's two stores of the projection are its block of the array. -/
theorem stored (r : Fin 256) (d : Fin 7168) :
    (View.canon (Val := Elt Ideal) (s := S256x7168) (e := .f32) [⟨Rect.unit ![0, 4096] ![256, 3072] inb_S256x7168_S256x3072_0_4096,
          k0_pay4 (iblk m c 0 t) (iblk m c 1 t) (iblk m c 2 t) (iblk m c 3 t) (iblk m c 5 t)⟩,
        ⟨Rect.unit ![0, 0] ![256, 4096] inb_S256x7168_S256x4096_0_0,
          k0_pay3 (iblk m c 0 t) (iblk m c 1 t) (iblk m c 2 t) (iblk m c 3 t) (X0_4 m c t)⟩] : S256x7168.Idx → EReal) (ix2 r d)
      = P' m c (ix2 (row t r) d) := by
  refine View.canon_apply_of_pieces (Val := Elt Ideal) (S := S256x7168) (e := .f32) (fun y => P' m c (ix2 (row t (y 0)) (y 1))) _ ?_ (ix2 r d) ?_
  · intro p hp x
    rcases List.mem_cons.mp hp with rfl | hp
    · obtain ⟨r, d, rfl⟩ : ∃ (r : Fin 256) (d : Fin 3072), x = ix2 r d := ⟨x 0, x 1, eq_ix2 x⟩
      refine (point_right m c t r d).trans (congrArg (P' m c) (funext fun a => Fin.ext ?_))
      match a with
      | ⟨0, _⟩ => show 256 * t.val + r.val = 256 * t.val + (0 + 1 * r.val); omega
      | ⟨1, _⟩ => show 4096 + d.val = 4096 + 1 * d.val; omega
    · obtain rfl := List.mem_singleton.mp hp
      obtain ⟨r, d, rfl⟩ : ∃ (r : Fin 256) (d : Fin 4096), x = ix2 r d := ⟨x 0, x 1, eq_ix2 x⟩
      refine (point_left m c t r d).trans (congrArg (P' m c) (funext fun a => Fin.ext ?_))
      match a with
      | ⟨0, _⟩ => show 256 * t.val + r.val = 256 * t.val + (0 + 1 * r.val); omega
      | ⟨1, _⟩ => show d.val = 0 + 1 * d.val; omega
  · by_cases hd : d.val < 4096
    · refine ⟨_, List.mem_cons_of_mem _ (List.mem_singleton_self _), ?_⟩
      rw [Rect.mem_set_unit]
      intro a
      match a with
      | ⟨0, _⟩ => show 0 ≤ r.val ∧ r.val < 0 + 256; omega
      | ⟨1, _⟩ => show 0 ≤ d.val ∧ d.val < 0 + 4096; omega
    · refine ⟨_, List.mem_cons_self, ?_⟩
      rw [Rect.mem_set_unit]
      intro a
      match a with
      | ⟨0, _⟩ => show 0 ≤ r.val ∧ r.val < 0 + 256; omega
      | ⟨1, _⟩ => show 4096 ≤ d.val ∧ d.val < 4096 + 3072; omega

theorem final7 : (dats m 0 c).arrAt 7 cfg0.N = P' m c := by
  refine (dats m 0 c).arrAt_eq_of_cover 7 (P' m c) (fun t _ => ?_) (fun i => ?_)
  · obtain ⟨-, -, -, -, -, -, -, ⟨a0, a1⟩, -⟩ := index_facts t
    show (dats m 0 c).after 7 t = _
    rw [after0_7]
    unfold outsAt0
    frame_out
    funext j
    obtain ⟨r, d, rfl⟩ : ∃ (r : Fin 256) (d : Fin 7168), j = ix2 r d := ⟨j 0, j 1, eq_ix2 j⟩
    refine (stored m c t r d).trans ?_
    show _ = P' m c (((cfg0.win 7).blk t).view.emb (ix2 r d))
    refine congrArg (P' m c) (funext fun a => Fin.ext ?_)
    match a with
    | ⟨0, _⟩ => show 256 * t.val + r.val = win0_7.index t 0 * 256 + 1 * r.val; omega
    | ⟨1, _⟩ => show d.val = win0_7.index t 1 * 7168 + 1 * d.val; omega
  · have h0 : (i 0).val < 16384 := (i 0).isLt
    have h1 : (i 1).val < 7168 := (i 1).isLt
    refine ⟨⟨(i 0).val / 256, lt_of_lt_of_eq (by omega) (show cfg0.N = 64 from N_0).symm⟩, flush0_7 _, (mem_block7 _ i).2 ?_⟩
    obtain ⟨-, -, -, -, -, -, -, ⟨a0, a1⟩, -⟩ :=
      index_facts ⟨(i 0).val / 256, lt_of_lt_of_eq (by omega) (show cfg0.N = 64 from N_0).symm⟩
    intro a
    match a with
    | ⟨0, _⟩ => show win0_7.index _ 0 * 256 ≤ (i 0).val ∧ (i 0).val < win0_7.index _ 0 * 256 + 256; rw [a0]; dsimp only; omega
    | ⟨1, _⟩ => show win0_7.index _ 1 * 7168 ≤ (i 1).val ∧ (i 1).val < win0_7.index _ 1 * 7168 + 7168; rw [a1]; omega

theorem final8 (hg : ∀ k d, ∃ y : ℝ, gateCol (argG m c) k d = y) : (dats m 0 c).arrAt 8 cfg0.N = G' m c := by
  refine (dats m 0 c).arrAt_eq_of_cover 8 (G' m c) (fun t _ => ?_) (fun i => ?_)
  · obtain ⟨-, -, -, -, -, -, -, -, ⟨a0, a1⟩⟩ := index_facts t
    show (dats m 0 c).after 8 t = _
    rw [after0_8]
    unfold outsAt0
    frame_out
    funext j
    obtain ⟨r, d, rfl⟩ : ∃ (r : Fin 256) (d : Fin 128), j = ix2 r d := ⟨j 0, j 1, eq_ix2 j⟩
    refine (point_g m c t hg r d).trans ?_
    show _ = G' m c (((cfg0.win 8).blk t).view.emb (ix2 r d))
    refine congrArg (G' m c) (funext fun a => Fin.ext ?_)
    match a with
    | ⟨0, _⟩ => show 256 * t.val + r.val = win0_8.index t 0 * 256 + 1 * r.val; omega
    | ⟨1, _⟩ => show d.val = win0_8.index t 1 * 128 + 1 * d.val; omega
  · have h0 : (i 0).val < 16384 := (i 0).isLt
    have h1 : (i 1).val < 128 := (i 1).isLt
    refine ⟨⟨(i 0).val / 256, lt_of_lt_of_eq (by omega) (show cfg0.N = 64 from N_0).symm⟩, flush0_8 _, (mem_block8 _ i).2 ?_⟩
    obtain ⟨-, -, -, -, -, -, -, -, ⟨a0, a1⟩⟩ :=
      index_facts ⟨(i 0).val / 256, lt_of_lt_of_eq (by omega) (show cfg0.N = 64 from N_0).symm⟩
    intro a
    match a with
    | ⟨0, _⟩ => show win0_8.index _ 0 * 256 ≤ (i 0).val ∧ (i 0).val < win0_8.index _ 0 * 256 + 256; rw [a0]; dsimp only; omega
    | ⟨1, _⟩ => show win0_8.index _ 1 * 128 ≤ (i 1).val ∧ (i 1).val < win0_8.index _ 1 * 128 + 128; rw [a1]; omega

/-! ## The reference -/

section Reference

variable (x : S16384x2048.Idx → EReal) (nw sc sh : S1x2048.Idx → EReal)

open Cert.InRefIdeal.Read

theorem ref_h (r : Fin 16384) (d : Fin 2048) : val_main_v17 (F := Ideal) x nw sc sh (ix2 r d) = hidden x nw sc sh r d := by
  unfold hidden
  pointwise [val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst_2, val_main_cst_1, val_main_cst_0, val_main_cst, normMod]

theorem ref_dot (w : S2048x7680.Idx → EReal) (r : Fin 16384) (d : Fin 7680) :
    val_main_v19 (F := Ideal) x nw sc sh w (ix2 r d) = ∑ k, hidden x nw sc sh r k * w (ix2 k d) := by
  have h : val_main_v19 (F := Ideal) x nw sc sh w (ix2 r d)
      = ∑ k, val_main_v17 (F := Ideal) x nw sc sh (ix2 r k) * w (ix2 k d) := by
    unfold val_main_v19 val_main_v18
    generalize val_main_v17 (F := Ideal) x nw sc sh = y
    pointwise []
  rw [h]
  exact Finset.sum_congr rfl fun k _ => congrArg (· * _) (ref_h x nw sc sh r k)

theorem ref_left (w : S2048x7680.Idx → EReal) (r : Fin 16384) (d : Fin 4096) :
    val_main_v24 (F := Ideal) x nw sc sh w (ix2 r ⟨d.val, by omega⟩)
      = val_main_v19 (F := Ideal) x nw sc sh w (ix2 r ⟨d.val, by omega⟩) := by
  unfold val_main_v24 val_main_v22 val_main_v23
  generalize val_main_v19 (F := Ideal) x nw sc sh w = y
  pointwise []

theorem ref_right (w : S2048x7680.Idx → EReal) (r : Fin 16384) (d : Fin 3072) :
    val_main_v24 (F := Ideal) x nw sc sh w (ix2 r ⟨4096 + d.val, by omega⟩)
      = val_main_v19 (F := Ideal) x nw sc sh w (ix2 r ⟨4112 + d.val, by omega⟩) := by
  unfold val_main_v24 val_main_v22 val_main_v23
  generalize val_main_v19 (F := Ideal) x nw sc sh w = y
  pointwise []

theorem ref_p (w : S2048x7680.Idx → EReal) : val_main_v24 (F := Ideal) x nw sc sh w = proj x nw sc sh w := by
  funext i
  obtain ⟨r, d, rfl⟩ : ∃ (r : Fin 16384) (d : Fin 7168), i = ix2 r d := ⟨i 0, i 1, eq_ix2 i⟩
  show _ = ∑ k, hidden x nw sc sh r k * w (ix2 k (srcCol d))
  rw [← ref_dot]
  by_cases hd : d.val < 4096
  · refine (ref_left x nw sc sh w r ⟨d.val, hd⟩).trans (congrArg (fun e => val_main_v19 (F := Ideal) x nw sc sh w (ix2 r e)) (Fin.ext ?_))
    show d.val = if d.val < 4096 then d.val else d.val + 16
    rw [if_pos hd]
  · have hd' := d.isLt
    have hc : d = ⟨4096 + (⟨d.val - 4096, by omega⟩ : Fin 3072).val, by dsimp only; omega⟩ := Fin.ext (by dsimp only; omega)
    refine (congrArg (fun e => val_main_v24 (F := Ideal) x nw sc sh w (ix2 r e)) hc).trans
      ((ref_right x nw sc sh w r ⟨d.val - 4096, by omega⟩).trans (congrArg (fun e => val_main_v19 (F := Ideal) x nw sc sh w (ix2 r e)) (Fin.ext ?_)))
    show 4112 + (d.val - 4096) = if d.val < 4096 then d.val else d.val + 16
    rw [if_neg hd]
    omega

theorem ref_gate (g : S2048x128.Idx → EReal) (r : Fin 16384) (d : Fin 16) :
    val_main_v21 (F := Ideal) x nw sc sh g (ix2 r d) = ∑ k, hidden x nw sc sh r k * g (ix2 k ⟨d.val, by omega⟩) := by
  have h : val_main_v21 (F := Ideal) x nw sc sh g (ix2 r d)
      = ∑ k, val_main_v17 (F := Ideal) x nw sc sh (ix2 r k) * g (ix2 k ⟨d.val, by omega⟩) := by
    unfold val_main_v21 val_main_v20
    generalize val_main_v17 (F := Ideal) x nw sc sh = y
    pointwise []
  rw [h]
  exact Finset.sum_congr rfl fun k _ => congrArg (· * _) (ref_h x nw sc sh r k)

theorem ref_g (g : S2048x128.Idx → EReal) : val_main_v25 (F := Ideal) x nw sc sh g = gates x nw sc sh g := by
  funext i
  obtain ⟨r, d, rfl⟩ : ∃ (r : Fin 16384) (d : Fin 128), i = ix2 r d := ⟨i 0, i 1, eq_ix2 i⟩
  show _ = ∑ k, hidden x nw sc sh r k * gateCol g k d
  have h : val_main_v25 (F := Ideal) x nw sc sh g (ix2 r d)
      = if h : d.val < 16 then val_main_v21 (F := Ideal) x nw sc sh g (ix2 r ⟨d.val, h⟩) else FloatOps.sitofp (F := Ideal) .f32 0#32 := by
    unfold val_main_v25
    generalize val_main_v21 (F := Ideal) x nw sc sh g = y
    pointwise [val_main_call0_v0, val_main_c]
  rw [h, sitofp_zero]
  by_cases hd : d.val < 16
  · rw [dif_pos hd, ref_gate]
    refine Finset.sum_congr rfl fun k _ => ?_
    unfold gateCol
    rw [if_pos hd]
  · rw [dif_neg hd]
    refine (Finset.sum_eq_zero fun k _ => ?_).symm
    unfold gateCol
    rw [if_neg hd, mul_zero]

end Reference

/-! ## The claims -/

theorem frame_words : quiescent_In (hIn := Cert.In.Gen.facts) := fun m g _ => Cert.In.Gen.frame m g

theorem frame_ideal : quiescent_InIdeal (hInIdeal := Cert.InIdeal.Gen.facts) :=
  fun m g _ => Cert.InIdeal.Gen.frame m g

theorem frame_ideal_finite : quiescent_InIdeal_pre_finite_gates (hInIdeal := Cert.InIdeal.Gen.facts)
    (hPre_finite_gates := Cert.Pre_finite_gates.Gen.facts) :=
  fun m g _ => Cert.InIdeal.Gen.frame m g

/-- The reference keeps its arguments; it has no counter to move. -/
theorem frame_ref : quiescent_InRefIdeal (hInRefIdeal := Cert.InRefIdeal.Gen.facts) := fun m g _ =>
  (θ_run _ _ _).mono (fun r h => ⟨fun c => (h c).2.2, sem_eq_zero_of_no_sems (by decide) r.2⟩)
    (Cert.InRefIdeal.Value.run m g)

theorem frame_ref_finite : quiescent_InRefIdeal_pre_finite_gates (hInRefIdeal := Cert.InRefIdeal.Gen.facts)
    (hPre_finite_gates := Cert.Pre_finite_gates.Gen.facts) :=
  fun m g _ => frame_ref m g trivial

/-- Under the precondition every gate weight the product meets is real. -/
theorem finite_at [Cert.Pre_finite_gates.Facts] (h : Pre_InIdeal_finite_gates m) (c : Dev nD) (k : Fin 2048) (d : Fin 128) :
    ∃ y : ℝ, gateCol (argG m c) k d = y := by
  unfold gateCol
  by_cases hd : d.val < 16
  · rw [if_pos hd]
    have := congrFun (h c) (ix2 k ⟨d.val, hd⟩)
    refine real_of_cmp _ (Eq.trans ?_ this)
    unfold Cert.Pre_finite_gates.fn
    pointwise []
    rfl
  · exact ⟨0, by rw [if_neg hd, EReal.coe_zero]⟩

theorem algebraic : algebraic_InIdeal_InRefIdeal_pre_finite_gates (hInIdeal := Cert.InIdeal.Gen.facts)
    (hInRefIdeal := Cert.InRefIdeal.Gen.facts) (hPre_finite_gates := Cert.Pre_finite_gates.Gen.facts) := by
  intro m g m' g' hpre hagree
  refine ⟨fun c => P' m c, fun c => G' m c, ?_, ?_⟩
  · exact (θ_run _ _ _).mono (fun _ h c => ⟨(h c).1.trans (final7 m c), (h c).2.1.trans (final8 m c (finite_at m hpre c)), (h c).2.2⟩)
      (run_blocks m g)
  · refine (θ_run _ _ _).mono (fun _ h c => ⟨(h c).1.trans ?_, (h c).2.1.trans ?_, (h c).2.2⟩)
      (Cert.InRefIdeal.Value.run m' g')
    · obtain ⟨h0, h1, h2, h3, h4, -⟩ := hagree c
      rw [h0, h1, h2, h3, h4]
      exact ref_p _ _ _ _ _
    · obtain ⟨h0, h1, h2, h3, -, h5⟩ := hagree c
      rw [h0, h1, h2, h3, h5]
      exact ref_g _ _ _ _ _

end Cert.Proj.In

end
-- ==== Proof.Proj.SsdIn.lean ====
/-
  The input projection of the second layer: what the launch leaves in its two arrays, what the reference states, and that they
  agree where the step weights the call reads are finite.
-/
module

public import proofs.«01_k».proof.Defs
public import proofs.«01_k».proof.Proof.Proj.Spec
public import proofs.«01_k».proof.Proof.Gen.SsdInIdeal.Value
public import proofs.«01_k».proof.Proof.Gen.SsdIn.Frame
public import proofs.«01_k».proof.Proof.Gen.SsdInRefIdeal.Read
public import proofs.«01_k».proof.Proof.Gen.Pre_finite_steps
public import Idealize.ShloMosaic.Lib.Pointwise
public import Idealize.ShloMosaic.Lib.ValueIdx
public import Idealize.ShloMosaic.Lib.StableHlo.Run
public import Idealize.ShloMosaic.Lib.Pipeline.ValueKit

@[expose] public section

noncomputable section

namespace Cert.Proj.SsdIn

open Cert.SsdInIdeal Cert.SsdInIdeal.Gen Cert.SsdInIdeal.Value Idealize.ShloMosaic Idealize.ShloMosaic.TcCoe
  Idealize.SL.Sem

/-! ## The mathematics -/

/-- A step weight, or zero beyond the sixty-four columns of them. -/
def stepCol (g : S2048x128.Idx → EReal) (k : Fin 2048) (d : Fin 128) : EReal := if d.val < 64 then g (ix2 k d) else 0

/-- The modulated norm of a row. -/
def hidden (x : S16384x2048.Idx → EReal) (nw sc sh : S1x2048.Idx → EReal) (r : Fin 16384) (k : Fin 2048) : EReal :=
  normMod (fun e => x (ix2 r e)) (fun e => nw (ix2 0 e)) (fun e => sc (ix2 0 e)) (fun e => sh (ix2 0 e)) k

/-- The projection of the modulated norm. -/
def proj (x : S16384x2048.Idx → EReal) (nw sc sh : S1x2048.Idx → EReal) (w : S2048x10752.Idx → EReal) :
    S16384x10240.Idx → EReal := fun i => ∑ k, hidden x nw sc sh (i 0) k * w (ix2 k ⟨(i 1).val, lt_trans (i 1).isLt (by decide)⟩)

/-- The steps, with zero beyond them; the second plane is zero. -/
def steps (x : S16384x2048.Idx → EReal) (nw sc sh : S1x2048.Idx → EReal) (g : S2048x128.Idx → EReal) :
    S2x16384x128.Idx → EReal := fun i =>
  if (i 0).val = 0 then ∑ k, hidden x nw sc sh (i 1) k * stepCol g k (i 2) else 0

/-! ## What a point stores -/

theorem pay1_apply (x : Vec Ideal S512x2048 .f32) (nw sc sh : Vec Ideal S1x2048 .f32) (r : Fin 512) (d : Fin 2048) :
    k0_pay1 x nw sc sh (ix2 r d) = normMod (fun e => x (ix2 r e)) (fun e => nw (ix2 0 e))
      (fun e => sc (ix2 0 e)) (fun e => sh (ix2 0 e)) d := by
  pointwise [k0_pay1, normMod]

theorem pay2_apply (x : Vec Ideal S512x2048 .f32) (nw sc sh : Vec Ideal S1x2048 .f32) (w : Vec Ideal S2048x5120 .bf16)
    (r : Fin 512) (d : Fin 5120) :
    k0_pay2 x nw sc sh w (ix2 r d) = ∑ k : Fin 2048, (k0_pay1 x nw sc sh (ix2 r k) : EReal) * w (ix2 k d) := by
  unfold k0_pay2
  generalize k0_pay1 x nw sc sh = h
  pointwise []

theorem pay3_apply (x : Vec Ideal S512x2048 .f32) (nw sc sh : Vec Ideal S1x2048 .f32) (w : Vec Ideal S2048x256 .bf16)
    (r : Fin 512) (d : Fin 128) :
    k0_pay3 x nw sc sh w (ix3 0 r d)
      = ∑ k : Fin 2048, (k0_pay1 x nw sc sh (ix2 r k) : EReal) * w (ix2 k ⟨d.val, by omega⟩)
        + ∑ k : Fin 2048, (k0_pay1 x nw sc sh (ix2 r k) : EReal) * w (ix2 k ⟨128 + d.val, by omega⟩) := by
  unfold k0_pay3
  generalize k0_pay1 x nw sc sh = h
  pointwise []

theorem pay4_apply (r : Fin 512) (d : Fin 128) : k0_pay4 (F := Ideal) (ix3 0 r d) = (0 : EReal) := by
  pointwise [k0_pay4]

/-! ## The blocks a point reads -/

variable (m : (ℓ : Loc nD τ sig) → Buf (Elt Ideal) ℓ)

theorem index_facts : ∀ t : Fin cfg0.N,
    (win0_0.index t 0 = t.val % 32 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = t.val / 32)
    ∧ (win0_5.index t 0 = 0 ∧ win0_5.index t 1 = 0)
    ∧ (win0_6.index t 0 = t.val % 32 ∧ win0_6.index t 1 = t.val / 32)
    ∧ (win0_7.index t 0 = t.val / 32 ∧ win0_7.index t 1 = t.val % 32 ∧ win0_7.index t 2 = 0) :=
  (by decide +kernel : ∀ t : Fin grid0.N, _)

abbrev argX (c : Dev nD) : S16384x2048.Idx → EReal := m ((c : Thread nD τ).loc main_arg0)
abbrev argNw (c : Dev nD) : S1x2048.Idx → EReal := m ((c : Thread nD τ).loc main_arg1)
abbrev argSc (c : Dev nD) : S1x2048.Idx → EReal := m ((c : Thread nD τ).loc main_arg2)
abbrev argSh (c : Dev nD) : S1x2048.Idx → EReal := m ((c : Thread nD τ).loc main_arg3)
abbrev argW (c : Dev nD) : S2048x10752.Idx → EReal := m ((c : Thread nD τ).loc main_arg4)
abbrev argG (c : Dev nD) : S2048x128.Idx → EReal := m ((c : Thread nD τ).loc main_arg5)

/-- The step weights, padded with zeros to 128 columns. -/
def padded (g : S2048x128.Idx → EReal) : Vec Ideal S2048x128 .f32 :=
  pad S2048x128 ![0, 0] ![0, 64] ![0, 0] (extractStridedSlice S2048x64 ![0, 0] (g : Vec Ideal S2048x128 .f32) slices_S2048x128_S2048x64_0_0)
    (sitofp (F := Ideal) .f32 (constantI S_ 32 0#32)) pads_S2048x64_S2048x128_000_0640 h_S_

theorem sitofp_zero : (FloatOps.sitofp (F := Ideal) .f32 0#32 : EReal) = 0 := by
  show ((((0#32 : BitVec 32).toInt : ℤ) : ℝ) : EReal) = 0
  simp

theorem padded_apply (g : S2048x128.Idx → EReal) (k : Fin 2048) (d : Fin 128) : padded g (ix2 k d) = stepCol g k d := by
  have h : padded g (ix2 k d) = if h : d.val < 64 then g (ix2 k ⟨d.val, by omega⟩) else FloatOps.sitofp (F := Ideal) .f32 0#32 := by
    pointwise [padded]
  rw [h, sitofp_zero]
  unfold stepCol
  split <;> rfl

/-- The weights, rounded. -/
def rounded (p : FVec Ideal S2048x128 .f32) : FVec Ideal S2048x128 .bf16 := truncf .bf16 p bitsLt_bf16_f32

/-- What is left of the weights when their rounding is taken off, rounded. -/
def leftover (p : FVec Ideal S2048x128 .f32) : FVec Ideal S2048x128 .bf16 :=
  truncf .bf16 (subf p (extf .f32 (rounded p) bitsLt_bf16_f32)) bitsLt_bf16_f32

/-- The padded step weights, and what is left of each when its rounding is taken off. -/
def halves (p : Vec Ideal S2048x128 .f32) : Vec Ideal S2048x256 .bf16 :=
  concatenate S2048x256 1 [⟨S2048x128, rounded p⟩, ⟨S2048x128, leftover p⟩] concatenates_S2048x128_S2048x128_S2048x256_d1

theorem halves_left (p : Vec Ideal S2048x128 .f32) (k : Fin 2048) (d : Fin 128) :
    (halves p (ix2 k ⟨d.val, by omega⟩) : EReal) = p (ix2 k d) := by
  pointwise [halves, rounded, leftover]

theorem halves_right (p : Vec Ideal S2048x128 .f32) (k : Fin 2048) (d : Fin 128) :
    (halves p (ix2 k ⟨128 + d.val, by omega⟩) : EReal) = (p (ix2 k d) : EReal) - p (ix2 k d) := by
  pointwise [halves, rounded, leftover]

theorem V_g (c : Dev nD) : (V m c main_v6 : S2048x256.Idx → EReal) = halves (padded (argG m c)) := by
  show StableHlo.after (List.flatten [hostOps0, hostOps0_1, hostOps0_2]) (fun b => m (c, b)) _ = _
  unfold hostOps0 hostOps0_1 hostOps0_2
  simp only [List.flatten_cons, List.flatten_nil, List.append_nil, List.cons_append, List.nil_append]
  after_results
  simp only [StableHlo.TRef.toBuf, StableHlo.TRef.ofBuf, cast_cast, cast_eq]
  rfl

variable (c : Dev nD) (t : Fin cfg0.N)

theorem point_lt (t : Fin cfg0.N) : t.val < 64 := lt_of_lt_of_eq t.isLt (show cfg0.N = 64 from N_0)

theorem row_lt (t : Fin cfg0.N) (r : Fin 512) : 512 * (t.val % 32) + r.val < 16384 := by omega

/-- A point's row in the arrays. -/
abbrev row (t : Fin cfg0.N) (r : Fin 512) : Fin 16384 := ⟨512 * (t.val % 32) + r.val, row_lt t r⟩

theorem col_lt (t : Fin cfg0.N) (d : Fin 5120) : 5120 * (t.val / 32) + d.val < 10240 := by
  have := point_lt t
  omega

/-- A point's column in the projection. -/
abbrev col (t : Fin cfg0.N) (d : Fin 5120) : Fin 10240 := ⟨5120 * (t.val / 32) + d.val, col_lt t d⟩

theorem blk_x (r : Fin 512) (k : Fin 2048) : iblk m c 0 t (ix2 r k) = argX m c (ix2 (row t r) k) := by
  obtain ⟨⟨a0, a1⟩, -⟩ := index_facts t
  show V m c main_arg0 (((cfg0.win 0).blk t).view.emb (ix2 r k)) = _
  rw [V_main_arg0]
  refine congrArg (argX m c) (funext fun a => Fin.ext ?_)
  match a with
  | ⟨0, _⟩ => show win0_0.index t 0 * 512 + 1 * r.val = 512 * (t.val % 32) + r.val; omega
  | ⟨1, _⟩ => show win0_0.index t 1 * 2048 + 1 * k.val = k.val; omega

theorem blk_nw (d : Fin 2048) : iblk m c 1 t (ix2 0 d) = argNw m c (ix2 0 d) := by
  obtain ⟨-, ⟨a0, a1⟩, -⟩ := index_facts t
  show V m c main_arg1 (((cfg0.win 1).blk t).view.emb (ix2 0 d)) = _
  rw [V_main_arg1]
  refine congrArg (argNw m c) (funext fun a => Fin.ext ?_)
  match a with
  | ⟨0, _⟩ => show win0_1.index t 0 * 1 + 1 * 0 = 0; omega
  | ⟨1, _⟩ => show win0_1.index t 1 * 2048 + 1 * d.val = d.val; omega

theorem blk_sc (d : Fin 2048) : iblk m c 2 t (ix2 0 d) = argSc m c (ix2 0 d) := by
  obtain ⟨-, -, ⟨a0, a1⟩, -⟩ := index_facts t
  show V m c main_arg2 (((cfg0.win 2).blk t).view.emb (ix2 0 d)) = _
  rw [V_main_arg2]
  refine congrArg (argSc m c) (funext fun a => Fin.ext ?_)
  match a with
  | ⟨0, _⟩ => show win0_2.index t 0 * 1 + 1 * 0 = 0; omega
  | ⟨1, _⟩ => show win0_2.index t 1 * 2048 + 1 * d.val = d.val; omega

theorem blk_sh (d : Fin 2048) : iblk m c 3 t (ix2 0 d) = argSh m c (ix2 0 d) := by
  obtain ⟨-, -, -, ⟨a0, a1⟩, -⟩ := index_facts t
  show V m c main_arg3 (((cfg0.win 3).blk t).view.emb (ix2 0 d)) = _
  rw [V_main_arg3]
  refine congrArg (argSh m c) (funext fun a => Fin.ext ?_)
  match a with
  | ⟨0, _⟩ => show win0_3.index t 0 * 1 + 1 * 0 = 0; omega
  | ⟨1, _⟩ => show win0_3.index t 1 * 2048 + 1 * d.val = d.val; omega

theorem blk_w (k : Fin 2048) (d : Fin 5120) : X0_4 m c t (ix2 k d) = argW m c (ix2 k ⟨(col t d).val, lt_trans (col t d).isLt (by decide)⟩) := by
  obtain ⟨-, -, -, -, ⟨a0, a1⟩, -⟩ := index_facts t
  unfold X0_4 Pipeline.Window.fill
  rw [dif_pos (moved0_4 t _)]
  show V m c main_arg4 (((cfg0.win 4).blk t).view.emb _) = _
  rw [V_main_arg4]
  refine congrArg (argW m c) (funext fun a => Fin.ext ?_)
  match a with
  | ⟨0, _⟩ => show win0_4.index t 0 * 2048 + 1 * k.val = k.val; omega
  | ⟨1, _⟩ => show win0_4.index t 1 * 5120 + 1 * d.val = 5120 * (t.val / 32) + d.val; omega

theorem blk_g (k : Fin 2048) (d : Fin 256) : iblk m c 5 t (ix2 k d) = halves (padded (argG m c)) (ix2 k d) := by
  obtain ⟨-, -, -, -, -, ⟨a0, a1⟩, -⟩ := index_facts t
  rw [← V_g]
  show (V m c main_v6 : S2048x256.Idx → EReal) (((cfg0.win 5).blk t).view.emb (ix2 k d)) = _
  refine congrArg (V m c main_v6 : S2048x256.Idx → EReal) (funext fun a => Fin.ext ?_)
  match a with
  | ⟨0, _⟩ => show win0_5.index t 0 * 2048 + 1 * k.val = k.val; omega
  | ⟨1, _⟩ => show win0_5.index t 1 * 256 + 1 * d.val = d.val; omega

/-! ## The two arrays -/

abbrev P' : S16384x10240.Idx → EReal := proj (argX m c) (argNw m c) (argSc m c) (argSh m c) (argW m c)
abbrev G' : S2x16384x128.Idx → EReal := steps (argX m c) (argNw m c) (argSc m c) (argSh m c) (argG m c)
abbrev H' (r : Fin 16384) (k : Fin 2048) : EReal := hidden (argX m c) (argNw m c) (argSc m c) (argSh m c) r k

theorem point_h (r : Fin 512) (d : Fin 2048) :
    k0_pay1 (iblk m c 0 t) (iblk m c 1 t) (iblk m c 2 t) (iblk m c 3 t) (ix2 r d) = H' m c (row t r) d := by
  rw [pay1_apply]
  show _ = normMod (fun e => argX m c (ix2 (row t r) e)) (fun e => argNw m c (ix2 0 e)) (fun e => argSc m c (ix2 0 e))
    (fun e => argSh m c (ix2 0 e)) d
  rw [show (fun e => iblk m c 0 t (ix2 r e)) = (fun e => argX m c (ix2 (row t r) e)) from funext fun e => blk_x m c t r e,
    show (fun e => iblk m c 1 t (ix2 0 e)) = (fun e => argNw m c (ix2 0 e)) from funext fun e => blk_nw m c t e,
    show (fun e => iblk m c 2 t (ix2 0 e)) = (fun e => argSc m c (ix2 0 e)) from funext fun e => blk_sc m c t e,
    show (fun e => iblk m c 3 t (ix2 0 e)) = (fun e => argSh m c (ix2 0 e)) from funext fun e => blk_sh m c t e]

/-- The columns a point stores. -/
theorem point_p (r : Fin 512) (d : Fin 5120) :
    k0_pay2 (iblk m c 0 t) (iblk m c 1 t) (iblk m c 2 t) (iblk m c 3 t) (X0_4 m c t) (ix2 r d)
      = P' m c (ix2 (row t r) (col t d)) := by
  rw [pay2_apply]
  show _ = ∑ k, H' m c (row t r) k * argW m c (ix2 k ⟨(col t d).val, lt_trans (col t d).isLt (by decide)⟩)
  refine Finset.sum_congr rfl fun k _ => ?_
  rw [point_h m c t r k, blk_w m c t k d]

/-- The steps a point of the first column block stores: the rounded weights carry all of each finite weight, and nothing is
    left over. -/
theorem point_g (hg : ∀ k d, ∃ y : ℝ, stepCol (argG m c) k d = y) (r : Fin 512) (d : Fin 128) :
    k0_pay3 (iblk m c 0 t) (iblk m c 1 t) (iblk m c 2 t) (iblk m c 3 t) (iblk m c 5 t) (ix3 0 r d)
      = G' m c (ix3 0 (row t r) d) := by
  rw [pay3_apply]
  show _ = if (0 : ℕ) = 0 then ∑ k, H' m c (row t r) k * stepCol (argG m c) k d else 0
  rw [if_pos rfl, ← sum_split (fun k => H' m c (row t r) k) (fun k => stepCol (argG m c) k d) (fun k => hg k d)]
  refine congrArg₂ (· + ·) (Finset.sum_congr rfl fun k _ => ?_) (Finset.sum_congr rfl fun k _ => ?_)
  · rw [point_h m c t r k, blk_g m c t k _, halves_left, padded_apply]
  · rw [point_h m c t r k, blk_g m c t k _, halves_right, padded_apply]

theorem mem_block6 (t : Fin cfg0.N) (i : S16384x10240.Idx) :
    i ∈ ((cfg0.win 6).blk t).view.set ↔ ∀ a : Fin 2, win0_6.index t a * S512x5120.size a ≤ (i a).val
      ∧ (i a).val < win0_6.index t a * S512x5120.size a + S512x5120.size a := by
  show i ∈ ((View.whole main_v7_0).slice (win0_6.rect t)).set ↔ _
  rw [View.set_slice_whole, Rect.mem_set_unit]
  exact Iff.rfl

theorem mem_block7 (t : Fin cfg0.N) (i : S2x16384x128.Idx) :
    i ∈ ((cfg0.win 7).blk t).view.set ↔ ∀ a : Fin 3, win0_7.index t a * S1x512x128.size a ≤ (i a).val
      ∧ (i a).val < win0_7.index t a * S1x512x128.size a + S1x512x128.size a := by
  show i ∈ ((View.whole main_v7_1).slice (win0_7.rect t)).set ↔ _
  rw [View.set_slice_whole, Rect.mem_set_unit]
  exact Iff.rfl

/-- Either case stores the product. -/
theorem stored6 : (dats m 0 c).after 6 t
    = k0_pay2 (iblk m c 0 t) (iblk m c 1 t) (iblk m c 2 t) (iblk m c 3 t) (X0_4 m c t) := by
  rw [after0_6]
  by_cases h : t.val < 32
  · rw [outsAt0_A m c t h (by omega)]
    frame_out
  · rw [outsAt0_B m c t h (by omega)]
    frame_out

theorem stored7_A (h : t.val < 32) : (dats m 0 c).after 7 t
    = k0_pay3 (iblk m c 0 t) (iblk m c 1 t) (iblk m c 2 t) (iblk m c 3 t) (iblk m c 5 t) := by
  rw [after0_7, outsAt0_A m c t h (by omega)]
  frame_out

theorem stored7_B (h : ¬t.val < 32) : (dats m 0 c).after 7 t = k0_pay4 (F := Ideal) := by
  rw [after0_7, outsAt0_B m c t h (by omega)]
  frame_out

theorem final6 : (dats m 0 c).arrAt 6 cfg0.N = P' m c := by
  refine (dats m 0 c).arrAt_eq_of_cover 6 (P' m c) (fun t _ => ?_) (fun i => ?_)
  · obtain ⟨-, -, -, -, -, -, ⟨a0, a1⟩, -⟩ := index_facts t
    show (dats m 0 c).after 6 t = _
    rw [stored6]
    funext j
    obtain ⟨r, d, rfl⟩ : ∃ (r : Fin 512) (d : Fin 5120), j = ix2 r d := ⟨j 0, j 1, eq_ix2 j⟩
    refine (point_p m c t r d).trans ?_
    show _ = P' m c (((cfg0.win 6).blk t).view.emb (ix2 r d))
    refine congrArg (P' m c) (funext fun a => Fin.ext ?_)
    match a with
    | ⟨0, _⟩ => show 512 * (t.val % 32) + r.val = win0_6.index t 0 * 512 + 1 * r.val; omega
    | ⟨1, _⟩ => show 5120 * (t.val / 32) + d.val = win0_6.index t 1 * 5120 + 1 * d.val; omega
  · have h0 : (i 0).val < 16384 := (i 0).isLt
    have h1 : (i 1).val < 10240 := (i 1).isLt
    have hn : 32 * ((i 1).val / 5120) + (i 0).val / 512 < cfg0.N := lt_of_lt_of_eq (by omega) (show cfg0.N = 64 from N_0).symm
    refine ⟨⟨32 * ((i 1).val / 5120) + (i 0).val / 512, hn⟩, flush0_6 _, (mem_block6 _ i).2 ?_⟩
    obtain ⟨-, -, -, -, -, -, ⟨a0, a1⟩, -⟩ := index_facts ⟨32 * ((i 1).val / 5120) + (i 0).val / 512, hn⟩
    intro a
    match a with
    | ⟨0, _⟩ => show win0_6.index _ 0 * 512 ≤ (i 0).val ∧ (i 0).val < win0_6.index _ 0 * 512 + 512; rw [a0]; dsimp only; omega
    | ⟨1, _⟩ => show win0_6.index _ 1 * 5120 ≤ (i 1).val ∧ (i 1).val < win0_6.index _ 1 * 5120 + 5120; rw [a1]; dsimp only; omega

theorem final7 (hg : ∀ k d, ∃ y : ℝ, stepCol (argG m c) k d = y) : (dats m 0 c).arrAt 7 cfg0.N = G' m c := by
  refine (dats m 0 c).arrAt_eq_of_cover 7 (G' m c) (fun t _ => ?_) (fun i => ?_)
  · obtain ⟨-, -, -, -, -, -, -, a0, a1, a2⟩ := index_facts t
    have ht := point_lt t
    show (dats m 0 c).after 7 t = fun j => G' m c (((cfg0.win 7).blk t).view.emb j)
    by_cases h : t.val < 32
    · rw [stored7_A m c t h]
      funext j
      obtain ⟨r, d, rfl⟩ : ∃ (r : Fin 512) (d : Fin 128), j = ix3 0 r d :=
        ⟨j 1, j 2, (eq_ix3 j).trans (congrArg (fun z => ix3 z (j 1) (j 2)) (Subsingleton.elim (α := Fin 1) _ _))⟩
      refine (point_g m c t hg r d).trans (congrArg (G' m c) (funext fun a => Fin.ext ?_))
      match a with
      | ⟨0, _⟩ => show 0 = win0_7.index t 0 * 1 + 1 * 0; omega
      | ⟨1, _⟩ => show 512 * (t.val % 32) + r.val = win0_7.index t 1 * 512 + 1 * r.val; omega
      | ⟨2, _⟩ => show d.val = win0_7.index t 2 * 128 + 1 * d.val; omega
    · rw [stored7_B m c t h]
      funext j
      obtain ⟨r, d, rfl⟩ : ∃ (r : Fin 512) (d : Fin 128), j = ix3 0 r d :=
        ⟨j 1, j 2, (eq_ix3 j).trans (congrArg (fun z => ix3 z (j 1) (j 2)) (Subsingleton.elim (α := Fin 1) _ _))⟩
      refine (pay4_apply r d).trans (if_neg ?_).symm
      show ¬ win0_7.index t 0 * 1 + 1 * 0 = 0
      omega
  · have h0 : (i 0).val < 2 := (i 0).isLt
    have h1 : (i 1).val < 16384 := (i 1).isLt
    have h2 : (i 2).val < 128 := (i 2).isLt
    have hn : 32 * (i 0).val + (i 1).val / 512 < cfg0.N := lt_of_lt_of_eq (by omega) (show cfg0.N = 64 from N_0).symm
    refine ⟨⟨32 * (i 0).val + (i 1).val / 512, hn⟩, flush0_7 _, (mem_block7 _ i).2 ?_⟩
    obtain ⟨-, -, -, -, -, -, -, a0, a1, a2⟩ := index_facts ⟨32 * (i 0).val + (i 1).val / 512, hn⟩
    intro a
    match a with
    | ⟨0, _⟩ => show win0_7.index _ 0 * 1 ≤ (i 0).val ∧ (i 0).val < win0_7.index _ 0 * 1 + 1; rw [a0]; dsimp only; omega
    | ⟨1, _⟩ => show win0_7.index _ 1 * 512 ≤ (i 1).val ∧ (i 1).val < win0_7.index _ 1 * 512 + 512; rw [a1]; dsimp only; omega
    | ⟨2, _⟩ => show win0_7.index _ 2 * 128 ≤ (i 2).val ∧ (i 2).val < win0_7.index _ 2 * 128 + 128; rw [a2]; omega

/-! ## The reference -/

section Reference

variable (x : S16384x2048.Idx → EReal) (nw sc sh : S1x2048.Idx → EReal)

open Cert.SsdInRefIdeal.Read

theorem ref_h (r : Fin 16384) (d : Fin 2048) : val_main_v17 (F := Ideal) x nw sc sh (ix2 r d) = hidden x nw sc sh r d := by
  unfold hidden
  pointwise [val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst_2, val_main_cst_1, val_main_cst_0, val_main_cst, normMod]

theorem ref_p (w : S2048x10752.Idx → EReal) : val_main_v20 (F := Ideal) x nw sc sh w = proj x nw sc sh w := by
  funext i
  obtain ⟨r, d, rfl⟩ : ∃ (r : Fin 16384) (d : Fin 10240), i = ix2 r d := ⟨i 0, i 1, eq_ix2 i⟩
  have h : val_main_v20 (F := Ideal) x nw sc sh w (ix2 r d)
      = ∑ k, val_main_v17 (F := Ideal) x nw sc sh (ix2 r k) * w (ix2 k ⟨d.val, by omega⟩) := by
    unfold val_main_v20 val_main_v19 val_main_v18
    generalize val_main_v17 (F := Ideal) x nw sc sh = y
    pointwise []
  rw [h]
  exact Finset.sum_congr rfl fun k _ => congrArg (· * _) (ref_h x nw sc sh r k)

theorem ref_step (g : S2048x128.Idx → EReal) (r : Fin 16384) (d : Fin 64) :
    val_main_v22 (F := Ideal) x nw sc sh g (ix2 r d) = ∑ k, hidden x nw sc sh r k * g (ix2 k ⟨d.val, by omega⟩) := by
  have h : val_main_v22 (F := Ideal) x nw sc sh g (ix2 r d)
      = ∑ k, val_main_v17 (F := Ideal) x nw sc sh (ix2 r k) * g (ix2 k ⟨d.val, by omega⟩) := by
    unfold val_main_v22 val_main_v21
    generalize val_main_v17 (F := Ideal) x nw sc sh = y
    pointwise []
  rw [h]
  exact Finset.sum_congr rfl fun k _ => congrArg (· * _) (ref_h x nw sc sh r k)

theorem ref_g (g : S2048x128.Idx → EReal) : val_main_v24 (F := Ideal) x nw sc sh g = steps x nw sc sh g := by
  funext i
  obtain ⟨p, r, d, rfl⟩ : ∃ (p : Fin 2) (r : Fin 16384) (d : Fin 128), i = ix3 p r d := ⟨i 0, i 1, i 2, eq_ix3 i⟩
  show _ = if p.val = 0 then ∑ k, hidden x nw sc sh r k * stepCol g k d else 0
  have h : val_main_v24 (F := Ideal) x nw sc sh g (ix3 p r d)
      = if h : p.val < 1 ∧ d.val < 64 then val_main_v22 (F := Ideal) x nw sc sh g (ix2 r ⟨d.val, h.2⟩) else FloatOps.sitofp (F := Ideal) .f32 0#32 := by
    unfold val_main_v24 val_main_v23
    generalize val_main_v22 (F := Ideal) x nw sc sh g = y
    pointwise [val_main_call0_v0, val_main_c]
  rw [h, sitofp_zero]
  by_cases hp : p.val = 0
  · rw [if_pos hp]
    by_cases hd : d.val < 64
    · rw [dif_pos ⟨by omega, hd⟩, ref_step]
      refine Finset.sum_congr rfl fun k _ => ?_
      unfold stepCol
      rw [if_pos hd]
    · rw [dif_neg fun h => hd h.2]
      refine (Finset.sum_eq_zero fun k _ => ?_).symm
      unfold stepCol
      rw [if_neg hd, mul_zero]
  · rw [if_neg hp, dif_neg fun h => hp (by omega)]

end Reference

/-! ## The claims -/

theorem frame_words : quiescent_SsdIn (hSsdIn := Cert.SsdIn.Gen.facts) := fun m g _ => Cert.SsdIn.Gen.frame m g

theorem frame_ideal : quiescent_SsdInIdeal (hSsdInIdeal := Cert.SsdInIdeal.Gen.facts) :=
  fun m g _ => Cert.SsdInIdeal.Gen.frame m g

theorem frame_ideal_finite : quiescent_SsdInIdeal_pre_finite_steps (hSsdInIdeal := Cert.SsdInIdeal.Gen.facts)
    (hPre_finite_steps := Cert.Pre_finite_steps.Gen.facts) :=
  fun m g _ => Cert.SsdInIdeal.Gen.frame m g

/-- The reference keeps its arguments; it has no counter to move. -/
theorem frame_ref : quiescent_SsdInRefIdeal (hSsdInRefIdeal := Cert.SsdInRefIdeal.Gen.facts) := fun m g _ =>
  (θ_run _ _ _).mono (fun r h => ⟨fun c => (h c).2.2, sem_eq_zero_of_no_sems (by decide) r.2⟩)
    (Cert.SsdInRefIdeal.Value.run m g)

theorem frame_ref_finite : quiescent_SsdInRefIdeal_pre_finite_steps (hSsdInRefIdeal := Cert.SsdInRefIdeal.Gen.facts)
    (hPre_finite_steps := Cert.Pre_finite_steps.Gen.facts) :=
  fun m g _ => frame_ref m g trivial

/-- Under the precondition every step weight the product meets is real. -/
theorem finite_at [Cert.Pre_finite_steps.Facts] (h : Pre_SsdInIdeal_finite_steps m) (c : Dev nD) (k : Fin 2048) (d : Fin 128) :
    ∃ y : ℝ, stepCol (argG m c) k d = y := by
  unfold stepCol
  by_cases hd : d.val < 64
  · rw [if_pos hd]
    have := congrFun (h c) (ix2 k ⟨d.val, hd⟩)
    refine real_of_cmp _ (Eq.trans ?_ this)
    unfold Cert.Pre_finite_steps.fn
    pointwise []
    rfl
  · exact ⟨0, by rw [if_neg hd, EReal.coe_zero]⟩

theorem algebraic : algebraic_SsdInIdeal_SsdInRefIdeal_pre_finite_steps (hSsdInIdeal := Cert.SsdInIdeal.Gen.facts)
    (hSsdInRefIdeal := Cert.SsdInRefIdeal.Gen.facts) (hPre_finite_steps := Cert.Pre_finite_steps.Gen.facts) := by
  intro m g m' g' hpre hagree
  refine ⟨fun c => P' m c, fun c => G' m c, ?_, ?_⟩
  · exact (θ_run _ _ _).mono (fun _ h c => ⟨(h c).1.trans (final6 m c), (h c).2.1.trans (final7 m c (finite_at m hpre c)), (h c).2.2⟩)
      (run_blocks m g)
  · refine (θ_run _ _ _).mono (fun _ h c => ⟨(h c).1.trans ?_, (h c).2.1.trans ?_, (h c).2.2⟩)
      (Cert.SsdInRefIdeal.Value.run m' g')
    · obtain ⟨h0, h1, h2, h3, h4, -⟩ := hagree c
      rw [h0, h1, h2, h3, h4]
      exact ref_p _ _ _ _ _
    · obtain ⟨h0, h1, h2, h3, -, h5⟩ := hagree c
      rw [h0, h1, h2, h3, h5]
      exact ref_g _ _ _ _ _

end Cert.Proj.SsdIn

end
-- ==== Proof.Proj.Out.lean ====
/-
  The output projection of the first layer, of the two halves of its heads: what the launch leaves in its two arrays, what the reference states, and
  that they agree.
-/
module

public import proofs.«01_k».proof.Defs
public import proofs.«01_k».proof.Proof.Proj.Spec
public import proofs.«01_k».proof.Proof.Gen.OutIdeal.Value
public import proofs.«01_k».proof.Proof.Gen.Out.Frame
public import proofs.«01_k».proof.Proof.Gen.OutRefIdeal.Read
public import Idealize.ShloMosaic.Lib.Pointwise
public import Idealize.ShloMosaic.Lib.ValueIdx
public import Idealize.ShloMosaic.Lib.StableHlo.Run

@[expose] public section

noncomputable section

namespace Cert.Proj.Out

open Cert.OutIdeal Cert.OutIdeal.Gen Cert.OutIdeal.Value Idealize.ShloMosaic Idealize.ShloMosaic.TcCoe
  Idealize.SL.Sem

/-! ## The mathematics -/

/-- The residual stream plus the gated projection of two arrays, each through its half of the weights. -/
def newX (a b : S16384x1024.Idx → EReal) (w : S2048x2048.Idx → EReal) (x : S16384x2048.Idx → EReal)
    (g : S1x2048.Idx → EReal) : S16384x2048.Idx → EReal := fun i =>
  x (ix2 (i 0) (i 1)) + g (ix2 0 (i 1)) *
    (∑ k : Fin 1024, a (ix2 (i 0) k) * w (ix2 ⟨k.val, by omega⟩ (i 1))
      + ∑ k : Fin 1024, b (ix2 (i 0) k) * w (ix2 ⟨1024 + k.val, by omega⟩ (i 1)))

/-- Its modulated norm. -/
def newH (a b : S16384x1024.Idx → EReal) (w : S2048x2048.Idx → EReal) (x : S16384x2048.Idx → EReal)
    (g nw sc sh : S1x2048.Idx → EReal) : S16384x2048.Idx → EReal := fun i =>
  normMod (fun d => newX a b w x g (ix2 (i 0) d)) (fun d => nw (ix2 0 d)) (fun d => sc (ix2 0 d)) (fun d => sh (ix2 0 d)) (i 1)

/-! ## What a point stores -/

theorem pay2_apply (a : Vec Ideal S512x1024 .bf16) (u : Vec Ideal S1024x2048 .bf16) (b : Vec Ideal S512x1024 .bf16)
    (v : Vec Ideal S1024x2048 .bf16) (x : Vec Ideal S512x2048 .f32) (g : Vec Ideal S1x2048 .f32) (r : Fin 512) (d : Fin 2048) :
    k0_pay2 a u b v x g (ix2 r d) = (x (ix2 r d) : EReal) + g (ix2 0 d) *
      (∑ k : Fin 1024, (a (ix2 r k) : EReal) * u (ix2 k d) + ∑ k : Fin 1024, (b (ix2 r k) : EReal) * v (ix2 k d)) := by
  pointwise [k0_pay2]

theorem pay1_apply (a : Vec Ideal S512x1024 .bf16) (u : Vec Ideal S1024x2048 .bf16) (b : Vec Ideal S512x1024 .bf16)
    (v : Vec Ideal S1024x2048 .bf16) (x : Vec Ideal S512x2048 .f32) (g nw sc sh : Vec Ideal S1x2048 .f32) (r : Fin 512)
    (d : Fin 2048) :
    k0_pay1 sh (k0_pay3 a u b v x g nw) (k0_pay4 sc) (ix2 r d) = normMod (fun e => k0_pay2 a u b v x g (ix2 r e))
      (fun e => nw (ix2 0 e)) (fun e => sc (ix2 0 e)) (fun e => sh (ix2 0 e)) d := by
  unfold k0_pay1 k0_pay3 k0_pay4
  generalize k0_pay2 a u b v x g = o
  pointwise [normMod]

/-! ## The blocks a point reads -/

variable (m : (ℓ : Loc nD τ sig) → Buf (Elt Ideal) ℓ)

theorem index_facts : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = t.val ∧ win0_9.index t 1 = 0)
    ∧ (win0_10.index t 0 = t.val ∧ win0_10.index t 1 = 0) :=
  (by decide +kernel : ∀ t : Fin grid0.N, _)

abbrev argA (c : Dev nD) : S16384x1024.Idx → EReal := m ((c : Thread nD τ).loc main_arg0)
abbrev argB (c : Dev nD) : S16384x1024.Idx → EReal := m ((c : Thread nD τ).loc main_arg1)
abbrev argW (c : Dev nD) : S2048x2048.Idx → EReal := m ((c : Thread nD τ).loc main_arg2)
abbrev argX (c : Dev nD) : S16384x2048.Idx → EReal := m ((c : Thread nD τ).loc main_arg3)
abbrev argG (c : Dev nD) : S1x2048.Idx → EReal := m ((c : Thread nD τ).loc main_arg4)
abbrev argNw (c : Dev nD) : S1x2048.Idx → EReal := m ((c : Thread nD τ).loc main_arg5)
abbrev argSc (c : Dev nD) : S1x2048.Idx → EReal := m ((c : Thread nD τ).loc main_arg6)
abbrev argSh (c : Dev nD) : S1x2048.Idx → EReal := m ((c : Thread nD τ).loc main_arg7)

/-- The first half of the weights, rounded, is the first half. -/
theorem V_u (c : Dev nD) (k : Fin 1024) (d : Fin 2048) :
    (V m c main_v2 : S1024x2048.Idx → EReal) (ix2 k d) = argW m c (ix2 ⟨k.val, by omega⟩ d) := by
  have h : (V m c main_v2 : S1024x2048.Idx → EReal)
      = extractStridedSlice S1024x2048 ![0, 0] (argW m c) slices_S2048x2048_S1024x2048_0_0 := by
    show StableHlo.after hostOps0 (fun b => m (c, b)) _ = _
    unfold hostOps0
    after_results
    rfl
  rw [h]
  pointwise []

/-- The second half of the weights, rounded, is the second half. -/
theorem V_v (c : Dev nD) (k : Fin 1024) (d : Fin 2048) :
    (V m c main_v3 : S1024x2048.Idx → EReal) (ix2 k d) = argW m c (ix2 ⟨1024 + k.val, by omega⟩ d) := by
  have h : (V m c main_v3 : S1024x2048.Idx → EReal)
      = extractStridedSlice S1024x2048 ![1024, 0] (argW m c) slices_S2048x2048_S1024x2048_1024_0 := by
    show StableHlo.after hostOps0 (fun b => m (c, b)) _ = _
    unfold hostOps0
    after_results
    rfl
  rw [h]
  pointwise []

variable (c : Dev nD) (t : Fin cfg0.N)

theorem row_lt (t : Fin cfg0.N) (r : Fin 512) : 512 * t.val + r.val < 16384 := by
  have := lt_of_lt_of_eq t.isLt (show cfg0.N = 32 from N_0)
  omega

/-- A point's row in the arrays. -/
abbrev row (t : Fin cfg0.N) (r : Fin 512) : Fin 16384 := ⟨512 * t.val + r.val, row_lt t r⟩

theorem blk_a (r : Fin 512) (k : Fin 1024) : iblk m c 0 t (ix2 r k) = argA m c (ix2 (row t r) k) := by
  obtain ⟨⟨a0, a1⟩, -⟩ := index_facts t
  show V m c main_arg0 (((cfg0.win 0).blk t).view.emb (ix2 r k)) = _
  rw [V_main_arg0]
  refine congrArg (argA m c) (funext fun a => Fin.ext ?_)
  match a with
  | ⟨0, _⟩ => show win0_0.index t 0 * 512 + 1 * r.val = 512 * t.val + r.val; omega
  | ⟨1, _⟩ => show win0_0.index t 1 * 1024 + 1 * k.val = k.val; omega

theorem blk_b (r : Fin 512) (k : Fin 1024) : iblk m c 1 t (ix2 r k) = argB m c (ix2 (row t r) k) := by
  obtain ⟨-, ⟨a0, a1⟩, -⟩ := index_facts t
  show V m c main_arg1 (((cfg0.win 1).blk t).view.emb (ix2 r k)) = _
  rw [V_main_arg1]
  refine congrArg (argB m c) (funext fun a => Fin.ext ?_)
  match a with
  | ⟨0, _⟩ => show win0_1.index t 0 * 512 + 1 * r.val = 512 * t.val + r.val; omega
  | ⟨1, _⟩ => show win0_1.index t 1 * 1024 + 1 * k.val = k.val; omega

theorem blk_u (k : Fin 1024) (d : Fin 2048) :
    iblk m c 2 t (ix2 k d) = argW m c (ix2 ⟨k.val, by omega⟩ d) := by
  obtain ⟨-, -, ⟨a0, a1⟩, -⟩ := index_facts t
  rw [← V_u]
  show (V m c main_v2 : S1024x2048.Idx → EReal) (((cfg0.win 2).blk t).view.emb (ix2 k d)) = _
  refine congrArg (V m c main_v2 : S1024x2048.Idx → EReal) (funext fun a => Fin.ext ?_)
  match a with
  | ⟨0, _⟩ => show win0_2.index t 0 * 1024 + 1 * k.val = k.val; omega
  | ⟨1, _⟩ => show win0_2.index t 1 * 2048 + 1 * d.val = d.val; omega

theorem blk_v (k : Fin 1024) (d : Fin 2048) :
    iblk m c 3 t (ix2 k d) = argW m c (ix2 ⟨1024 + k.val, by omega⟩ d) := by
  obtain ⟨-, -, -, ⟨a0, a1⟩, -⟩ := index_facts t
  rw [← V_v]
  show (V m c main_v3 : S1024x2048.Idx → EReal) (((cfg0.win 3).blk t).view.emb (ix2 k d)) = _
  refine congrArg (V m c main_v3 : S1024x2048.Idx → EReal) (funext fun a => Fin.ext ?_)
  match a with
  | ⟨0, _⟩ => show win0_3.index t 0 * 1024 + 1 * k.val = k.val; omega
  | ⟨1, _⟩ => show win0_3.index t 1 * 2048 + 1 * d.val = d.val; omega

theorem blk_x (r : Fin 512) (k : Fin 2048) : iblk m c 4 t (ix2 r k) = argX m c (ix2 (row t r) k) := by
  obtain ⟨-, -, -, -, ⟨a0, a1⟩, -⟩ := index_facts t
  show V m c main_arg3 (((cfg0.win 4).blk t).view.emb (ix2 r k)) = _
  rw [V_main_arg3]
  refine congrArg (argX m c) (funext fun a => Fin.ext ?_)
  match a with
  | ⟨0, _⟩ => show win0_4.index t 0 * 512 + 1 * r.val = 512 * t.val + r.val; omega
  | ⟨1, _⟩ => show win0_4.index t 1 * 2048 + 1 * k.val = k.val; omega

theorem blk_g (d : Fin 2048) : iblk m c 5 t (ix2 0 d) = argG m c (ix2 0 d) := by
  obtain ⟨-, -, -, -, -, ⟨a0, a1⟩, -⟩ := index_facts t
  show V m c main_arg4 (((cfg0.win 5).blk t).view.emb (ix2 0 d)) = _
  rw [V_main_arg4]
  refine congrArg (argG m c) (funext fun a => Fin.ext ?_)
  match a with
  | ⟨0, _⟩ => show win0_5.index t 0 * 1 + 1 * 0 = 0; omega
  | ⟨1, _⟩ => show win0_5.index t 1 * 2048 + 1 * d.val = d.val; omega

theorem blk_nw (d : Fin 2048) : iblk m c 6 t (ix2 0 d) = argNw m c (ix2 0 d) := by
  obtain ⟨-, -, -, -, -, -, ⟨a0, a1⟩, -⟩ := index_facts t
  show V m c main_arg5 (((cfg0.win 6).blk t).view.emb (ix2 0 d)) = _
  rw [V_main_arg5]
  refine congrArg (argNw m c) (funext fun a => Fin.ext ?_)
  match a with
  | ⟨0, _⟩ => show win0_6.index t 0 * 1 + 1 * 0 = 0; omega
  | ⟨1, _⟩ => show win0_6.index t 1 * 2048 + 1 * d.val = d.val; omega

theorem blk_sc (d : Fin 2048) : iblk m c 7 t (ix2 0 d) = argSc m c (ix2 0 d) := by
  obtain ⟨-, -, -, -, -, -, -, ⟨a0, a1⟩, -⟩ := index_facts t
  show V m c main_arg6 (((cfg0.win 7).blk t).view.emb (ix2 0 d)) = _
  rw [V_main_arg6]
  refine congrArg (argSc m c) (funext fun a => Fin.ext ?_)
  match a with
  | ⟨0, _⟩ => show win0_7.index t 0 * 1 + 1 * 0 = 0; omega
  | ⟨1, _⟩ => show win0_7.index t 1 * 2048 + 1 * d.val = d.val; omega

theorem blk_sh (d : Fin 2048) : iblk m c 8 t (ix2 0 d) = argSh m c (ix2 0 d) := by
  obtain ⟨-, -, -, -, -, -, -, -, ⟨a0, a1⟩, -⟩ := index_facts t
  show V m c main_arg7 (((cfg0.win 8).blk t).view.emb (ix2 0 d)) = _
  rw [V_main_arg7]
  refine congrArg (argSh m c) (funext fun a => Fin.ext ?_)
  match a with
  | ⟨0, _⟩ => show win0_8.index t 0 * 1 + 1 * 0 = 0; omega
  | ⟨1, _⟩ => show win0_8.index t 1 * 2048 + 1 * d.val = d.val; omega

/-! ## The two arrays -/

abbrev X' : S16384x2048.Idx → EReal := newX (argA m c) (argB m c) (argW m c) (argX m c) (argG m c)
abbrev H' : S16384x2048.Idx → EReal :=
  newH (argA m c) (argB m c) (argW m c) (argX m c) (argG m c) (argNw m c) (argSc m c) (argSh m c)

theorem point_x (r : Fin 512) (d : Fin 2048) :
    k0_pay2 (iblk m c 0 t) (iblk m c 2 t) (iblk m c 1 t) (iblk m c 3 t) (iblk m c 4 t) (iblk m c 5 t) (ix2 r d)
      = X' m c (ix2 (row t r) d) := by
  rw [pay2_apply, blk_x m c t r d, blk_g m c t d]
  show _ = argX m c (ix2 (row t r) d) + argG m c (ix2 0 d) *
    (∑ k : Fin 1024, argA m c (ix2 (row t r) k) * argW m c (ix2 ⟨k.val, by omega⟩ d)
      + ∑ k : Fin 1024, argB m c (ix2 (row t r) k) * argW m c (ix2 ⟨1024 + k.val, by omega⟩ d))
  refine congrArg₂ (fun y z => _ + _ * (y + z)) (Finset.sum_congr rfl fun k _ => ?_) (Finset.sum_congr rfl fun k _ => ?_)
  · rw [blk_a m c t r k, blk_u m c t k d]
  · rw [blk_b m c t r k, blk_v m c t k d]

theorem point_h (r : Fin 512) (d : Fin 2048) :
    k0_pay1 (iblk m c 8 t) (k0_pay3 (iblk m c 0 t) (iblk m c 2 t) (iblk m c 1 t) (iblk m c 3 t) (iblk m c 4 t) (iblk m c 5 t) (iblk m c 6 t))
      (k0_pay4 (iblk m c 7 t)) (ix2 r d) = H' m c (ix2 (row t r) d) := by
  rw [pay1_apply]
  show _ = normMod (fun e => X' m c (ix2 (row t r) e)) (fun e => argNw m c (ix2 0 e)) (fun e => argSc m c (ix2 0 e))
    (fun e => argSh m c (ix2 0 e)) d
  rw [show (fun e => k0_pay2 (iblk m c 0 t) (iblk m c 2 t) (iblk m c 1 t) (iblk m c 3 t) (iblk m c 4 t) (iblk m c 5 t) (ix2 r e))
      = (fun e => X' m c (ix2 (row t r) e)) from funext fun e => point_x m c t r e,
    show (fun e => iblk m c 6 t (ix2 0 e)) = (fun e => argNw m c (ix2 0 e)) from funext fun e => blk_nw m c t e,
    show (fun e => iblk m c 7 t (ix2 0 e)) = (fun e => argSc m c (ix2 0 e)) from funext fun e => blk_sc m c t e,
    show (fun e => iblk m c 8 t (ix2 0 e)) = (fun e => argSh m c (ix2 0 e)) from funext fun e => blk_sh m c t e]

theorem hz2 : (![0, 0] : Fin 2 → Nat) = fun _ => 0 := funext fun a => by fin_cases a <;> rfl

theorem mem_block9 (t : Fin cfg0.N) (i : S16384x2048.Idx) :
    i ∈ ((cfg0.win 9).blk t).view.set ↔ ∀ a : Fin 2, win0_9.index t a * S512x2048.size a ≤ (i a).val
      ∧ (i a).val < win0_9.index t a * S512x2048.size a + S512x2048.size a := by
  show i ∈ ((View.whole main_v4_0).slice (win0_9.rect t)).set ↔ _
  rw [View.set_slice_whole, Rect.mem_set_unit]
  exact Iff.rfl

theorem mem_block10 (t : Fin cfg0.N) (i : S16384x2048.Idx) :
    i ∈ ((cfg0.win 10).blk t).view.set ↔ ∀ a : Fin 2, win0_10.index t a * S512x2048.size a ≤ (i a).val
      ∧ (i a).val < win0_10.index t a * S512x2048.size a + S512x2048.size a := by
  show i ∈ ((View.whole main_v4_1).slice (win0_10.rect t)).set ↔ _
  rw [View.set_slice_whole, Rect.mem_set_unit]
  exact Iff.rfl

theorem final9 : (dats m 0 c).arrAt 9 cfg0.N = X' m c := by
  refine (dats m 0 c).arrAt_eq_of_cover 9 (X' m c) (fun t _ => ?_) (fun i => ?_)
  · obtain ⟨-, -, -, -, -, -, -, -, -, ⟨a0, a1⟩, -⟩ := index_facts t
    show (dats m 0 c).after 9 t = _
    rw [after0_9]
    unfold out0_9
    rw [View.canon_unit_zero hz2, View.ld_unit_zero (S := S512x1024) hz2, View.ld_unit_zero (S := S512x1024) hz2,
      View.ld_unit_zero (S := S1024x2048) hz2, View.ld_unit_zero (S := S1024x2048) hz2,
      View.ld_unit_zero (S := S512x2048) hz2, View.ld_unit_zero (S := S1x2048) hz2]
    funext j
    obtain ⟨r, d, rfl⟩ : ∃ (r : Fin 512) (d : Fin 2048), j = ix2 r d := ⟨j 0, j 1, eq_ix2 j⟩
    rw [point_x m c t r d]
    show _ = X' m c (((cfg0.win 9).blk t).view.emb (ix2 r d))
    refine congrArg (X' m c) (funext fun a => Fin.ext ?_)
    match a with
    | ⟨0, _⟩ => show 512 * t.val + r.val = win0_9.index t 0 * 512 + 1 * r.val; omega
    | ⟨1, _⟩ => show d.val = win0_9.index t 1 * 2048 + 1 * d.val; omega
  · have h0 : (i 0).val < 16384 := (i 0).isLt
    have h1 : (i 1).val < 2048 := (i 1).isLt
    refine ⟨⟨(i 0).val / 512, lt_of_lt_of_eq (by omega) (show cfg0.N = 32 from N_0).symm⟩, flush0_9 _, (mem_block9 _ i).2 ?_⟩
    obtain ⟨-, -, -, -, -, -, -, -, -, ⟨a0, a1⟩, -⟩ :=
      index_facts ⟨(i 0).val / 512, lt_of_lt_of_eq (by omega) (show cfg0.N = 32 from N_0).symm⟩
    intro a
    match a with
    | ⟨0, _⟩ => show win0_9.index _ 0 * 512 ≤ (i 0).val ∧ (i 0).val < win0_9.index _ 0 * 512 + 512; rw [a0]; dsimp only; omega
    | ⟨1, _⟩ => show win0_9.index _ 1 * 2048 ≤ (i 1).val ∧ (i 1).val < win0_9.index _ 1 * 2048 + 2048; rw [a1]; omega

theorem final10 : (dats m 0 c).arrAt 10 cfg0.N = H' m c := by
  refine (dats m 0 c).arrAt_eq_of_cover 10 (H' m c) (fun t _ => ?_) (fun i => ?_)
  · obtain ⟨-, -, -, -, -, -, -, -, -, -, ⟨a0, a1⟩⟩ := index_facts t
    show (dats m 0 c).after 10 t = _
    rw [after0_10]
    unfold out0_10
    rw [View.canon_unit_zero hz2, View.ld_unit_zero (S := S512x1024) hz2, View.ld_unit_zero (S := S512x1024) hz2,
      View.ld_unit_zero (S := S1024x2048) hz2, View.ld_unit_zero (S := S1024x2048) hz2,
      View.ld_unit_zero (S := S512x2048) hz2, View.ld_unit_zero (S := S1x2048) hz2, View.ld_unit_zero (S := S1x2048) hz2,
      View.ld_unit_zero (S := S1x2048) hz2, View.ld_unit_zero (S := S1x2048) hz2]
    funext j
    obtain ⟨r, d, rfl⟩ : ∃ (r : Fin 512) (d : Fin 2048), j = ix2 r d := ⟨j 0, j 1, eq_ix2 j⟩
    rw [point_h m c t r d]
    show _ = H' m c (((cfg0.win 10).blk t).view.emb (ix2 r d))
    refine congrArg (H' m c) (funext fun a => Fin.ext ?_)
    match a with
    | ⟨0, _⟩ => show 512 * t.val + r.val = win0_10.index t 0 * 512 + 1 * r.val; omega
    | ⟨1, _⟩ => show d.val = win0_10.index t 1 * 2048 + 1 * d.val; omega
  · have h0 : (i 0).val < 16384 := (i 0).isLt
    have h1 : (i 1).val < 2048 := (i 1).isLt
    refine ⟨⟨(i 0).val / 512, lt_of_lt_of_eq (by omega) (show cfg0.N = 32 from N_0).symm⟩, flush0_10 _, (mem_block10 _ i).2 ?_⟩
    obtain ⟨-, -, -, -, -, -, -, -, -, -, ⟨a0, a1⟩⟩ :=
      index_facts ⟨(i 0).val / 512, lt_of_lt_of_eq (by omega) (show cfg0.N = 32 from N_0).symm⟩
    intro a
    match a with
    | ⟨0, _⟩ => show win0_10.index _ 0 * 512 ≤ (i 0).val ∧ (i 0).val < win0_10.index _ 0 * 512 + 512; rw [a0]; dsimp only; omega
    | ⟨1, _⟩ => show win0_10.index _ 1 * 2048 ≤ (i 1).val ∧ (i 1).val < win0_10.index _ 1 * 2048 + 2048; rw [a1]; omega

/-! ## The reference -/

/-- A sum over the concatenated columns is the sum over each half of them. -/
theorem sum_halves (f : Fin 2048 → EReal) :
    ∑ k, f k = ∑ k : Fin 1024, f ⟨k.val, by omega⟩ + ∑ k : Fin 1024, f ⟨1024 + k.val, by omega⟩ :=
  Fin.sum_univ_add (a := 1024) (b := 1024) f

open Cert.OutRefIdeal.Read in
theorem cat_left (a b : S16384x1024.Idx → EReal) (r : Fin 16384) (k : Fin 1024) :
    val_main_v0 (F := Ideal) a b (ix2 r ⟨k.val, by omega⟩) = a (ix2 r k) := by
  pointwise [val_main_v0]

open Cert.OutRefIdeal.Read in
theorem cat_right (a b : S16384x1024.Idx → EReal) (r : Fin 16384) (k : Fin 1024) :
    val_main_v0 (F := Ideal) a b (ix2 r ⟨1024 + k.val, by omega⟩) = b (ix2 r k) := by
  pointwise [val_main_v0]

open Cert.OutRefIdeal.Read in
theorem ref_x (a b : S16384x1024.Idx → EReal) (w : S2048x2048.Idx → EReal) (x : S16384x2048.Idx → EReal)
    (g : S1x2048.Idx → EReal) : val_main_v5 (F := Ideal) a b w x g = newX a b w x g := by
  funext i
  obtain ⟨r, d, rfl⟩ : ∃ (r : Fin 16384) (d : Fin 2048), i = ix2 r d := ⟨i 0, i 1, eq_ix2 i⟩
  have h : val_main_v5 (F := Ideal) a b w x g (ix2 r d) = x (ix2 r d) + g (ix2 0 d) *
      ∑ k : Fin 2048, val_main_v0 (F := Ideal) a b (ix2 r k) * w (ix2 k d) := by
    unfold val_main_v5 val_main_v4 val_main_v3 val_main_v2 val_main_v1
    generalize val_main_v0 (F := Ideal) a b = y
    pointwise []
  rw [h, sum_halves]
  show _ = x (ix2 r d) + g (ix2 0 d) * (∑ k : Fin 1024, a (ix2 r k) * w (ix2 ⟨k.val, by omega⟩ d)
    + ∑ k : Fin 1024, b (ix2 r k) * w (ix2 ⟨1024 + k.val, by omega⟩ d))
  refine congrArg₂ (fun y z => _ + _ * (y + z)) (Finset.sum_congr rfl fun k _ => ?_) (Finset.sum_congr rfl fun k _ => ?_)
  · exact congrArg (· * _) (cat_left a b r k)
  · exact congrArg (· * _) (cat_right a b r k)

open Cert.OutRefIdeal.Read in
theorem ref_h (a b : S16384x1024.Idx → EReal) (w : S2048x2048.Idx → EReal) (x : S16384x2048.Idx → EReal)
    (g nw sc sh : S1x2048.Idx → EReal) : val_main_v24 (F := Ideal) a b w x g nw sc sh = newH a b w x g nw sc sh := by
  funext i
  obtain ⟨r, d, rfl⟩ : ∃ (r : Fin 16384) (d : Fin 2048), i = ix2 r d := ⟨i 0, i 1, eq_ix2 i⟩
  show _ = normMod (fun e => newX a b w x g (ix2 r e)) (fun e => nw (ix2 0 e)) (fun e => sc (ix2 0 e)) (fun e => sh (ix2 0 e)) d
  unfold val_main_v24 val_main_v23 val_main_v22 val_main_v21 val_main_v20 val_main_v19 val_main_v18 val_main_v17
    val_main_v16 val_main_v15 val_main_v14 val_main_v13 val_main_v12 val_main_v11 val_main_v10 val_main_v9 val_main_v8
    val_main_v7 val_main_v6
  rw [ref_x]
  generalize newX a b w x g = o
  pointwise [val_main_cst_2, val_main_cst_1, val_main_cst_0, val_main_cst, normMod]

/-! ## The claims -/

theorem frame_words : quiescent_Out (hOut := Cert.Out.Gen.facts) := fun m g _ => Cert.Out.Gen.frame m g

theorem frame_ideal : quiescent_OutIdeal (hOutIdeal := Cert.OutIdeal.Gen.facts) :=
  fun m g _ => Cert.OutIdeal.Gen.frame m g

/-- The reference keeps its arguments; it has no counter to move. -/
theorem frame_ref : quiescent_OutRefIdeal (hOutRefIdeal := Cert.OutRefIdeal.Gen.facts) := fun m g _ =>
  (θ_run _ _ _).mono (fun r h => ⟨fun c => (h c).2.2, sem_eq_zero_of_no_sems (by decide) r.2⟩)
    (Cert.OutRefIdeal.Value.run m g)

theorem algebraic : algebraic_OutIdeal_OutRefIdeal (hOutIdeal := Cert.OutIdeal.Gen.facts)
    (hOutRefIdeal := Cert.OutRefIdeal.Gen.facts) := by
  intro m g m' g' _ hagree
  refine ⟨fun c => X' m c, fun c => H' m c, ?_, ?_⟩
  · exact (θ_run _ _ _).mono (fun _ h c => ⟨(h c).1.trans (final9 m c), (h c).2.1.trans (final10 m c), (h c).2.2⟩)
      (run_blocks m g)
  · refine (θ_run _ _ _).mono (fun _ h c => ⟨(h c).1.trans ?_, (h c).2.1.trans ?_, (h c).2.2⟩)
      (Cert.OutRefIdeal.Value.run m' g')
    · obtain ⟨h0, h1, h2, h3, h4, -⟩ := hagree c
      rw [h0, h1, h2, h3, h4]
      exact ref_x _ _ _ _ _
    · obtain ⟨h0, h1, h2, h3, h4, h5, h6, h7⟩ := hagree c
      rw [h0, h1, h2, h3, h4, h5, h6, h7]
      exact ref_h _ _ _ _ _ _ _ _

end Cert.Proj.Out

end
-- ==== Proof.Proj.SsdOut.lean ====
/-
  The output projection of the second layer: what the launch leaves in its two arrays, what the reference states, and
  that they agree.
-/
module

public import proofs.«01_k».proof.Defs
public import proofs.«01_k».proof.Proof.Proj.Spec
public import proofs.«01_k».proof.Proof.Gen.SsdOutIdeal.Value
public import proofs.«01_k».proof.Proof.Gen.SsdOut.Frame
public import proofs.«01_k».proof.Proof.Gen.SsdOutRefIdeal.Read
public import Idealize.ShloMosaic.Lib.Pointwise
public import Idealize.ShloMosaic.Lib.ValueIdx
public import Idealize.ShloMosaic.Lib.StableHlo.Run

@[expose] public section

noncomputable section

namespace Cert.Proj.SsdOut

open Cert.SsdOutIdeal Cert.SsdOutIdeal.Gen Cert.SsdOutIdeal.Value Idealize.ShloMosaic Idealize.ShloMosaic.TcCoe
  Idealize.SL.Sem

/-! ## The mathematics -/

/-- The residual stream plus the gated projection. -/
def newX (y : S16384x4096.Idx → EReal) (w : S4096x2048.Idx → EReal) (x : S16384x2048.Idx → EReal)
    (g : S1x2048.Idx → EReal) : S16384x2048.Idx → EReal := fun i =>
  x (ix2 (i 0) (i 1)) + g (ix2 0 (i 1)) * ∑ k : Fin 4096, y (ix2 (i 0) k) * w (ix2 k (i 1))

/-- Its modulated norm. -/
def newH (y : S16384x4096.Idx → EReal) (w : S4096x2048.Idx → EReal) (x : S16384x2048.Idx → EReal)
    (g nw sc sh : S1x2048.Idx → EReal) : S16384x2048.Idx → EReal := fun i =>
  normMod (fun d => newX y w x g (ix2 (i 0) d)) (fun d => nw (ix2 0 d)) (fun d => sc (ix2 0 d)) (fun d => sh (ix2 0 d)) (i 1)

/-! ## What a point stores -/

theorem pay1_apply (y : Vec Ideal S512x4096 .bf16) (w : Vec Ideal S4096x2048 .bf16) (x : Vec Ideal S512x2048 .f32)
    (g : Vec Ideal S1x2048 .f32) (r : Fin 512) (d : Fin 2048) :
    k0_pay1 y w x g (ix2 r d) = (x (ix2 r d) : EReal) + g (ix2 0 d) * ∑ k : Fin 4096, (y (ix2 r k) : EReal) * w (ix2 k d) := by
  pointwise [k0_pay1]

theorem pay2_apply (y : Vec Ideal S512x4096 .bf16) (w : Vec Ideal S4096x2048 .bf16) (x : Vec Ideal S512x2048 .f32)
    (g nw sc sh : Vec Ideal S1x2048 .f32) (r : Fin 512) (d : Fin 2048) :
    k0_pay2 y w x g nw sc sh (ix2 r d) = normMod (fun e => k0_pay1 y w x g (ix2 r e)) (fun e => nw (ix2 0 e))
      (fun e => sc (ix2 0 e)) (fun e => sh (ix2 0 e)) d := by
  unfold k0_pay2
  generalize k0_pay1 y w x g = o
  pointwise [normMod]

/-! ## The blocks a point reads -/

variable (m : (ℓ : Loc nD τ sig) → Buf (Elt Ideal) ℓ)

theorem index_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = t.val ∧ win0_7.index t 1 = 0)
    ∧ (win0_8.index t 0 = t.val ∧ win0_8.index t 1 = 0) :=
  (by decide +kernel : ∀ t : Fin grid0.N, _)

abbrev argY (c : Dev nD) : S16384x4096.Idx → EReal := m ((c : Thread nD τ).loc main_arg0)
abbrev argW (c : Dev nD) : S4096x2048.Idx → EReal := m ((c : Thread nD τ).loc main_arg1)
abbrev argX (c : Dev nD) : S16384x2048.Idx → EReal := m ((c : Thread nD τ).loc main_arg2)
abbrev argG (c : Dev nD) : S1x2048.Idx → EReal := m ((c : Thread nD τ).loc main_arg3)
abbrev argNw (c : Dev nD) : S1x2048.Idx → EReal := m ((c : Thread nD τ).loc main_arg4)
abbrev argSc (c : Dev nD) : S1x2048.Idx → EReal := m ((c : Thread nD τ).loc main_arg5)
abbrev argSh (c : Dev nD) : S1x2048.Idx → EReal := m ((c : Thread nD τ).loc main_arg6)

/-- The rounded weights are the weights. -/
theorem V_w (c : Dev nD) : V m c main_v0 = (argW m c : S4096x2048.Idx → EReal) := by
  show StableHlo.after hostOps0 (fun b => m (c, b)) _ = _
  unfold hostOps0
  after_results
  rfl

variable (c : Dev nD) (t : Fin cfg0.N)

theorem row_lt (t : Fin cfg0.N) (r : Fin 512) : 512 * t.val + r.val < 16384 := by
  have := lt_of_lt_of_eq t.isLt (show cfg0.N = 32 from N_0)
  omega

/-- A point's row in the arrays. -/
abbrev row (t : Fin cfg0.N) (r : Fin 512) : Fin 16384 := ⟨512 * t.val + r.val, row_lt t r⟩

theorem blk_y (r : Fin 512) (k : Fin 4096) : iblk m c 0 t (ix2 r k) = argY m c (ix2 (row t r) k) := by
  obtain ⟨⟨a0, a1⟩, -⟩ := index_facts t
  show V m c main_arg0 (((cfg0.win 0).blk t).view.emb (ix2 r k)) = _
  rw [V_main_arg0]
  refine congrArg (argY m c) (funext fun a => Fin.ext ?_)
  match a with
  | ⟨0, _⟩ => show win0_0.index t 0 * 512 + 1 * r.val = 512 * t.val + r.val; omega
  | ⟨1, _⟩ => show win0_0.index t 1 * 4096 + 1 * k.val = k.val; omega

theorem blk_w (k : Fin 4096) (d : Fin 2048) : iblk m c 1 t (ix2 k d) = argW m c (ix2 k d) := by
  obtain ⟨-, ⟨a0, a1⟩, -⟩ := index_facts t
  show V m c main_v0 (((cfg0.win 1).blk t).view.emb (ix2 k d)) = _
  rw [V_w]
  refine congrArg (argW m c) (funext fun a => Fin.ext ?_)
  match a with
  | ⟨0, _⟩ => show win0_1.index t 0 * 4096 + 1 * k.val = k.val; omega
  | ⟨1, _⟩ => show win0_1.index t 1 * 2048 + 1 * d.val = d.val; omega

theorem blk_x (r : Fin 512) (d : Fin 2048) : iblk m c 2 t (ix2 r d) = argX m c (ix2 (row t r) d) := by
  obtain ⟨-, -, ⟨a0, a1⟩, -⟩ := index_facts t
  show V m c main_arg2 (((cfg0.win 2).blk t).view.emb (ix2 r d)) = _
  rw [V_main_arg2]
  refine congrArg (argX m c) (funext fun a => Fin.ext ?_)
  match a with
  | ⟨0, _⟩ => show win0_2.index t 0 * 512 + 1 * r.val = 512 * t.val + r.val; omega
  | ⟨1, _⟩ => show win0_2.index t 1 * 2048 + 1 * d.val = d.val; omega

theorem blk_g (d : Fin 2048) : iblk m c 3 t (ix2 0 d) = argG m c (ix2 0 d) := by
  obtain ⟨-, -, -, ⟨a0, a1⟩, -⟩ := index_facts t
  show V m c main_arg3 (((cfg0.win 3).blk t).view.emb (ix2 0 d)) = _
  rw [V_main_arg3]
  refine congrArg (argG m c) (funext fun a => Fin.ext ?_)
  match a with
  | ⟨0, _⟩ => show win0_3.index t 0 * 1 + 1 * 0 = 0; omega
  | ⟨1, _⟩ => show win0_3.index t 1 * 2048 + 1 * d.val = d.val; omega

theorem blk_nw (d : Fin 2048) : iblk m c 4 t (ix2 0 d) = argNw m c (ix2 0 d) := by
  obtain ⟨-, -, -, -, ⟨a0, a1⟩, -⟩ := index_facts t
  show V m c main_arg4 (((cfg0.win 4).blk t).view.emb (ix2 0 d)) = _
  rw [V_main_arg4]
  refine congrArg (argNw m c) (funext fun a => Fin.ext ?_)
  match a with
  | ⟨0, _⟩ => show win0_4.index t 0 * 1 + 1 * 0 = 0; omega
  | ⟨1, _⟩ => show win0_4.index t 1 * 2048 + 1 * d.val = d.val; omega

theorem blk_sc (d : Fin 2048) : iblk m c 5 t (ix2 0 d) = argSc m c (ix2 0 d) := by
  obtain ⟨-, -, -, -, -, ⟨a0, a1⟩, -⟩ := index_facts t
  show V m c main_arg5 (((cfg0.win 5).blk t).view.emb (ix2 0 d)) = _
  rw [V_main_arg5]
  refine congrArg (argSc m c) (funext fun a => Fin.ext ?_)
  match a with
  | ⟨0, _⟩ => show win0_5.index t 0 * 1 + 1 * 0 = 0; omega
  | ⟨1, _⟩ => show win0_5.index t 1 * 2048 + 1 * d.val = d.val; omega

theorem blk_sh (d : Fin 2048) : iblk m c 6 t (ix2 0 d) = argSh m c (ix2 0 d) := by
  obtain ⟨-, -, -, -, -, -, ⟨a0, a1⟩, -⟩ := index_facts t
  show V m c main_arg6 (((cfg0.win 6).blk t).view.emb (ix2 0 d)) = _
  rw [V_main_arg6]
  refine congrArg (argSh m c) (funext fun a => Fin.ext ?_)
  match a with
  | ⟨0, _⟩ => show win0_6.index t 0 * 1 + 1 * 0 = 0; omega
  | ⟨1, _⟩ => show win0_6.index t 1 * 2048 + 1 * d.val = d.val; omega

/-! ## The two arrays -/

abbrev X' : S16384x2048.Idx → EReal := newX (argY m c) (argW m c) (argX m c) (argG m c)
abbrev H' : S16384x2048.Idx → EReal :=
  newH (argY m c) (argW m c) (argX m c) (argG m c) (argNw m c) (argSc m c) (argSh m c)

theorem point_x (r : Fin 512) (d : Fin 2048) :
    k0_pay1 (iblk m c 0 t) (iblk m c 1 t) (iblk m c 2 t) (iblk m c 3 t) (ix2 r d) = X' m c (ix2 (row t r) d) := by
  rw [pay1_apply, blk_x m c t r d, blk_g m c t d]
  show _ = argX m c (ix2 (row t r) d) + argG m c (ix2 0 d) * ∑ k : Fin 4096, argY m c (ix2 (row t r) k) * argW m c (ix2 k d)
  refine congrArg (fun z => _ + _ * z) (Finset.sum_congr rfl fun k _ => ?_)
  rw [blk_y m c t r k, blk_w m c t k d]

theorem point_h (r : Fin 512) (d : Fin 2048) :
    k0_pay2 (iblk m c 0 t) (iblk m c 1 t) (iblk m c 2 t) (iblk m c 3 t) (iblk m c 4 t) (iblk m c 5 t) (iblk m c 6 t) (ix2 r d)
      = H' m c (ix2 (row t r) d) := by
  rw [pay2_apply]
  show _ = normMod (fun e => X' m c (ix2 (row t r) e)) (fun e => argNw m c (ix2 0 e)) (fun e => argSc m c (ix2 0 e))
    (fun e => argSh m c (ix2 0 e)) d
  rw [show (fun e => k0_pay1 (iblk m c 0 t) (iblk m c 1 t) (iblk m c 2 t) (iblk m c 3 t) (ix2 r e))
      = (fun e => X' m c (ix2 (row t r) e)) from funext fun e => point_x m c t r e,
    show (fun e => iblk m c 4 t (ix2 0 e)) = (fun e => argNw m c (ix2 0 e)) from funext fun e => blk_nw m c t e,
    show (fun e => iblk m c 5 t (ix2 0 e)) = (fun e => argSc m c (ix2 0 e)) from funext fun e => blk_sc m c t e,
    show (fun e => iblk m c 6 t (ix2 0 e)) = (fun e => argSh m c (ix2 0 e)) from funext fun e => blk_sh m c t e]

theorem hz2 : (![0, 0] : Fin 2 → Nat) = fun _ => 0 := funext fun a => by fin_cases a <;> rfl

theorem mem_block7 (t : Fin cfg0.N) (i : S16384x2048.Idx) :
    i ∈ ((cfg0.win 7).blk t).view.set ↔ ∀ a : Fin 2, win0_7.index t a * S512x2048.size a ≤ (i a).val
      ∧ (i a).val < win0_7.index t a * S512x2048.size a + S512x2048.size a := by
  show i ∈ ((View.whole main_v1_0).slice (win0_7.rect t)).set ↔ _
  rw [View.set_slice_whole, Rect.mem_set_unit]
  exact Iff.rfl

theorem mem_block8 (t : Fin cfg0.N) (i : S16384x2048.Idx) :
    i ∈ ((cfg0.win 8).blk t).view.set ↔ ∀ a : Fin 2, win0_8.index t a * S512x2048.size a ≤ (i a).val
      ∧ (i a).val < win0_8.index t a * S512x2048.size a + S512x2048.size a := by
  show i ∈ ((View.whole main_v1_1).slice (win0_8.rect t)).set ↔ _
  rw [View.set_slice_whole, Rect.mem_set_unit]
  exact Iff.rfl

theorem final7 : (dats m 0 c).arrAt 7 cfg0.N = X' m c := by
  refine (dats m 0 c).arrAt_eq_of_cover 7 (X' m c) (fun t _ => ?_) (fun i => ?_)
  · obtain ⟨-, -, -, -, -, -, -, ⟨a0, a1⟩, -⟩ := index_facts t
    show (dats m 0 c).after 7 t = _
    rw [after0_7]
    unfold out0_7
    rw [View.canon_unit_zero hz2, View.ld_unit_zero (S := S512x4096) hz2, View.ld_unit_zero (S := S4096x2048) hz2,
      View.ld_unit_zero (S := S512x2048) hz2, View.ld_unit_zero (S := S1x2048) hz2]
    funext j
    obtain ⟨r, d, rfl⟩ : ∃ (r : Fin 512) (d : Fin 2048), j = ix2 r d := ⟨j 0, j 1, eq_ix2 j⟩
    rw [point_x m c t r d]
    show _ = X' m c (((cfg0.win 7).blk t).view.emb (ix2 r d))
    refine congrArg (X' m c) (funext fun a => Fin.ext ?_)
    match a with
    | ⟨0, _⟩ => show 512 * t.val + r.val = win0_7.index t 0 * 512 + 1 * r.val; omega
    | ⟨1, _⟩ => show d.val = win0_7.index t 1 * 2048 + 1 * d.val; omega
  · have h0 : (i 0).val < 16384 := (i 0).isLt
    have h1 : (i 1).val < 2048 := (i 1).isLt
    refine ⟨⟨(i 0).val / 512, lt_of_lt_of_eq (by omega) (show cfg0.N = 32 from N_0).symm⟩, flush0_7 _, (mem_block7 _ i).2 ?_⟩
    obtain ⟨-, -, -, -, -, -, -, ⟨a0, a1⟩, -⟩ :=
      index_facts ⟨(i 0).val / 512, lt_of_lt_of_eq (by omega) (show cfg0.N = 32 from N_0).symm⟩
    intro a
    match a with
    | ⟨0, _⟩ => show win0_7.index _ 0 * 512 ≤ (i 0).val ∧ (i 0).val < win0_7.index _ 0 * 512 + 512; rw [a0]; dsimp only; omega
    | ⟨1, _⟩ => show win0_7.index _ 1 * 2048 ≤ (i 1).val ∧ (i 1).val < win0_7.index _ 1 * 2048 + 2048; rw [a1]; omega

theorem final8 : (dats m 0 c).arrAt 8 cfg0.N = H' m c := by
  refine (dats m 0 c).arrAt_eq_of_cover 8 (H' m c) (fun t _ => ?_) (fun i => ?_)
  · obtain ⟨-, -, -, -, -, -, -, -, ⟨a0, a1⟩⟩ := index_facts t
    show (dats m 0 c).after 8 t = _
    rw [after0_8]
    unfold out0_8
    rw [View.canon_unit_zero hz2, View.ld_unit_zero (S := S512x4096) hz2, View.ld_unit_zero (S := S4096x2048) hz2,
      View.ld_unit_zero (S := S512x2048) hz2, View.ld_unit_zero (S := S1x2048) hz2, View.ld_unit_zero (S := S1x2048) hz2,
      View.ld_unit_zero (S := S1x2048) hz2, View.ld_unit_zero (S := S1x2048) hz2]
    funext j
    obtain ⟨r, d, rfl⟩ : ∃ (r : Fin 512) (d : Fin 2048), j = ix2 r d := ⟨j 0, j 1, eq_ix2 j⟩
    rw [point_h m c t r d]
    show _ = H' m c (((cfg0.win 8).blk t).view.emb (ix2 r d))
    refine congrArg (H' m c) (funext fun a => Fin.ext ?_)
    match a with
    | ⟨0, _⟩ => show 512 * t.val + r.val = win0_8.index t 0 * 512 + 1 * r.val; omega
    | ⟨1, _⟩ => show d.val = win0_8.index t 1 * 2048 + 1 * d.val; omega
  · have h0 : (i 0).val < 16384 := (i 0).isLt
    have h1 : (i 1).val < 2048 := (i 1).isLt
    refine ⟨⟨(i 0).val / 512, lt_of_lt_of_eq (by omega) (show cfg0.N = 32 from N_0).symm⟩, flush0_8 _, (mem_block8 _ i).2 ?_⟩
    obtain ⟨-, -, -, -, -, -, -, -, ⟨a0, a1⟩⟩ :=
      index_facts ⟨(i 0).val / 512, lt_of_lt_of_eq (by omega) (show cfg0.N = 32 from N_0).symm⟩
    intro a
    match a with
    | ⟨0, _⟩ => show win0_8.index _ 0 * 512 ≤ (i 0).val ∧ (i 0).val < win0_8.index _ 0 * 512 + 512; rw [a0]; dsimp only; omega
    | ⟨1, _⟩ => show win0_8.index _ 1 * 2048 ≤ (i 1).val ∧ (i 1).val < win0_8.index _ 1 * 2048 + 2048; rw [a1]; omega

/-! ## The reference -/

open Cert.SsdOutRefIdeal.Read in
theorem ref_x (y : S16384x4096.Idx → EReal) (w : S4096x2048.Idx → EReal) (x : S16384x2048.Idx → EReal)
    (g : S1x2048.Idx → EReal) : val_main_v4 (F := Ideal) y w x g = newX y w x g := by
  funext i
  obtain ⟨r, d, rfl⟩ : ∃ (r : Fin 16384) (d : Fin 2048), i = ix2 r d := ⟨i 0, i 1, eq_ix2 i⟩
  show _ = x (ix2 r d) + g (ix2 0 d) * ∑ k : Fin 4096, y (ix2 r k) * w (ix2 k d)
  pointwise [val_main_v4, val_main_v3, val_main_v2, val_main_v1, val_main_v0]

open Cert.SsdOutRefIdeal.Read in
theorem ref_h (y : S16384x4096.Idx → EReal) (w : S4096x2048.Idx → EReal) (x : S16384x2048.Idx → EReal)
    (g nw sc sh : S1x2048.Idx → EReal) : val_main_v23 (F := Ideal) y w x g nw sc sh = newH y w x g nw sc sh := by
  funext i
  obtain ⟨r, d, rfl⟩ : ∃ (r : Fin 16384) (d : Fin 2048), i = ix2 r d := ⟨i 0, i 1, eq_ix2 i⟩
  show _ = normMod (fun e => newX y w x g (ix2 r e)) (fun e => nw (ix2 0 e)) (fun e => sc (ix2 0 e)) (fun e => sh (ix2 0 e)) d
  unfold val_main_v23 val_main_v22 val_main_v21 val_main_v20 val_main_v19 val_main_v18 val_main_v17 val_main_v16
    val_main_v15 val_main_v14 val_main_v13 val_main_v12 val_main_v11 val_main_v10 val_main_v9 val_main_v8 val_main_v7
    val_main_v6 val_main_v5
  rw [ref_x]
  generalize newX y w x g = o
  pointwise [val_main_cst_2, val_main_cst_1, val_main_cst_0, val_main_cst, normMod]

/-! ## The claims -/

theorem frame_words : quiescent_SsdOut (hSsdOut := Cert.SsdOut.Gen.facts) := fun m g _ => Cert.SsdOut.Gen.frame m g

theorem frame_ideal : quiescent_SsdOutIdeal (hSsdOutIdeal := Cert.SsdOutIdeal.Gen.facts) :=
  fun m g _ => Cert.SsdOutIdeal.Gen.frame m g

/-- The reference keeps its arguments; it has no counter to move. -/
theorem frame_ref : quiescent_SsdOutRefIdeal (hSsdOutRefIdeal := Cert.SsdOutRefIdeal.Gen.facts) := fun m g _ =>
  (θ_run _ _ _).mono (fun r h => ⟨fun c => (h c).2.2, sem_eq_zero_of_no_sems (by decide) r.2⟩)
    (Cert.SsdOutRefIdeal.Value.run m g)

theorem algebraic : algebraic_SsdOutIdeal_SsdOutRefIdeal (hSsdOutIdeal := Cert.SsdOutIdeal.Gen.facts)
    (hSsdOutRefIdeal := Cert.SsdOutRefIdeal.Gen.facts) := by
  intro m g m' g' _ hagree
  refine ⟨fun c => X' m c, fun c => H' m c, ?_, ?_⟩
  · exact (θ_run _ _ _).mono (fun _ h c => ⟨(h c).1.trans (final7 m c), (h c).2.1.trans (final8 m c), (h c).2.2⟩)
      (run_blocks m g)
  · refine (θ_run _ _ _).mono (fun _ h c => ⟨(h c).1.trans ?_, (h c).2.1.trans ?_, (h c).2.2⟩)
      (Cert.SsdOutRefIdeal.Value.run m' g')
    · obtain ⟨h0, h1, h2, h3, -⟩ := hagree c
      rw [h0, h1, h2, h3]
      exact ref_x _ _ _ _
    · obtain ⟨h0, h1, h2, h3, h4, h5, h6⟩ := hagree c
      rw [h0, h1, h2, h3, h4, h5, h6]
      exact ref_h _ _ _ _ _ _ _

end Cert.Proj.SsdOut

end
-- ==== Proof.Proj.Mod.lean ====
/-
  The modulation: what the launch leaves in its array, what the reference states, and that they agree. Row l, row r,
  column d of the array is the activated conditioning row times column d of layer l's weights plus the bias, for every r.
-/
module

public import proofs.«01_k».proof.Defs
public import proofs.«01_k».proof.Proof.Gen.ModIdeal.Value
public import proofs.«01_k».proof.Proof.Gen.Mod.Frame
public import proofs.«01_k».proof.Proof.Gen.ModRefIdeal.Read
public import Idealize.ShloMosaic.Lib.Pointwise
public import Idealize.ShloMosaic.Lib.ValueIdx
public import Idealize.ShloMosaic.Lib.StableHlo.Run

@[expose] public section

noncomputable section

namespace Cert.Proj.Mod

open Cert.ModIdeal Cert.ModIdeal.Gen Cert.ModIdeal.Value Idealize.ShloMosaic Idealize.ShloMosaic.TcCoe
  Idealize.SL.Sem

/-! ## The mathematics -/

/-- `x` times its logistic function. -/
def silu (x : EReal) : EReal := x * Ideal.logistic x

/-- The activated row times each layer's weights, plus its bias; the same in each of eight rows. -/
def modulation (x : S1x2048.Idx → EReal) (w : S2x2048x12288.Idx → EReal) (b : S2x12288.Idx → EReal) :
    S2x8x12288.Idx → EReal := fun i =>
  (∑ k : Fin 2048, silu (x (ix2 0 k)) * w (ix3 (i 0) k (i 2))) + b (ix2 (i 0) (i 2))

/-! ## What a point stores -/

theorem pay1_apply (x : Vec Ideal S8x2048 .f32) (w : Vec Ideal S1x2048x1024 .f32) (b : Vec Ideal S1x1x1024 .f32)
    (r : Fin 8) (d : Fin 1024) :
    k0_pay1 x w b (ix3 0 r d) = ((∑ k : Fin 2048, silu (x (ix2 r k)) * w (ix3 0 k d)) + b (ix3 0 0 d) : EReal) := by
  pointwise [k0_pay1, silu]

/-! ## The blocks a point reads -/

variable (m : (ℓ : Loc nD τ sig) → Buf (Elt Ideal) ℓ)

theorem index_facts : ∀ t : Fin cfg0.N,
    (win0_0.index t 0 = 0 ∧ win0_0.index t 1 = 0)
    ∧ (win0_1.index t 0 = t.val / 12 ∧ win0_1.index t 1 = 0 ∧ win0_1.index t 2 = t.val % 12)
    ∧ (win0_2.index t 0 = t.val / 12 ∧ win0_2.index t 1 = 0 ∧ win0_2.index t 2 = t.val % 12)
    ∧ (win0_3.index t 0 = t.val / 12 ∧ win0_3.index t 1 = 0 ∧ win0_3.index t 2 = t.val % 12) :=
  (by decide +kernel : ∀ t : Fin grid0.N, _)

abbrev argX (c : Dev nD) : S1x2048.Idx → EReal := m ((c : Thread nD τ).loc main_arg0)
abbrev argW (c : Dev nD) : S2x2048x12288.Idx → EReal := m ((c : Thread nD τ).loc main_arg1)
abbrev argB (c : Dev nD) : S2x12288.Idx → EReal := m ((c : Thread nD τ).loc main_arg2)

theorem V_x (c : Dev nD) : V m c main_v0 = broadcastInDim S8x2048 ![0, 1] bcast_S1x2048_S8x2048_0_1 (argX m c) := by
  show StableHlo.after hostOps0 (fun b => m (c, b)) _ = _
  unfold hostOps0
  after_results

theorem V_b (c : Dev nD) : V m c main_v1 = shapeCast S2x1x12288 (argB m c) shapeCasts_S2x12288_S2x1x12288 := by
  show StableHlo.after hostOps0 (fun b => m (c, b)) _ = _
  unfold hostOps0
  after_results
  rfl

/-- The repeated row is the row. -/
theorem rep_apply (x : S1x2048.Idx → EReal) (r : Fin 8) (k : Fin 2048) :
    broadcastInDim (α := EReal) S8x2048 ![0, 1] bcast_S1x2048_S8x2048_0_1 x (ix2 r k) = x (ix2 0 k) := by
  pointwise

/-- The reshaped bias is the bias. -/
theorem bias_apply (b : S2x12288.Idx → EReal) (l : Fin 2) (d : Fin 12288) :
    shapeCast (α := EReal) S2x1x12288 b shapeCasts_S2x12288_S2x1x12288 (ix3 l 0 d) = b (ix2 l d) := by
  pointwise

variable (c : Dev nD) (t : Fin cfg0.N)

theorem t_lt (t : Fin cfg0.N) : t.val < 24 := lt_of_lt_of_eq t.isLt (show cfg0.N = 24 from N_0)

/-- A point's layer. -/
abbrev lay (t : Fin cfg0.N) : Fin 2 := ⟨t.val / 12, by have := t_lt t; omega⟩

/-- A point's column in the arrays. -/
abbrev col (t : Fin cfg0.N) (d : Fin 1024) : Fin 12288 := ⟨1024 * (t.val % 12) + d.val, by have := t_lt t; omega⟩

theorem blk_x (r : Fin 8) (k : Fin 2048) : iblk m c 0 t (ix2 r k) = argX m c (ix2 0 k) := by
  obtain ⟨⟨a0, a1⟩, -⟩ := index_facts t
  show V m c main_v0 (((cfg0.win 0).blk t).view.emb (ix2 r k)) = _
  rw [V_x, ← rep_apply (argX m c) r k]
  refine congrArg (broadcastInDim S8x2048 ![0, 1] bcast_S1x2048_S8x2048_0_1 (argX m c)) (funext fun a => Fin.ext ?_)
  match a with
  | ⟨0, _⟩ => show win0_0.index t 0 * 8 + 1 * r.val = r.val; omega
  | ⟨1, _⟩ => show win0_0.index t 1 * 2048 + 1 * k.val = k.val; omega

theorem blk_w (k : Fin 2048) (d : Fin 1024) : iblk m c 1 t (ix3 0 k d) = argW m c (ix3 (lay t) k (col t d)) := by
  obtain ⟨-, ⟨a0, a1, a2⟩, -⟩ := index_facts t
  show V m c main_arg1 (((cfg0.win 1).blk t).view.emb (ix3 0 k d)) = _
  rw [V_main_arg1]
  refine congrArg (argW m c) (funext fun a => Fin.ext ?_)
  match a with
  | ⟨0, _⟩ => show win0_1.index t 0 * 1 + 1 * 0 = t.val / 12; omega
  | ⟨1, _⟩ => show win0_1.index t 1 * 2048 + 1 * k.val = k.val; omega
  | ⟨2, _⟩ => show win0_1.index t 2 * 1024 + 1 * d.val = 1024 * (t.val % 12) + d.val; omega

theorem blk_b (d : Fin 1024) : iblk m c 2 t (ix3 0 0 d) = argB m c (ix2 (lay t) (col t d)) := by
  obtain ⟨-, -, ⟨a0, a1, a2⟩, -⟩ := index_facts t
  show V m c main_v1 (((cfg0.win 2).blk t).view.emb (ix3 0 0 d)) = _
  rw [V_b, ← bias_apply (argB m c) (lay t) (col t d)]
  refine congrArg (shapeCast S2x1x12288 (argB m c) shapeCasts_S2x12288_S2x1x12288) (funext fun a => Fin.ext ?_)
  match a with
  | ⟨0, _⟩ => show win0_2.index t 0 * 1 + 1 * 0 = t.val / 12; omega
  | ⟨1, _⟩ => show win0_2.index t 1 * 1 + 1 * 0 = 0; omega
  | ⟨2, _⟩ => show win0_2.index t 2 * 1024 + 1 * d.val = 1024 * (t.val % 12) + d.val; omega

/-! ## The array -/

abbrev G : S2x8x12288.Idx → EReal := modulation (argX m c) (argW m c) (argB m c)

theorem point (r : Fin 8) (d : Fin 1024) :
    k0_pay1 (iblk m c 0 t) (iblk m c 1 t) (iblk m c 2 t) (ix3 0 r d) = G m c (ix3 (lay t) r (col t d)) := by
  rw [pay1_apply, blk_b m c t d]
  show _ = (∑ k : Fin 2048, silu (argX m c (ix2 0 k)) * argW m c (ix3 (lay t) k (col t d))) + argB m c (ix2 (lay t) (col t d))
  refine congrArg (fun z => z + _) (Finset.sum_congr rfl fun k _ => ?_)
  rw [blk_x m c t r k, blk_w m c t k d]

theorem hz2 : (![0, 0] : Fin 2 → Nat) = fun _ => 0 := funext fun a => by fin_cases a <;> rfl
theorem hz3 : (![0, 0, 0] : Fin 3 → Nat) = fun _ => 0 := funext fun a => by fin_cases a <;> rfl

theorem mem_block3 (t : Fin cfg0.N) (i : S2x8x12288.Idx) :
    i ∈ ((cfg0.win 3).blk t).view.set ↔ ∀ a : Fin 3, win0_3.index t a * S1x8x1024.size a ≤ (i a).val
      ∧ (i a).val < win0_3.index t a * S1x8x1024.size a + S1x8x1024.size a := by
  show i ∈ ((View.whole main_v2).slice (win0_3.rect t)).set ↔ _
  rw [View.set_slice_whole, Rect.mem_set_unit]
  exact Iff.rfl

theorem final3 : (dats m 0 c).arrAt 3 cfg0.N = G m c := by
  refine (dats m 0 c).arrAt_eq_of_cover 3 (G m c) (fun t _ => ?_) (fun i => ?_)
  · obtain ⟨-, -, -, ⟨a0, a1, a2⟩⟩ := index_facts t
    show (dats m 0 c).after 3 t = _
    rw [after0_3]
    unfold out0_3
    rw [View.canon_unit_zero hz3, View.ld_unit_zero (S := S8x2048) hz2, View.ld_unit_zero (S := S1x2048x1024) hz3,
      View.ld_unit_zero (S := S1x1x1024) hz3]
    funext j
    obtain ⟨r, d, rfl⟩ : ∃ (r : Fin 8) (d : Fin 1024), j = ix3 0 r d :=
      ⟨j 1, j 2, (eq_ix3 j).trans (congrArg (fun z => ix3 z (j 1) (j 2)) (Fin.eq_zero (j 0 : Fin 1)))⟩
    rw [point m c t r d]
    show _ = G m c (((cfg0.win 3).blk t).view.emb (ix3 0 r d))
    refine congrArg (G m c) (funext fun a => Fin.ext ?_)
    match a with
    | ⟨0, _⟩ => show t.val / 12 = win0_3.index t 0 * 1 + 1 * 0; omega
    | ⟨1, _⟩ => show r.val = win0_3.index t 1 * 8 + 1 * r.val; omega
    | ⟨2, _⟩ => show 1024 * (t.val % 12) + d.val = win0_3.index t 2 * 1024 + 1 * d.val; omega
  · have h0 : (i 0).val < 2 := (i 0).isLt
    have h1 : (i 1).val < 8 := (i 1).isLt
    have h2 : (i 2).val < 12288 := (i 2).isLt
    have hN : 12 * (i 0).val + (i 2).val / 1024 < cfg0.N := lt_of_lt_of_eq (by omega) (show cfg0.N = 24 from N_0).symm
    refine ⟨⟨12 * (i 0).val + (i 2).val / 1024, hN⟩, flush0_3 _, (mem_block3 _ i).2 ?_⟩
    obtain ⟨-, -, -, ⟨a0, a1, a2⟩⟩ := index_facts ⟨12 * (i 0).val + (i 2).val / 1024, hN⟩
    intro a
    match a with
    | ⟨0, _⟩ => show win0_3.index _ 0 * 1 ≤ (i 0).val ∧ (i 0).val < win0_3.index _ 0 * 1 + 1; rw [a0]; dsimp only; omega
    | ⟨1, _⟩ => show win0_3.index _ 1 * 8 ≤ (i 1).val ∧ (i 1).val < win0_3.index _ 1 * 8 + 8; rw [a1]; omega
    | ⟨2, _⟩ => show win0_3.index _ 2 * 1024 ≤ (i 2).val ∧ (i 2).val < win0_3.index _ 2 * 1024 + 1024; rw [a2]; dsimp only; omega

/-! ## The reference -/

open Cert.ModRefIdeal.Read in
theorem ref_silu (x : S1x2048.Idx → EReal) (k : Fin 2048) : val_main_v0 (F := Ideal) x (ix2 0 k) = silu (x (ix2 0 k)) := by
  pointwise [val_main_v0, val_main_call0_v5, val_main_call0_v4, val_main_call0_cst_0, val_main_call0_v3, val_main_call0_v2,
    val_main_call0_cst, val_main_call0_v1, val_main_call0_v0, silu, Ideal.logistic]

open Cert.ModRefIdeal.Read in
theorem ref_layer0 (x : S1x2048.Idx → EReal) (w : S2x2048x12288.Idx → EReal) (b : S2x12288.Idx → EReal) (d : Fin 12288) :
    val_main_v15 (F := Ideal) x w b (ix3 0 0 d) = (∑ k : Fin 2048, silu (x (ix2 0 k)) * w (ix3 0 k d)) + b (ix2 0 d) := by
  rw [show (fun k => silu (x (ix2 0 k)) * w (ix3 0 k d)) = (fun k => val_main_v0 (F := Ideal) x (ix2 0 k) * w (ix3 0 k d))
    from funext fun k => by rw [ref_silu]]
  unfold val_main_v15 val_main_v7 val_main_v3
  generalize val_main_v0 (F := Ideal) x = s
  pointwise [val_main_v6, val_main_v5, val_main_v4, val_main_v2, val_main_v1]

open Cert.ModRefIdeal.Read in
theorem ref_layer1 (x : S1x2048.Idx → EReal) (w : S2x2048x12288.Idx → EReal) (b : S2x12288.Idx → EReal) (d : Fin 12288) :
    val_main_v16 (F := Ideal) x w b (ix3 0 0 d) = (∑ k : Fin 2048, silu (x (ix2 0 k)) * w (ix3 1 k d)) + b (ix2 1 d) := by
  rw [show (fun k => silu (x (ix2 0 k)) * w (ix3 1 k d)) = (fun k => val_main_v0 (F := Ideal) x (ix2 0 k) * w (ix3 1 k d))
    from funext fun k => by rw [ref_silu]]
  unfold val_main_v16 val_main_v14 val_main_v10
  generalize val_main_v0 (F := Ideal) x = s
  pointwise [val_main_v13, val_main_v12, val_main_v11, val_main_v9, val_main_v8]

open Cert.ModRefIdeal.Read in
theorem ref_apply (x : S1x2048.Idx → EReal) (w : S2x2048x12288.Idx → EReal) (b : S2x12288.Idx → EReal) :
    val_main_v18 (F := Ideal) x w b = modulation x w b := by
  funext i
  obtain ⟨l, r, d, rfl⟩ : ∃ (l : Fin 2) (r : Fin 8) (d : Fin 12288), i = ix3 l r d := ⟨i 0, i 1, i 2, eq_ix3 i⟩
  show _ = (∑ k : Fin 2048, silu (x (ix2 0 k)) * w (ix3 l k d)) + b (ix2 l d)
  have e0 := ref_layer0 x w b d
  have e1 := ref_layer1 x w b d
  unfold val_main_v18 val_main_v17
  generalize val_main_v15 (F := Ideal) x w b = p at e0 ⊢
  generalize val_main_v16 (F := Ideal) x w b = q at e1 ⊢
  fin_cases l
  · refine Eq.trans ?_ e0
    pointwise
  · refine Eq.trans ?_ e1
    pointwise

/-! ## The claims -/

theorem frame_words : quiescent_Mod (hMod := Cert.Mod.Gen.facts) := fun m g _ => Cert.Mod.Gen.frame m g

theorem frame_ideal : quiescent_ModIdeal (hModIdeal := Cert.ModIdeal.Gen.facts) :=
  fun m g _ => Cert.ModIdeal.Gen.frame m g

/-- The reference keeps its arguments; it has no counter to move. -/
theorem frame_ref : quiescent_ModRefIdeal (hModRefIdeal := Cert.ModRefIdeal.Gen.facts) := fun m g _ =>
  (θ_run _ _ _).mono (fun r h => ⟨fun c => (h c).2, sem_eq_zero_of_no_sems (by decide) r.2⟩)
    (Cert.ModRefIdeal.Value.run m g)

theorem algebraic : algebraic_ModIdeal_ModRefIdeal (hModIdeal := Cert.ModIdeal.Gen.facts)
    (hModRefIdeal := Cert.ModRefIdeal.Gen.facts) := by
  intro m g m' g' _ hagree
  refine ⟨fun c => G m c, ?_, ?_⟩
  · exact (θ_run _ _ _).mono (fun _ h c => ⟨(h c).1.trans (final3 m c), (h c).2⟩) (run_blocks m g)
  · refine (θ_run _ _ _).mono (fun _ h c => ⟨(h c).1.trans ?_, (h c).2⟩) (Cert.ModRefIdeal.Value.run m' g')
    obtain ⟨h0, h1, h2⟩ := hagree c
    rw [h0, h1, h2]
    exact ref_apply _ _ _

end Cert.Proj.Mod

end
-- ==== Proof.Tail.Out.lean ====
/-
  The second layer after its mixer, first call: what the output projection leaves in its two arrays, from whatever the
  buffers hold when the call is reached.
-/
module

public import proofs.«01_k».proof.Proof.Proj.Spec
public import proofs.«01_k».proof.Proof.Gen.TailIdeal.Frame
public import Idealize.ShloMosaic.Lib.Pipeline.Value
public import Idealize.ShloMosaic.Lib.Pointwise
public import Idealize.ShloMosaic.Lib.ValueIdx
public import Idealize.ShloMosaic.Lib.StableHlo.Run

@[expose] public section

noncomputable section

namespace Cert.Tails.Out

open Cert.TailIdeal Cert.TailIdeal.Gen Idealize.ShloMosaic Idealize.ShloMosaic.TcCoe Idealize.SL.Sem Cert.Proj

/-! ## The mathematics -/

/-- The residual stream plus the gated projection. -/
def newX (y : S16384x4096.Idx → EReal) (w : S4096x2048.Idx → EReal) (x : S16384x2048.Idx → EReal)
    (g : S1x2048.Idx → EReal) : S16384x2048.Idx → EReal := fun i =>
  x (ix2 (i 0) (i 1)) + g (ix2 0 (i 1)) * ∑ k : Fin 4096, y (ix2 (i 0) k) * w (ix2 k (i 1))

/-- Its modulated norm. -/
def newH (y : S16384x4096.Idx → EReal) (w : S4096x2048.Idx → EReal) (x : S16384x2048.Idx → EReal)
    (g nw sc sh : S1x2048.Idx → EReal) : S16384x2048.Idx → EReal := fun i =>
  normMod (fun d => newX y w x g (ix2 (i 0) d)) (fun d => nw (ix2 0 d)) (fun d => sc (ix2 0 d)) (fun d => sh (ix2 0 d)) (i 1)

/-! ## What a point stores -/

theorem pay1_apply (y : Vec Ideal S512x4096 .bf16) (w : Vec Ideal S4096x2048 .bf16) (x : Vec Ideal S512x2048 .f32)
    (g : Vec Ideal S1x2048 .f32) (r : Fin 512) (d : Fin 2048) :
    k0_pay1 y w x g (ix2 r d) = (x (ix2 r d) : EReal) + g (ix2 0 d) * ∑ k : Fin 4096, (y (ix2 r k) : EReal) * w (ix2 k d) := by
  pointwise [k0_pay1]

theorem pay2_apply (y : Vec Ideal S512x4096 .bf16) (w : Vec Ideal S4096x2048 .bf16) (x : Vec Ideal S512x2048 .f32)
    (g nw sc sh : Vec Ideal S1x2048 .f32) (r : Fin 512) (d : Fin 2048) :
    k0_pay2 y w x g nw sc sh (ix2 r d) = normMod (fun e => k0_pay1 y w x g (ix2 r e)) (fun e => nw (ix2 0 e))
      (fun e => sc (ix2 0 e)) (fun e => sh (ix2 0 e)) d := by
  unfold k0_pay2
  generalize k0_pay1 y w x g = o
  pointwise [normMod]

/-! ## The blocks a point reads -/

variable (V : (c : Dev nD) → (b : Ref sig .tc) → Buf (Elt Ideal) ((c : Thread nD τ).loc b))

theorem index_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = t.val ∧ win0_7.index t 1 = 0)
    ∧ (win0_8.index t 0 = t.val ∧ win0_8.index t 1 = 0) :=
  (by decide +kernel : ∀ t : Fin grid0.N, _)

abbrev argY (c : Dev nD) : S16384x4096.Idx → EReal := V c main_arg0
abbrev argW (c : Dev nD) : S4096x2048.Idx → EReal := V c main_v0
abbrev argX (c : Dev nD) : S16384x2048.Idx → EReal := V c main_arg2
abbrev argG (c : Dev nD) : S1x2048.Idx → EReal := V c main_arg3
abbrev argNw (c : Dev nD) : S1x2048.Idx → EReal := V c main_arg4
abbrev argSc (c : Dev nD) : S1x2048.Idx → EReal := V c main_arg5
abbrev argSh (c : Dev nD) : S1x2048.Idx → EReal := V c main_arg6

variable (c : Dev nD) (t : Fin cfg0.N)

theorem row_lt (t : Fin cfg0.N) (r : Fin 512) : 512 * t.val + r.val < 16384 := by
  have := lt_of_lt_of_eq t.isLt (show cfg0.N = 32 from N_0)
  omega

/-- A point's row in the arrays. -/
abbrev row (t : Fin cfg0.N) (r : Fin 512) : Fin 16384 := ⟨512 * t.val + r.val, row_lt t r⟩

theorem blk_y (r : Fin 512) (k : Fin 4096) : iblk0 V c 0 t (ix2 r k) = argY V c (ix2 (row t r) k) := by
  obtain ⟨⟨a0, a1⟩, -⟩ := index_facts t
  show V c main_arg0 (((cfg0.win 0).blk t).view.emb (ix2 r k)) = _
  refine congrArg (argY V c) (funext fun a => Fin.ext ?_)
  match a with
  | ⟨0, _⟩ => show win0_0.index t 0 * 512 + 1 * r.val = 512 * t.val + r.val; omega
  | ⟨1, _⟩ => show win0_0.index t 1 * 4096 + 1 * k.val = k.val; omega

theorem blk_w (k : Fin 4096) (d : Fin 2048) : iblk0 V c 1 t (ix2 k d) = argW V c (ix2 k d) := by
  obtain ⟨-, ⟨a0, a1⟩, -⟩ := index_facts t
  show V c main_v0 (((cfg0.win 1).blk t).view.emb (ix2 k d)) = _
  refine congrArg (argW V c) (funext fun a => Fin.ext ?_)
  match a with
  | ⟨0, _⟩ => show win0_1.index t 0 * 4096 + 1 * k.val = k.val; omega
  | ⟨1, _⟩ => show win0_1.index t 1 * 2048 + 1 * d.val = d.val; omega

theorem blk_x (r : Fin 512) (d : Fin 2048) : iblk0 V c 2 t (ix2 r d) = argX V c (ix2 (row t r) d) := by
  obtain ⟨-, -, ⟨a0, a1⟩, -⟩ := index_facts t
  show V c main_arg2 (((cfg0.win 2).blk t).view.emb (ix2 r d)) = _
  refine congrArg (argX V c) (funext fun a => Fin.ext ?_)
  match a with
  | ⟨0, _⟩ => show win0_2.index t 0 * 512 + 1 * r.val = 512 * t.val + r.val; omega
  | ⟨1, _⟩ => show win0_2.index t 1 * 2048 + 1 * d.val = d.val; omega

theorem blk_g (d : Fin 2048) : iblk0 V c 3 t (ix2 0 d) = argG V c (ix2 0 d) := by
  obtain ⟨-, -, -, ⟨a0, a1⟩, -⟩ := index_facts t
  show V c main_arg3 (((cfg0.win 3).blk t).view.emb (ix2 0 d)) = _
  refine congrArg (argG V c) (funext fun a => Fin.ext ?_)
  match a with
  | ⟨0, _⟩ => show win0_3.index t 0 * 1 + 1 * 0 = 0; omega
  | ⟨1, _⟩ => show win0_3.index t 1 * 2048 + 1 * d.val = d.val; omega

theorem blk_nw (d : Fin 2048) : iblk0 V c 4 t (ix2 0 d) = argNw V c (ix2 0 d) := by
  obtain ⟨-, -, -, -, ⟨a0, a1⟩, -⟩ := index_facts t
  show V c main_arg4 (((cfg0.win 4).blk t).view.emb (ix2 0 d)) = _
  refine congrArg (argNw V c) (funext fun a => Fin.ext ?_)
  match a with
  | ⟨0, _⟩ => show win0_4.index t 0 * 1 + 1 * 0 = 0; omega
  | ⟨1, _⟩ => show win0_4.index t 1 * 2048 + 1 * d.val = d.val; omega

theorem blk_sc (d : Fin 2048) : iblk0 V c 5 t (ix2 0 d) = argSc V c (ix2 0 d) := by
  obtain ⟨-, -, -, -, -, ⟨a0, a1⟩, -⟩ := index_facts t
  show V c main_arg5 (((cfg0.win 5).blk t).view.emb (ix2 0 d)) = _
  refine congrArg (argSc V c) (funext fun a => Fin.ext ?_)
  match a with
  | ⟨0, _⟩ => show win0_5.index t 0 * 1 + 1 * 0 = 0; omega
  | ⟨1, _⟩ => show win0_5.index t 1 * 2048 + 1 * d.val = d.val; omega

theorem blk_sh (d : Fin 2048) : iblk0 V c 6 t (ix2 0 d) = argSh V c (ix2 0 d) := by
  obtain ⟨-, -, -, -, -, -, ⟨a0, a1⟩, -⟩ := index_facts t
  show V c main_arg6 (((cfg0.win 6).blk t).view.emb (ix2 0 d)) = _
  refine congrArg (argSh V c) (funext fun a => Fin.ext ?_)
  match a with
  | ⟨0, _⟩ => show win0_6.index t 0 * 1 + 1 * 0 = 0; omega
  | ⟨1, _⟩ => show win0_6.index t 1 * 2048 + 1 * d.val = d.val; omega

/-! ## The two arrays -/

abbrev X' : S16384x2048.Idx → EReal := newX (argY V c) (argW V c) (argX V c) (argG V c)
abbrev H' : S16384x2048.Idx → EReal :=
  newH (argY V c) (argW V c) (argX V c) (argG V c) (argNw V c) (argSc V c) (argSh V c)

theorem point_x (r : Fin 512) (d : Fin 2048) :
    k0_pay1 (iblk0 V c 0 t) (iblk0 V c 1 t) (iblk0 V c 2 t) (iblk0 V c 3 t) (ix2 r d) = X' V c (ix2 (row t r) d) := by
  rw [pay1_apply, blk_x V c t r d, blk_g V c t d]
  show _ = argX V c (ix2 (row t r) d) + argG V c (ix2 0 d) * ∑ k : Fin 4096, argY V c (ix2 (row t r) k) * argW V c (ix2 k d)
  refine congrArg (fun z => _ + _ * z) (Finset.sum_congr rfl fun k _ => ?_)
  rw [blk_y V c t r k, blk_w V c t k d]

theorem point_h (r : Fin 512) (d : Fin 2048) :
    k0_pay2 (iblk0 V c 0 t) (iblk0 V c 1 t) (iblk0 V c 2 t) (iblk0 V c 3 t) (iblk0 V c 4 t) (iblk0 V c 5 t) (iblk0 V c 6 t) (ix2 r d)
      = H' V c (ix2 (row t r) d) := by
  rw [pay2_apply]
  show _ = normMod (fun e => X' V c (ix2 (row t r) e)) (fun e => argNw V c (ix2 0 e)) (fun e => argSc V c (ix2 0 e))
    (fun e => argSh V c (ix2 0 e)) d
  rw [show (fun e => k0_pay1 (iblk0 V c 0 t) (iblk0 V c 1 t) (iblk0 V c 2 t) (iblk0 V c 3 t) (ix2 r e))
      = (fun e => X' V c (ix2 (row t r) e)) from funext fun e => point_x V c t r e,
    show (fun e => iblk0 V c 4 t (ix2 0 e)) = (fun e => argNw V c (ix2 0 e)) from funext fun e => blk_nw V c t e,
    show (fun e => iblk0 V c 5 t (ix2 0 e)) = (fun e => argSc V c (ix2 0 e)) from funext fun e => blk_sc V c t e,
    show (fun e => iblk0 V c 6 t (ix2 0 e)) = (fun e => argSh V c (ix2 0 e)) from funext fun e => blk_sh V c t e]

theorem hz2 : (![0, 0] : Fin 2 → Nat) = fun _ => 0 := funext fun a => by fin_cases a <;> rfl

theorem mem_block7 (t : Fin cfg0.N) (i : S16384x2048.Idx) :
    i ∈ ((cfg0.win 7).blk t).view.set ↔ ∀ a : Fin 2, win0_7.index t a * S512x2048.size a ≤ (i a).val
      ∧ (i a).val < win0_7.index t a * S512x2048.size a + S512x2048.size a := by
  show i ∈ ((View.whole main_v1_0).slice (win0_7.rect t)).set ↔ _
  rw [View.set_slice_whole, Rect.mem_set_unit]
  exact Iff.rfl

theorem mem_block8 (t : Fin cfg0.N) (i : S16384x2048.Idx) :
    i ∈ ((cfg0.win 8).blk t).view.set ↔ ∀ a : Fin 2, win0_8.index t a * S512x2048.size a ≤ (i a).val
      ∧ (i a).val < win0_8.index t a * S512x2048.size a + S512x2048.size a := by
  show i ∈ ((View.whole main_v1_1).slice (win0_8.rect t)).set ↔ _
  rw [View.set_slice_whole, Rect.mem_set_unit]
  exact Iff.rfl

theorem final7 : (dat0 V c).arrAt 7 cfg0.N = X' V c := by
  refine (dat0 V c).arrAt_eq_of_cover 7 (X' V c) (fun t _ => ?_) (fun i => ?_)
  · obtain ⟨-, -, -, -, -, -, -, ⟨a0, a1⟩, -⟩ := index_facts t
    show (dat0 V c).after 7 t = _
    rw [after0_7]
    unfold out0_7
    rw [View.canon_unit_zero hz2, View.ld_unit_zero (S := S512x4096) hz2, View.ld_unit_zero (S := S4096x2048) hz2,
      View.ld_unit_zero (S := S512x2048) hz2, View.ld_unit_zero (S := S1x2048) hz2]
    funext j
    obtain ⟨r, d, rfl⟩ : ∃ (r : Fin 512) (d : Fin 2048), j = ix2 r d := ⟨j 0, j 1, eq_ix2 j⟩
    rw [point_x V c t r d]
    show _ = X' V c (((cfg0.win 7).blk t).view.emb (ix2 r d))
    refine congrArg (X' V c) (funext fun a => Fin.ext ?_)
    match a with
    | ⟨0, _⟩ => show 512 * t.val + r.val = win0_7.index t 0 * 512 + 1 * r.val; omega
    | ⟨1, _⟩ => show d.val = win0_7.index t 1 * 2048 + 1 * d.val; omega
  · have h0 : (i 0).val < 16384 := (i 0).isLt
    have h1 : (i 1).val < 2048 := (i 1).isLt
    refine ⟨⟨(i 0).val / 512, lt_of_lt_of_eq (by omega) (show cfg0.N = 32 from N_0).symm⟩, flush0_7 _, (mem_block7 _ i).2 ?_⟩
    obtain ⟨-, -, -, -, -, -, -, ⟨a0, a1⟩, -⟩ :=
      index_facts ⟨(i 0).val / 512, lt_of_lt_of_eq (by omega) (show cfg0.N = 32 from N_0).symm⟩
    intro a
    match a with
    | ⟨0, _⟩ => show win0_7.index _ 0 * 512 ≤ (i 0).val ∧ (i 0).val < win0_7.index _ 0 * 512 + 512; rw [a0]; dsimp only; omega
    | ⟨1, _⟩ => show win0_7.index _ 1 * 2048 ≤ (i 1).val ∧ (i 1).val < win0_7.index _ 1 * 2048 + 2048; rw [a1]; omega

theorem final8 : (dat0 V c).arrAt 8 cfg0.N = H' V c := by
  refine (dat0 V c).arrAt_eq_of_cover 8 (H' V c) (fun t _ => ?_) (fun i => ?_)
  · obtain ⟨-, -, -, -, -, -, -, -, ⟨a0, a1⟩⟩ := index_facts t
    show (dat0 V c).after 8 t = _
    rw [after0_8]
    unfold out0_8
    rw [View.canon_unit_zero hz2, View.ld_unit_zero (S := S512x4096) hz2, View.ld_unit_zero (S := S4096x2048) hz2,
      View.ld_unit_zero (S := S512x2048) hz2, View.ld_unit_zero (S := S1x2048) hz2, View.ld_unit_zero (S := S1x2048) hz2,
      View.ld_unit_zero (S := S1x2048) hz2, View.ld_unit_zero (S := S1x2048) hz2]
    funext j
    obtain ⟨r, d, rfl⟩ : ∃ (r : Fin 512) (d : Fin 2048), j = ix2 r d := ⟨j 0, j 1, eq_ix2 j⟩
    rw [point_h V c t r d]
    show _ = H' V c (((cfg0.win 8).blk t).view.emb (ix2 r d))
    refine congrArg (H' V c) (funext fun a => Fin.ext ?_)
    match a with
    | ⟨0, _⟩ => show 512 * t.val + r.val = win0_8.index t 0 * 512 + 1 * r.val; omega
    | ⟨1, _⟩ => show d.val = win0_8.index t 1 * 2048 + 1 * d.val; omega
  · have h0 : (i 0).val < 16384 := (i 0).isLt
    have h1 : (i 1).val < 2048 := (i 1).isLt
    refine ⟨⟨(i 0).val / 512, lt_of_lt_of_eq (by omega) (show cfg0.N = 32 from N_0).symm⟩, flush0_8 _, (mem_block8 _ i).2 ?_⟩
    obtain ⟨-, -, -, -, -, -, -, -, ⟨a0, a1⟩⟩ :=
      index_facts ⟨(i 0).val / 512, lt_of_lt_of_eq (by omega) (show cfg0.N = 32 from N_0).symm⟩
    intro a
    match a with
    | ⟨0, _⟩ => show win0_8.index _ 0 * 512 ≤ (i 0).val ∧ (i 0).val < win0_8.index _ 0 * 512 + 512; rw [a0]; dsimp only; omega
    | ⟨1, _⟩ => show win0_8.index _ 1 * 2048 ≤ (i 1).val ∧ (i 1).val < win0_8.index _ 1 * 2048 + 2048; rw [a1]; omega

end Cert.Tails.Out

end
-- ==== Proof.Tail.Mlp.lean ====
/-
  The second layer after its mixer, second call: what the squared-ReLU MLP leaves in its array, from whatever the buffers
  hold when the call is reached. Sixteen consecutive points, one per strip of 512 hidden columns, fill a block of rows.
-/
module

public import proofs.«01_k».proof.Proof.Gen.TailIdeal.Frame
public import Idealize.ShloMosaic.Lib.Pipeline.Value
public import Idealize.ShloMosaic.Lib.Pointwise
public import Idealize.ShloMosaic.Lib.ValueIdx

@[expose] public section

noncomputable section

namespace Cert.Tails.Mlp

open Cert.TailIdeal Cert.TailIdeal.Gen Idealize.ShloMosaic Idealize.ShloMosaic.TcCoe Idealize.SL.Sem

section Run

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

theorem out_A_5_eq (c : Dev nD) (i : grid1.Coords) (arg2 : Memref sig .tc .vmem S1024x2048 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1024x2048 .f32) (harg7 : arg7.IsWhole) (hc0 : cond1_0 i) (hc1 : ¬cond1_1 i)
    (x0 : Vec F S1024x2048 .f32) (x1 : Vec F S1024x2048 .bf16) (x2 : Vec F S1x2048 .f32) (x3 : Vec F S1x2048x512 .bf16) (x4 : Vec F S1x512x2048 .bf16) :
    out1_A_5 c i arg2 harg2 arg3 harg3 arg4 harg4 arg5 harg5 arg6 harg6 arg7 harg7 hc0 hc1 x0 x1 x2 x3 x4 = k1_pay2 x1 x3 (k1_pay1 (F := F)) x4 := by
  unfold out1_A_5
  rw [View.read_writes_eq_canon _ _ _ (cover1_A_5 c i arg2 harg2 arg3 harg3 arg4 harg4 arg5 harg5 arg6 harg6 arg7 harg7 hc0 hc1 x0 x1 x2 x3 x4)]
  unfold kernelRun1_A
  dsimp only
  try sl_unfold_words
  rw [View.canon_cons_unit_zero (S := S1024x2048) hz2, View.readCov_unit_zero (S := S1024x2048) _ hz2]
  simp only [View.readAt_eq_ld, harg2.read_unread, harg3.read_unread, harg4.read_unread, harg5.read_unread, harg6.read_unread, harg7.read_unread, View.ld_unit_zero (S := S1024x2048) hz2, View.ld_unit_zero (S := S1x2048) hz2, View.ld_unit_zero (S := S1x2048x512) hz3, View.ld_unit_zero (S := S1x512x2048) hz3, shapeCast_self]

theorem out_B_5_eq (c : Dev nD) (i : grid1.Coords) (arg2 : Memref sig .tc .vmem S1024x2048 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1024x2048 .f32) (harg7 : arg7.IsWhole) (hc0 : ¬cond1_0 i) (hc1 : ¬cond1_1 i)
    (x0 : Vec F S1024x2048 .f32) (x1 : Vec F S1024x2048 .bf16) (x2 : Vec F S1x2048 .f32) (x3 : Vec F S1x2048x512 .bf16) (x4 : Vec F S1x512x2048 .bf16) (xo5 : Vec F S1024x2048 .f32) :
    out1_B_5 c i arg2 harg2 arg3 harg3 arg4 harg4 arg5 harg5 arg6 harg6 arg7 harg7 hc0 hc1 x0 x1 x2 x3 x4 xo5 = k1_pay2 x1 x3 xo5 x4 := by
  unfold out1_B_5
  rw [View.read_writes_eq_canon _ _ _ (cover1_B_5 c i arg2 harg2 arg3 harg3 arg4 harg4 arg5 harg5 arg6 harg6 arg7 harg7 hc0 hc1 x0 x1 x2 x3 x4 xo5)]
  unfold kernelRun1_B
  dsimp only
  try sl_unfold_words
  rw [View.canon_unit_zero hz2]
  simp only [View.readAt_eq_ld, harg2.read_unread, harg3.read_unread, harg4.read_unread, harg5.read_unread, harg6.read_unread, harg7.read_unread, View.ld_unit_zero (S := S1024x2048) hz2, View.ld_unit_zero (S := S1x2048) hz2, View.ld_unit_zero (S := S1x2048x512) hz3, View.ld_unit_zero (S := S1x512x2048) hz3, shapeCast_self]

theorem out_C_5_eq (c : Dev nD) (i : grid1.Coords) (arg2 : Memref sig .tc .vmem S1024x2048 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1024x2048 .f32) (harg7 : arg7.IsWhole) (hc0 : ¬cond1_0 i) (hc1 : cond1_1 i)
    (x0 : Vec F S1024x2048 .f32) (x1 : Vec F S1024x2048 .bf16) (x2 : Vec F S1x2048 .f32) (x3 : Vec F S1x2048x512 .bf16) (x4 : Vec F S1x512x2048 .bf16) (xo5 : Vec F S1024x2048 .f32) :
    out1_C_5 c i arg2 harg2 arg3 harg3 arg4 harg4 arg5 harg5 arg6 harg6 arg7 harg7 hc0 hc1 x0 x1 x2 x3 x4 xo5 = k1_pay3 x0 x2 (k1_pay2 x1 x3 xo5 x4) := by
  unfold out1_C_5
  rw [View.read_writes_eq_canon _ _ _ (cover1_C_5 c i arg2 harg2 arg3 harg3 arg4 harg4 arg5 harg5 arg6 harg6 arg7 harg7 hc0 hc1 x0 x1 x2 x3 x4 xo5)]
  unfold kernelRun1_C
  dsimp only
  try sl_unfold_words
  rw [View.canon_cons_unit_zero (S := S1024x2048) hz2, View.readCov_unit_zero (S := S1024x2048) _ hz2]
  simp only [View.readAt_eq_ld, harg2.read_unread, harg3.read_unread, harg4.read_unread, harg5.read_unread, harg6.read_unread, harg7.read_unread, View.ld_unit_zero (S := S1024x2048) hz2, View.ld_unit_zero (S := S1x2048) hz2, View.ld_unit_zero (S := S1x2048x512) hz3, View.ld_unit_zero (S := S1x512x2048) hz3, shapeCast_self]

def reset5 (c : Dev nD) (n : ℕ) (h : n < cfg1.N) : Vec F S1024x2048 .f32 :=
  k1_pay2 (iblk1 V c 1 ⟨n, h⟩) (iblk1 V c 3 ⟨n, h⟩) (k1_pay1 (F := F)) (iblk1 V c 4 ⟨n, h⟩)

def step5 (c : Dev nD) (n : ℕ) (h : n < cfg1.N) (acc : Vec F S1024x2048 .f32) : Vec F S1024x2048 .f32 :=
  if ¬n % 16 = 0 ∧ ¬n % 16 = 15 then k1_pay2 (iblk1 V c 1 ⟨n, h⟩) (iblk1 V c 3 ⟨n, h⟩) acc (iblk1 V c 4 ⟨n, h⟩)
  else if ¬n % 16 = 0 ∧ n % 16 = 15 then k1_pay3 (iblk1 V c 0 ⟨n, h⟩) (iblk1 V c 2 ⟨n, h⟩) (k1_pay2 (iblk1 V c 1 ⟨n, h⟩) (iblk1 V c 3 ⟨n, h⟩) acc (iblk1 V c 4 ⟨n, h⟩))
  else acc

theorem outsAt_5_eq (c : Dev nD) (t : Fin cfg1.N) :
    (outsAt1 V c t.val t.isLt) = Pipeline.accAt (reset5 V c) (step5 V c) (16 * (t.val / 16)) (t.val % 16)
      (by have h1 := t.isLt; have h2 := Nat.div_add_mod t.val 16; omega) :=
  Pipeline.eq_accAt_of_mod (fun n h => (outsAt1 V c n h)) 16 (reset5 V c) (step5 V c)
    (fun n h hn => by have hN := lt_of_lt_of_eq h (show cfg1.N = 256 from N_1); rw [outsAt1_A V c ⟨n, h⟩ (by (try dsimp only); omega) (by (try dsimp only); omega)]; exact out_A_5_eq ..)
    (fun n h hn => by
      have hN := lt_of_lt_of_eq h (show cfg1.N = 256 from N_1)
      by_cases g0 : (n + 1) % 16 = 0 <;> by_cases g1 : (n + 1) % 16 = 15
      all_goals first | (exfalso; omega) | (rw [outsAt1_B V c ⟨n + 1, h⟩ g0 g1]; unfold step5; rw [if_pos (by omega)]; exact out_B_5_eq ..) | (rw [outsAt1_C V c ⟨n + 1, h⟩ g0 g1]; unfold step5; rw [if_neg (by omega), if_pos (by omega)]; exact out_C_5_eq ..))
    (by decide) t.val t.isLt _

abbrev run5Of (i : S16384x2048.Idx) : ℕ := 1 * ((i 0).val / 1024 - 0) + 1 * ((i 1).val / 2048 - 0)
set_option backward.proofsInPublic true in
abbrev loc5Of (i : S16384x2048.Idx) : S1024x2048.Idx := fun a => match a with
  | ⟨0, _⟩ => ⟨(i 0).val % 1024, Nat.mod_lt _ (by decide)⟩
  | ⟨1, _⟩ => ⟨(i 1).val % 2048, Nat.mod_lt _ (by decide)⟩

def G5 (c : Dev nD) : Buf (Elt F) ((c : Thread nD τ).loc main_v4) := fun i =>
  if h : 16 * run5Of i + 15 < cfg1.N then
    (Pipeline.accAt (reset5 V c) (step5 V c) (16 * run5Of i) 15 h) (loc5Of i)
  else V c (Pipeline.arrRef spec1 5) i

theorem idx_facts5 : ∀ t : Fin cfg1.N, 0 ≤ win1_5.index t (0 : Fin 2) ∧ win1_5.index t (0 : Fin 2) ≤ 15
    ∧ 0 ≤ win1_5.index t (1 : Fin 2) ∧ win1_5.index t (1 : Fin 2) ≤ 0
    ∧ 1 * (win1_5.index t (0 : Fin 2) - 0) + 1 * (win1_5.index t (1 : Fin 2) - 0) = t.val / 16 :=
  (by decide +kernel : ∀ t : Fin grid1.N, _)

theorem idx_onto5 : ∀ (q0 : Fin 16) (q1 : Fin 1), ∃ t : Fin cfg1.N, (cfg1.win 5).flush t = true ∧ win1_5.index t = ![q0.val + 0, q1.val + 0] :=
  (by decide +kernel : ∀ (q0 : Fin 16) (q1 : Fin 1), ∃ t : Fin grid1.N, win1_5.flush t = true ∧ win1_5.index t = ![q0.val + 0, q1.val + 0])

theorem flushed5_eq (c : Dev nD) (t : Fin cfg1.N) (hf : (cfg1.win 5).flush t = true) :
    (dat1 V c).flushed 5 t = ((cfg1.win 5).blk t).view.read (Elt F) (G5 V c) := by
  show (cfg1.win 5).cut (grid1.coords t) ((dat1 V c).after 5 t) = _
  rw [after1_5, outsAt_5_eq]
  have hm : t.val % 16 = 15 := (flush1_5 t).mp hf
  obtain ⟨e0, e1, e2⟩ := idx_facts5 t
  funext y
  have hy0 : (y 0).val < 1024 := (y 0).isLt
  have hy1 : (y 1).val < 2048 := (y 1).isLt
  have hb0 : (((cfg1.win 5).blk t).view.emb y 0).val = win1_5.index t (0 : Fin 2) * 1024 + 1 * (y 0).val := rfl
  have hb1 : (((cfg1.win 5).blk t).view.emb y 1).val = win1_5.index t (1 : Fin 2) * 2048 + 1 * (y 1).val := rfl
  have hr : run5Of (((cfg1.win 5).blk t).view.emb y) = t.val / 16 := by
    show 1 * ((((cfg1.win 5).blk t).view.emb y 0).val / 1024 - 0) + 1 * ((((cfg1.win 5).blk t).view.emb y 1).val / 2048 - 0) = _
    rw [hb0, hb1]
    rw [show (win1_5.index t (0 : Fin 2) * 1024 + 1 * (y 0).val) / 1024 = win1_5.index t (0 : Fin 2) from by omega]; rw [show (win1_5.index t (1 : Fin 2) * 2048 + 1 * (y 1).val) / 2048 = win1_5.index t (1 : Fin 2) from by omega]
    omega
  have hl : loc5Of (((cfg1.win 5).blk t).view.emb y) = (cfg1.win 5).xinj (grid1.coords t) y := by
    funext a; apply Fin.ext
    match a with
    | ⟨0, _⟩ => show (((cfg1.win 5).blk t).view.emb y 0).val % 1024 = (y 0).val; rw [hb0]; omega
    | ⟨1, _⟩ => show (((cfg1.win 5).blk t).view.emb y 1).val % 2048 = (y 1).val; rw [hb1]; omega
  show (Pipeline.accAt (reset5 V c) (step5 V c) (16 * (t.val / 16)) (t.val % 16) _) ((cfg1.win 5).xinj (grid1.coords t) y) = G5 V c (((cfg1.win 5).blk t).view.emb y)
  unfold G5
  rw [dif_pos (by rw [hr]; have := t.isLt; have := Nat.div_add_mod t.val 16; omega), hl]
  have e : ∀ (b j : ℕ) (h : b + j < cfg1.N) (b' j' : ℕ) (h' : b' + j' < cfg1.N), b = b' → j = j' →
      Pipeline.accAt (reset5 V c) (step5 V c) b j h = Pipeline.accAt (reset5 V c) (step5 V c) b' j' h' := by
    intro b j h b' j' h' hb hj; subst hb; subst hj; rfl
  have hb : 16 * (t.val / 16) = 16 * run5Of (((cfg1.win 5).blk t).view.emb y) := by rw [hr]
  exact congrFun (e _ _ _ _ _ _ hb hm) _

theorem mem_blk5 (t : Fin cfg1.N) (i : S16384x2048.Idx) :
    i ∈ ((cfg1.win 5).blk t).view.set ↔ ∀ a : Fin 2, win1_5.index t a * S1024x2048.size a ≤ (i a).val ∧ (i a).val < win1_5.index t a * S1024x2048.size a + S1024x2048.size a := by
  show i ∈ ((View.whole main_v4).slice (win1_5.rect t)).set ↔ _
  rw [View.set_slice_whole, Rect.mem_set_unit]
  exact Iff.rfl

theorem covered_iff5 (i : S16384x2048.Idx) :
    (∃ t : Fin cfg1.N, (cfg1.win 5).flush t = true ∧ i ∈ ((cfg1.win 5).blk t).view.set) ↔ 0 ≤ (i 0).val ∧ (i 0).val < 16384 ∧ 0 ≤ (i 1).val ∧ (i 1).val < 2048 := by
  constructor
  · rintro ⟨t, -, hi⟩
    rw [mem_blk5] at hi
    have b0 : win1_5.index t (0 : Fin 2) * 1024 ≤ (i 0).val ∧ (i 0).val < win1_5.index t (0 : Fin 2) * 1024 + 1024 := hi 0
    have b1 : win1_5.index t (1 : Fin 2) * 2048 ≤ (i 1).val ∧ (i 1).val < win1_5.index t (1 : Fin 2) * 2048 + 2048 := hi 1
    obtain ⟨e0, e1, e2⟩ := idx_facts5 t
    omega
  · intro h
    have hi0 : (i 0).val < 16384 := (i 0).isLt
    have hi1 : (i 1).val < 2048 := (i 1).isLt
    obtain ⟨t, hft, ht⟩ := idx_onto5 ⟨(i 0).val / 1024 - 0, by omega⟩ ⟨(i 1).val / 2048 - 0, by omega⟩
    have q0 : win1_5.index t (0 : Fin 2) = (i 0).val / 1024 - 0 + 0 := congrFun ht 0
    have q1 : win1_5.index t (1 : Fin 2) = (i 1).val / 2048 - 0 + 0 := congrFun ht 1
    refine ⟨t, hft, ?_⟩
    rw [mem_blk5]
    intro a
    match a with
    | ⟨0, _⟩ => show win1_5.index t (0 : Fin 2) * 1024 ≤ (i 0).val ∧ (i 0).val < win1_5.index t (0 : Fin 2) * 1024 + 1024; omega
    | ⟨1, _⟩ => show win1_5.index t (1 : Fin 2) * 2048 ≤ (i 1).val ∧ (i 1).val < win1_5.index t (1 : Fin 2) * 2048 + 2048; omega

theorem final5 (c : Dev nD) : (dat1 V c).arrAt 5 cfg1.N = G5 V c :=
  (dat1 V c).arrAt_eq_of_cover 5 _ (fun t hf => flushed5_eq V c t hf) (fun i => (covered_iff5 i).2 (by
    have h0 : (i 0).val < 16384 := (i 0).isLt; have h1 : (i 1).val < 2048 := (i 1).isLt; omega))

end Run

/-- The square of the positive part. -/
def sq (a : EReal) : EReal := max a 0 * max a 0

/-- The block that a run starts from is zero. -/
theorem pay1_apply (j : S1024x2048.Idx) : k1_pay1 (F := Ideal) j = (0 : EReal) := by
  pointwise [k1_pay1]

/-- A point adds to the block, at each element, the products of 512 activations with their rows of the second
    weights. -/
theorem pay2_apply (x : Vec Ideal S1024x2048 .bf16) (w : Vec Ideal S1x2048x512 .bf16) (a : Vec Ideal S1024x2048 .f32)
    (u : Vec Ideal S1x512x2048 .bf16) (r : Fin 1024) (d : Fin 2048) :
    k1_pay2 x w a u (ix2 r d) = (a (ix2 r d) : EReal) + ∑ k : Fin 512,
      sq (∑ e : Fin 2048, (x (ix2 r e) : EReal) * w (ix3 0 e k)) * u (ix3 0 k d) := by
  pointwise [k1_pay2]
  rfl

/-- The last point of a run gates the finished sum and adds the block of the residual stream. -/
theorem pay3_apply (x : Vec Ideal S1024x2048 .f32) (g : Vec Ideal S1x2048 .f32) (o : Vec Ideal S1024x2048 .f32)
    (r : Fin 1024) (d : Fin 2048) :
    k1_pay3 x g o (ix2 r d) = (x (ix2 r d) : EReal) + (g (ix2 0 d) : EReal) * o (ix2 r d) := by
  pointwise [k1_pay3]

variable (V : (c : Dev nD) → (b : Ref sig .tc) → Buf (Elt Ideal) ((c : Thread nD τ).loc b))

/-- The residual stream. -/
abbrev argX (c : Dev nD) : S16384x2048.Idx → EReal := V c main_v1_0
/-- The normalised activations. -/
abbrev argH (c : Dev nD) : S16384x2048.Idx → EReal := V c main_v1_1
/-- The gate. -/
abbrev argG (c : Dev nD) : S1x2048.Idx → EReal := V c main_arg7
/-- The first weights. -/
abbrev argW (c : Dev nD) : S2x2048x8192.Idx → EReal := V c main_v2
/-- The second weights. -/
abbrev argU (c : Dev nD) : S2x8192x2048.Idx → EReal := V c main_v3

/-- One hidden column's share of an element of the product: the squared positive part of the row's activation, times
    the second weight. -/
def part (c : Dev nD) (r : Fin 16384) (d : Fin 2048) (f : Fin 8192) : EReal :=
  sq (∑ e : Fin 2048, argH V c (ix2 r e) * argW V c (ix3 1 e f)) * argU V c (ix3 1 f d)

/-- Which blocks a point reads: rows by its first coordinate, hidden columns by its second. -/
theorem index_facts : ∀ t : Fin cfg1.N,
    (win1_0.index t 0 = t.val / 16 ∧ win1_0.index t 1 = 0) ∧ (win1_1.index t 0 = t.val / 16 ∧ win1_1.index t 1 = 0)
    ∧ (win1_2.index t 0 = 0 ∧ win1_2.index t 1 = 0)
    ∧ (win1_3.index t 0 = 1 ∧ win1_3.index t 1 = 0 ∧ win1_3.index t 2 = t.val % 16)
    ∧ (win1_4.index t 0 = 1 ∧ win1_4.index t 1 = t.val % 16 ∧ win1_4.index t 2 = 0) :=
  (by decide +kernel : ∀ t : Fin grid1.N, _)

variable (c : Dev nD) (t : Fin cfg1.N)

theorem row_lt (t : Fin cfg1.N) (r : Fin 1024) : 1024 * (t.val / 16) + r.val < 16384 := by
  have := lt_of_lt_of_eq t.isLt (show cfg1.N = 256 from N_1)
  omega

theorem col_lt (t : Fin cfg1.N) (k : Fin 512) : 512 * (t.val % 16) + k.val < 8192 := by omega

/-- The residual block of a point is 1024 rows of the residual stream. -/
theorem blk_x (r : Fin 1024) (d : Fin 2048) :
    iblk1 V c 0 t (ix2 r d) = argX V c (ix2 ⟨1024 * (t.val / 16) + r.val, row_lt t r⟩ d) := by
  obtain ⟨⟨a0, a1⟩, -⟩ := index_facts t
  show V c main_v1_0 (((cfg1.win 0).blk t).view.emb (ix2 r d)) = _
  refine congrArg (argX V c) (funext fun a => Fin.ext ?_)
  match a with
  | ⟨0, _⟩ => show win1_0.index t 0 * 1024 + 1 * r.val = 1024 * (t.val / 16) + r.val; omega
  | ⟨1, _⟩ => show win1_0.index t 1 * 2048 + 1 * d.val = d.val; omega

/-- The activation block of a point is 1024 rows of the activations. -/
theorem blk_h (r : Fin 1024) (d : Fin 2048) :
    iblk1 V c 1 t (ix2 r d) = argH V c (ix2 ⟨1024 * (t.val / 16) + r.val, row_lt t r⟩ d) := by
  obtain ⟨-, ⟨a0, a1⟩, -⟩ := index_facts t
  show V c main_v1_1 (((cfg1.win 1).blk t).view.emb (ix2 r d)) = _
  refine congrArg (argH V c) (funext fun a => Fin.ext ?_)
  match a with
  | ⟨0, _⟩ => show win1_1.index t 0 * 1024 + 1 * r.val = 1024 * (t.val / 16) + r.val; omega
  | ⟨1, _⟩ => show win1_1.index t 1 * 2048 + 1 * d.val = d.val; omega

/-- The gate block of a point is the gate. -/
theorem blk_g (d : Fin 2048) : iblk1 V c 2 t (ix2 0 d) = argG V c (ix2 0 d) := by
  obtain ⟨-, -, ⟨a0, a1⟩, -⟩ := index_facts t
  show V c main_arg7 (((cfg1.win 2).blk t).view.emb (ix2 0 d)) = _
  refine congrArg (argG V c) (funext fun a => Fin.ext ?_)
  match a with
  | ⟨0, _⟩ => show win1_2.index t 0 * 1 + 1 * 0 = 0; omega
  | ⟨1, _⟩ => show win1_2.index t 1 * 2048 + 1 * d.val = d.val; omega

/-- A point's block of the first weights is 512 columns of the second layer's. -/
theorem blk_w (e : Fin 2048) (k : Fin 512) :
    iblk1 V c 3 t (ix3 0 e k) = argW V c (ix3 1 e ⟨512 * (t.val % 16) + k.val, col_lt t k⟩) := by
  obtain ⟨-, -, -, ⟨a0, a1, a2⟩, -⟩ := index_facts t
  show V c main_v2 (((cfg1.win 3).blk t).view.emb (ix3 0 e k)) = _
  refine congrArg (argW V c) (funext fun a => Fin.ext ?_)
  match a with
  | ⟨0, _⟩ => show win1_3.index t 0 * 1 + 1 * 0 = 1; omega
  | ⟨1, _⟩ => show win1_3.index t 1 * 2048 + 1 * e.val = e.val; omega
  | ⟨2, _⟩ => show win1_3.index t 2 * 512 + 1 * k.val = 512 * (t.val % 16) + k.val; omega

/-- A point's block of the second weights is 512 rows of the second layer's. -/
theorem blk_u (k : Fin 512) (d : Fin 2048) :
    iblk1 V c 4 t (ix3 0 k d) = argU V c (ix3 1 ⟨512 * (t.val % 16) + k.val, col_lt t k⟩ d) := by
  obtain ⟨-, -, -, -, ⟨a0, a1, a2⟩⟩ := index_facts t
  show V c main_v3 (((cfg1.win 4).blk t).view.emb (ix3 0 k d)) = _
  refine congrArg (argU V c) (funext fun a => Fin.ext ?_)
  match a with
  | ⟨0, _⟩ => show win1_4.index t 0 * 1 + 1 * 0 = 1; omega
  | ⟨1, _⟩ => show win1_4.index t 1 * 512 + 1 * k.val = 512 * (t.val % 16) + k.val; omega
  | ⟨2, _⟩ => show win1_4.index t 2 * 2048 + 1 * d.val = d.val; omega

/-- A point's share of an element of its row block: its strip's hidden columns. -/
def strip (q s : ℕ) (hq : q < 16) (hs : s < 16) (i : S1024x2048.Idx) : EReal :=
  ∑ k : Fin 512, part V c ⟨1024 * q + (i 0).val, by have : (i 0).val < 1024 := (i 0).isLt; omega⟩
    ⟨(i 1).val, (i 1).isLt⟩ ⟨512 * s + k.val, by omega⟩

/-- The same, by the point's number. -/
def share (n : ℕ) (i : S1024x2048.Idx) : EReal :=
  if h : n < 256 then strip V c (n / 16) (n % 16) (by omega) (by omega) i else 0

/-- A point adds its share to what the block holds. -/
theorem point_adds (n : ℕ) (h : n < cfg1.N) (acc : Vec Ideal S1024x2048 .f32) (i : S1024x2048.Idx) :
    k1_pay2 (iblk1 V c 1 ⟨n, h⟩) (iblk1 V c 3 ⟨n, h⟩) acc (iblk1 V c 4 ⟨n, h⟩) i = (acc i : EReal) + share V c n i := by
  obtain ⟨r, d, rfl⟩ : ∃ (r : Fin 1024) (d : Fin 2048), i = ix2 r d := ⟨i 0, i 1, eq_ix2 i⟩
  rw [pay2_apply, share, dif_pos (lt_of_lt_of_eq h N_1), strip]
  simp only [part]
  refine congrArg (_ + ·) (Finset.sum_congr rfl fun k _ => ?_)
  rw [blk_u V c ⟨n, h⟩ k d]
  refine congrArg (fun z => sq z * _) (Finset.sum_congr rfl fun e _ => ?_)
  rw [blk_h V c ⟨n, h⟩ r e, blk_w V c ⟨n, h⟩ e k]
  rfl

/-- Before its last point a run's block holds the sum of the shares so far. -/
theorem acc_eq (q : ℕ) (j : ℕ) (hj : j ≤ 14) (h : 16 * q + j < cfg1.N) (i : S1024x2048.Idx) :
    Pipeline.accAt (reset5 V c) (step5 V c) (16 * q) j h i
      = (0 : EReal) + ∑ s ∈ Finset.range (j + 1), share V c (16 * q + s) i := by
  refine Pipeline.accAt_add_apply (ι := S1024x2048.Idx) (β := EReal) (reset5 V c) (step5 V c) (fun _ => 0)
    (share V c) (16 * q) 14 ?_ ?_ j hj h i
  · intro h i
    unfold reset5
    rw [point_adds, pay1_apply]
  · intro n h acc i h1 h2
    unfold step5
    rw [if_pos (by omega), point_adds]

/-- What a run's last point leaves: the gated sum over the residual block. -/
theorem step_last (n : ℕ) (h : n < cfg1.N) (acc : Vec Ideal S1024x2048 .f32) (hn : n % 16 = 15) :
    step5 V c n h acc = k1_pay3 (iblk1 V c 0 ⟨n, h⟩) (iblk1 V c 2 ⟨n, h⟩)
      (k1_pay2 (iblk1 V c 1 ⟨n, h⟩) (iblk1 V c 3 ⟨n, h⟩) acc (iblk1 V c 4 ⟨n, h⟩)) := by
  unfold step5
  rw [if_neg (by omega), if_pos (by omega)]

/-- Sixteen strips of 512 columns are the 8192 columns. -/
theorem sum_strips (f : Fin 8192 → EReal) :
    ∑ s : Fin 16, ∑ k : Fin 512, f ⟨512 * s.val + k.val, by omega⟩ = ∑ k : Fin 8192, f k := by
  rw [← Fintype.sum_prod_type']
  refine Fintype.sum_equiv (finProdFinEquiv (m := 16) (n := 512)) _ _ fun p => congrArg f (Fin.ext ?_)
  show 512 * p.1.val + p.2.val = p.2.val + 512 * p.1.val
  omega

/-- What the output array holds at an element: the residual plus the gated product over all hidden columns. -/
theorem G5_apply (r : Fin 16384) (d : Fin 2048) :
    G5 V c (ix2 r d) = argX V c (ix2 r d) + argG V c (ix2 0 d) * ∑ f : Fin 8192, part V c r d f := by
  have hrun : run5Of (ix2 r d) = r.val / 1024 := by
    show 1 * (r.val / 1024 - 0) + 1 * (d.val / 2048 - 0) = _
    omega
  have hloc : loc5Of (ix2 r d) = ix2 (⟨r.val % 1024, by omega⟩ : Fin 1024) d := by
    funext a
    match a with
    | ⟨0, _⟩ => rfl
    | ⟨1, _⟩ => exact Fin.ext (show d.val % 2048 = d.val by omega)
  have hb : 16 * run5Of (ix2 r d) + 15 < cfg1.N := by rw [hrun, show cfg1.N = 256 from N_1]; omega
  unfold G5
  rw [dif_pos hb, hloc, Pipeline.accAt_succ]
  generalize hq : run5Of (ix2 r d) = q at hb
  obtain rfl : q = r.val / 1024 := by rw [← hq, hrun]
  rw [step_last V c _ hb _ (by omega), pay3_apply, point_adds, acc_eq V c _ 14 le_rfl,
    blk_x V c _ _ d, blk_g V c _ d, zero_add]
  refine congrArg₂ (fun a b => a + argG V c (ix2 0 d) * b) (congrArg (argX V c) ?_) ?_
  · refine congrArg (ix2 · d) (Fin.ext ?_)
    show 1024 * ((16 * (r.val / 1024) + 15) / 16) + r.val % 1024 = r.val
    omega
  · show ∑ s ∈ Finset.range 15, share V c (16 * (r.val / 1024) + s) _ + share V c (16 * (r.val / 1024) + 15) _ = _
    rw [← Finset.sum_range_succ (fun s => share V c (16 * (r.val / 1024) + s) _) 15, ← sum_strips,
      Finset.sum_range]
    refine Finset.sum_congr rfl fun s _ => ?_
    rw [share, dif_pos (by omega), strip]
    refine Finset.sum_congr rfl fun k _ => ?_
    congr 1
    · refine Fin.ext ?_
      show 1024 * ((16 * (r.val / 1024) + s.val) / 16) + r.val % 1024 = r.val
      omega
    · refine Fin.ext ?_
      show 512 * ((16 * (r.val / 1024) + s.val) % 16) + k.val = 512 * s.val + k.val
      omega

end Cert.Tails.Mlp

end
-- ==== Proof.Tail.Chain.lean ====
/-
  The second layer after its mixer: the two calls one after the other. What the second finds is what the first leaves, so
  the last array is a function of the arguments; it is the reference's.
-/
module

public import proofs.«01_k».proof.Defs
public import proofs.«01_k».proof.Proof.Tail.Out
public import proofs.«01_k».proof.Proof.Tail.Mlp
public import proofs.«01_k».proof.Proof.Gen.Tail.Frame
public import proofs.«01_k».proof.Proof.Gen.TailRefIdeal.Read
public import proofs.«01_k».proof.Proof.Gen.TailRefIdeal.Run
public import Idealize.ShloMosaic.Lib.Pointwise
public import Idealize.ShloMosaic.Lib.ValueIdx
public import Idealize.ShloMosaic.Lib.StableHlo.Run

@[expose] public section

noncomputable section

namespace Cert.Tails

open Cert.TailIdeal Cert.TailIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The run -/

set_option backward.isDefEq.respectTransparency.types false in
/-- Every run ends with the last array as the second call leaves it, the arguments unchanged. -/
theorem run : θ_run defs (onTc (τ := τ) (main (F := Ideal))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

/-! ## What the second call finds -/

variable (c : Dev nD)

abbrev aY : S16384x4096.Idx → EReal := m ((c : Thread nD τ).loc main_arg0)
abbrev aW : S4096x2048.Idx → EReal := m ((c : Thread nD τ).loc main_arg1)
abbrev aX : S16384x2048.Idx → EReal := m ((c : Thread nD τ).loc main_arg2)
abbrev aG : S1x2048.Idx → EReal := m ((c : Thread nD τ).loc main_arg3)
abbrev aNw : S1x2048.Idx → EReal := m ((c : Thread nD τ).loc main_arg4)
abbrev aSc : S1x2048.Idx → EReal := m ((c : Thread nD τ).loc main_arg5)
abbrev aSh : S1x2048.Idx → EReal := m ((c : Thread nD τ).loc main_arg6)
abbrev aG2 : S1x2048.Idx → EReal := m ((c : Thread nD τ).loc main_arg7)
abbrev aW1 : S2x2048x8192.Idx → EReal := m ((c : Thread nD τ).loc main_arg8)
abbrev aW2 : S2x8192x2048.Idx → EReal := m ((c : Thread nD τ).loc main_arg9)

/-- The rounded weights are the weights. -/
theorem V1_w : V1 m ρ c main_v0 = (aW m c : S4096x2048.Idx → EReal) := by
  show StableHlo.after hostOps0 (fun b => m (c, b)) _ = _
  unfold hostOps0
  after_results
  rfl

/-- The residual that the second call finds is the first call's. -/
theorem V3_x : V3 m ρ c main_v1_0 = Out.newX (aY m c) (aW m c) (aX m c) (aG m c) := by
  refine (W3_of m ρ c main_v1_0 (by decide)).trans ((W2_arr m ρ c 7).trans ((Out.final7 (V1 m ρ) c).trans ?_))
  unfold Out.X'
  rw [show Out.argY (V1 m ρ) c = aY m c from W1_args m ρ c main_arg0 (by decide),
    show Out.argW (V1 m ρ) c = aW m c from V1_w m ρ c,
    show Out.argX (V1 m ρ) c = aX m c from W1_args m ρ c main_arg2 (by decide),
    show Out.argG (V1 m ρ) c = aG m c from W1_args m ρ c main_arg3 (by decide)]

/-- So are the normalised activations. -/
theorem V3_h : V3 m ρ c main_v1_1
    = Out.newH (aY m c) (aW m c) (aX m c) (aG m c) (aNw m c) (aSc m c) (aSh m c) := by
  refine (W3_of m ρ c main_v1_1 (by decide)).trans ((W2_arr m ρ c 8).trans ((Out.final8 (V1 m ρ) c).trans ?_))
  unfold Out.H'
  rw [show Out.argY (V1 m ρ) c = aY m c from W1_args m ρ c main_arg0 (by decide),
    show Out.argW (V1 m ρ) c = aW m c from V1_w m ρ c,
    show Out.argX (V1 m ρ) c = aX m c from W1_args m ρ c main_arg2 (by decide),
    show Out.argG (V1 m ρ) c = aG m c from W1_args m ρ c main_arg3 (by decide),
    show Out.argNw (V1 m ρ) c = aNw m c from W1_args m ρ c main_arg4 (by decide),
    show Out.argSc (V1 m ρ) c = aSc m c from W1_args m ρ c main_arg5 (by decide),
    show Out.argSh (V1 m ρ) c = aSh m c from W1_args m ρ c main_arg6 (by decide)]

/-- The rounded first weights are the first weights. -/
theorem V3_w : V3 m ρ c main_v2 = (aW1 m c : S2x2048x8192.Idx → EReal) := by
  refine Eq.trans ?_ (W2_args m ρ c main_arg8 (by decide))
  show StableHlo.after hostOps1 (W2 m ρ c) _ = _
  unfold hostOps1
  after_results
  rfl

/-- The rounded second weights are the second weights. -/
theorem V3_u : V3 m ρ c main_v3 = (aW2 m c : S2x8192x2048.Idx → EReal) := by
  refine Eq.trans ?_ (W2_args m ρ c main_arg9 (by decide))
  show StableHlo.after hostOps1 (W2 m ρ c) _ = _
  unfold hostOps1
  after_results
  rfl

/-! ## The last array -/

/-- The residual plus the gated squared-ReLU MLP of the activations. -/
def mlp (x h : S16384x2048.Idx → EReal) (g : S1x2048.Idx → EReal) (w : S2x2048x8192.Idx → EReal)
    (u : S2x8192x2048.Idx → EReal) : S16384x2048.Idx → EReal := fun i =>
  x (ix2 (i 0) (i 1)) + g (ix2 0 (i 1)) *
    ∑ f : Fin 8192, Mlp.sq (∑ e : Fin 2048, h (ix2 (i 0) e) * w (ix3 1 e f)) * u (ix3 1 f (i 1))

/-- The output projection, the modulated norm and the MLP, as one function of the arguments. -/
abbrev result : S16384x2048.Idx → EReal :=
  mlp (Out.newX (aY m c) (aW m c) (aX m c) (aG m c))
    (Out.newH (aY m c) (aW m c) (aX m c) (aG m c) (aNw m c) (aSc m c) (aSh m c)) (aG2 m c) (aW1 m c) (aW2 m c)

theorem W4_result : W4 m ρ c (Proc.devRef .tc main_v4) = result m c := by
  refine (W4_arr m ρ c 5).trans ((Mlp.final5 (V3 m ρ) c).trans (funext fun i => ?_))
  obtain ⟨r, d, rfl⟩ : ∃ (r : Fin 16384) (d : Fin 2048), i = ix2 r d := ⟨i 0, i 1, eq_ix2 i⟩
  rw [Mlp.G5_apply]
  unfold Mlp.part
  rw [show Mlp.argX (V3 m ρ) c = Out.newX (aY m c) (aW m c) (aX m c) (aG m c) from V3_x m ρ c,
    show Mlp.argH (V3 m ρ) c = Out.newH (aY m c) (aW m c) (aX m c) (aG m c) (aNw m c) (aSc m c) (aSh m c) from V3_h m ρ c,
    show Mlp.argG (V3 m ρ) c = aG2 m c from W3_args m ρ c main_arg7 (by decide),
    show Mlp.argW (V3 m ρ) c = aW1 m c from V3_w m ρ c, show Mlp.argU (V3 m ρ) c = aW2 m c from V3_u m ρ c]
  rfl

/-! ## The reference -/

open Cert.TailRefIdeal.Read in
theorem ref_x (y : S16384x4096.Idx → EReal) (w : S4096x2048.Idx → EReal) (x : S16384x2048.Idx → EReal)
    (g : S1x2048.Idx → EReal) : val_main_v4 (F := Ideal) y w x g = Out.newX y w x g := by
  funext i
  obtain ⟨r, d, rfl⟩ : ∃ (r : Fin 16384) (d : Fin 2048), i = ix2 r d := ⟨i 0, i 1, eq_ix2 i⟩
  show _ = x (ix2 r d) + g (ix2 0 d) * ∑ k : Fin 4096, y (ix2 r k) * w (ix2 k d)
  pointwise [val_main_v4, val_main_v3, val_main_v2, val_main_v1, val_main_v0]

open Cert.TailRefIdeal.Read in
theorem ref_h (y : S16384x4096.Idx → EReal) (w : S4096x2048.Idx → EReal) (x : S16384x2048.Idx → EReal)
    (g nw sc sh : S1x2048.Idx → EReal) : val_main_v22 (F := Ideal) y w x g nw sc sh = Out.newH y w x g nw sc sh := by
  funext i
  obtain ⟨r, d, rfl⟩ : ∃ (r : Fin 16384) (d : Fin 2048), i = ix2 r d := ⟨i 0, i 1, eq_ix2 i⟩
  show _ = Cert.Proj.normMod (fun e => Out.newX y w x g (ix2 r e)) (fun e => nw (ix2 0 e)) (fun e => sc (ix2 0 e))
    (fun e => sh (ix2 0 e)) d
  unfold val_main_v22 val_main_v21 val_main_v20 val_main_v19 val_main_v18 val_main_v17 val_main_v16
    val_main_v15 val_main_v14 val_main_v13 val_main_v12 val_main_v11 val_main_v10 val_main_v9 val_main_v8 val_main_v7
    val_main_v6 val_main_v5
  rw [ref_x]
  generalize Out.newX y w x g = o
  pointwise [val_main_cst_2, val_main_cst_1, val_main_cst_0, val_main_cst, Cert.Proj.normMod]

open Cert.TailRefIdeal.Read in
theorem ref_result (y : S16384x4096.Idx → EReal) (w : S4096x2048.Idx → EReal) (x : S16384x2048.Idx → EReal)
    (g nw sc sh g2 : S1x2048.Idx → EReal) (w1 : S2x2048x8192.Idx → EReal) (w2 : S2x8192x2048.Idx → EReal) :
    val_main_v33 (F := Ideal) y w x g nw sc sh g2 w1 w2 = mlp (Out.newX y w x g) (Out.newH y w x g nw sc sh) g2 w1 w2 := by
  funext i
  obtain ⟨r, d, rfl⟩ : ∃ (r : Fin 16384) (d : Fin 2048), i = ix2 r d := ⟨i 0, i 1, eq_ix2 i⟩
  show _ = Out.newX y w x g (ix2 r d) + g2 (ix2 0 d) *
    ∑ f : Fin 8192, Mlp.sq (∑ e : Fin 2048, Out.newH y w x g nw sc sh (ix2 r e) * w1 (ix3 1 e f)) * w2 (ix3 1 f d)
  unfold val_main_v33 val_main_v32 val_main_v30 val_main_v27 val_main_v26 val_main_v25
  rw [ref_x, ref_h]
  generalize Out.newX y w x g = x'
  generalize Out.newH y w x g nw sc sh = h'
  pointwise [val_main_v31, val_main_v29, val_main_v28, val_main_call0_v0, val_main_call0_cst, val_main_v24, val_main_v23]
  rfl

/-! ## The claims -/

theorem frame_words : quiescent_Tail (hTail := Cert.Tail.Gen.facts) := fun m g _ => Cert.Tail.Gen.frame m g

theorem frame_ideal : quiescent_TailIdeal (hTailIdeal := Cert.TailIdeal.Gen.facts) :=
  fun m g _ => Cert.TailIdeal.Gen.frame m g

/-- The reference keeps its arguments; it has no counter to move. -/
theorem frame_ref : quiescent_TailRefIdeal (hTailRefIdeal := Cert.TailRefIdeal.Gen.facts) := fun m g _ =>
  (θ_run _ _ _).mono (fun r h => ⟨fun c => (h c).2, sem_eq_zero_of_no_sems (by decide) r.2⟩)
    (Cert.TailRefIdeal.Value.run m g)

theorem algebraic : algebraic_TailIdeal_TailRefIdeal (hTailIdeal := Cert.TailIdeal.Gen.facts)
    (hTailRefIdeal := Cert.TailRefIdeal.Gen.facts) := by
  intro m g m' g' _ hagree
  refine ⟨fun c => result m c, ?_, ?_⟩
  · exact (θ_run _ _ _).mono (fun _ h c => ⟨(h c).1.trans (W4_result m g c), (h c).2⟩) (run m g)
  · refine (θ_run _ _ _).mono (fun _ h c => ⟨(h c).1.trans ?_, (h c).2⟩) (Cert.TailRefIdeal.Value.run m' g')
    obtain ⟨h0, h1, h2, h3, h4, h5, h6, h7, h8, h9⟩ := hagree c
    rw [Cert.TailRefIdeal.Read.val_main_v33_eq, h0, h1, h2, h3, h4, h5, h6, h7, h8, h9]
    exact ref_result _ _ _ _ _ _ _ _ _ _

end Cert.Tails

end
-- ==== Proof.lean ====
/-
  The certificate: the frames of the calls and of their references, and what they compute.
-/
module

public import proofs.«01_k».proof.Defs
public import proofs.«01_k».proof.Proof.Att.Claims
public import proofs.«01_k».proof.Proof.Mlp.Claims
public import proofs.«01_k».proof.Proof.Proj.In
public import proofs.«01_k».proof.Proof.Proj.SsdIn
public import proofs.«01_k».proof.Proof.Proj.Out
public import proofs.«01_k».proof.Proof.Proj.SsdOut
public import proofs.«01_k».proof.Proof.Proj.Mod
public import proofs.«01_k».proof.Proof.Tail.Chain

@[expose] public section

noncomputable section

namespace Cert.Proof

theorem claim : Cert.Claim :=
  ⟨Cert.Kernel.Gen.facts, Cert.KernelIdeal.Gen.facts, Cert.ReferenceIdeal.Gen.facts, Cert.Mlp.Gen.facts,
    Cert.MlpIdeal.Gen.facts, Cert.MlpRefIdeal.Gen.facts, Cert.In.Gen.facts, Cert.InIdeal.Gen.facts, Cert.InRefIdeal.Gen.facts,
    Cert.SsdIn.Gen.facts, Cert.SsdInIdeal.Gen.facts, Cert.SsdInRefIdeal.Gen.facts, Cert.Out.Gen.facts,
    Cert.OutIdeal.Gen.facts, Cert.OutRefIdeal.Gen.facts, Cert.SsdOut.Gen.facts, Cert.SsdOutIdeal.Gen.facts,
    Cert.SsdOutRefIdeal.Gen.facts, Cert.Mod.Gen.facts, Cert.ModIdeal.Gen.facts, Cert.ModRefIdeal.Gen.facts,
    Cert.Tail.Gen.facts, Cert.TailIdeal.Gen.facts, Cert.TailRefIdeal.Gen.facts, Cert.Pre_finite_weights.Gen.facts, Cert.Pre_finite_gates.Gen.facts,
    Cert.Pre_finite_steps.Gen.facts,
    Cert.Att.frame_words _, Cert.Att.frame_ideal, Cert.Att.frame_ideal_finite, Cert.Att.frame_ref, Cert.Att.frame_ref_finite,
    Cert.Mlps.frame_words, Cert.Mlps.frame_ideal, Cert.Mlps.frame_ref,
    Cert.Proj.In.frame_words, Cert.Proj.In.frame_ideal, Cert.Proj.In.frame_ideal_finite, Cert.Proj.In.frame_ref,
    Cert.Proj.In.frame_ref_finite,
    Cert.Proj.SsdIn.frame_words, Cert.Proj.SsdIn.frame_ideal, Cert.Proj.SsdIn.frame_ideal_finite, Cert.Proj.SsdIn.frame_ref,
    Cert.Proj.SsdIn.frame_ref_finite,
    Cert.Proj.Out.frame_words, Cert.Proj.Out.frame_ideal, Cert.Proj.Out.frame_ref,
    Cert.Proj.SsdOut.frame_words, Cert.Proj.SsdOut.frame_ideal, Cert.Proj.SsdOut.frame_ref,
    Cert.Proj.Mod.frame_words, Cert.Proj.Mod.frame_ideal, Cert.Proj.Mod.frame_ref,
    Cert.Tails.frame_words, Cert.Tails.frame_ideal, Cert.Tails.frame_ref,
    Cert.Att.preserves, Cert.Att.algebraic, trivial, Cert.Mlps.algebraic, trivial, Cert.Proj.In.algebraic,
    trivial, Cert.Proj.SsdIn.algebraic, trivial, Cert.Proj.Out.algebraic, trivial, Cert.Proj.SsdOut.algebraic,
    trivial, Cert.Proj.Mod.algebraic, trivial, Cert.Tails.algebraic⟩

end Cert.Proof

end
